-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_KernelIdeal [hPre_tame_KernelIdeal : Cert.Pre_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_ReferenceIdeal [hPre_tame_ReferenceIdeal : Cert.Pre_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tame_KernelIdeal [hKernelIdeal : Cert.KernelIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tame_ReferenceIdeal [hReferenceIdeal : Cert.ReferenceIdeal.Facts] [hPre_tame_ReferenceIdeal : Cert.Pre_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_tame_KernelIdeal [hKernelIdeal : Cert.KernelIdeal.Facts] [hReferenceIdeal : Cert.ReferenceIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨3, ![8192, 16, 128]⟩ ⟨3, ![16384, 16, 128]⟩ (Layout.meshBlock [2, 4, 4] ![[0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![8192, 16, 128]⟩ ⟨3, ![16384, 16, 128]⟩ (Layout.meshBlock [2, 4, 4] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tame_KernelIdeal : Cert.Pre_tame_KernelIdeal.Facts) (hPre_tame_ReferenceIdeal : Cert.Pre_tame_ReferenceIdeal.Facts),
    quiescent_Kernel (hKernel := hKernel)
    ∧ quiescent_KernelIdeal (hKernelIdeal := hKernelIdeal)
    ∧ quiescent_KernelIdeal_pre_tame_KernelIdeal (hKernelIdeal := hKernelIdeal) (hPre_tame_KernelIdeal := hPre_tame_KernelIdeal)
    ∧ quiescent_ReferenceIdeal (hReferenceIdeal := hReferenceIdeal)
    ∧ quiescent_ReferenceIdeal_pre_tame_ReferenceIdeal (hReferenceIdeal := hReferenceIdeal) (hPre_tame_ReferenceIdeal := hPre_tame_ReferenceIdeal)
    ∧ preserves_Kernel_KernelIdeal
    ∧ algebraic_KernelIdeal_ReferenceIdeal_pre_tame_KernelIdeal (hKernelIdeal := hKernelIdeal) (hReferenceIdeal := hReferenceIdeal) (hPre_tame_KernelIdeal := hPre_tame_KernelIdeal)
-- ==== Pre_tame_KernelIdeal.lean ====
abbrev S32x16x128 : Shape := ⟨3, ![32, 16, 128]⟩
abbrev S8192x16x128 : Shape := ⟨3, ![8192, 16, 128]⟩
abbrev S32x256 : Shape := ⟨2, ![32, 256]⟩
abbrev S32x1 : Shape := ⟨2, ![32, 1]⟩
abbrev S_ : Shape := ⟨0, ![]⟩

class Facts : Prop where
  bcast_S_S32x16x128 : S_.BroadcastsInDim S32x16x128 (![] : Fin 0 → Fin S32x16x128.rank)
  reducesTo_S32x16x128_S_d0_1_2 : S32x16x128.ReducesTo [0, 1, 2] S_
  h_S_ : 0 < S_.numel
  bcast_S_S8192x16x128 : S_.BroadcastsInDim S8192x16x128 (![] : Fin 0 → Fin S8192x16x128.rank)
  reducesTo_S8192x16x128_S_d0_1_2 : S8192x16x128.ReducesTo [0, 1, 2] S_
  bcast_S_S32x256 : S_.BroadcastsInDim S32x256 (![] : Fin 0 → Fin S32x256.rank)
  reducesTo_S32x256_S_d0_1 : S32x256.ReducesTo [0, 1] S_
  bcast_S_S32x1 : S_.BroadcastsInDim S32x1 (![] : Fin 0 → Fin S32x1.rank)
  reducesTo_S32x1_S_d0_1 : S32x1.ReducesTo [0, 1] S_

variable [Facts]

def fn_part1 {F : FTy → Type} [FloatOps F] (main_arg4 : IVec S32x1 32) (main_v15 : IVec S_ 1) (main_c_5 : IVec S_ 32) : IVec S_ 1 :=
  let main_v16 : IVec S32x1 32 := broadcastInDim S32x1 ![] bcast_S_S32x1 main_c_5
  let main_v17 : IVec S32x1 1 := cmpi .sge main_arg4 main_v16
  let main_c_6 : IVec S_ 1 := constantI S_ 1 1#1
  let main_v18 : IVec S_ 1 := (fun x v => Host.reduce IntOp.andi x v reducesTo_S32x1_S_d0_1 h_S_) main_v17 main_c_6
  let main_v19 : IVec S_ 1 := andi main_v15 main_v18
  main_v19

def fn {F : FTy → Type} [FloatOps F] (main_arg0 : FVec F S32x16x128 .f32) (main_arg1 : FVec F S8192x16x128 .f32) (main_arg2 : FVec F S8192x16x128 .f32) (main_arg3 : IVec S32x256 32) (main_arg4 : IVec S32x1 32) : IVec S_ 1 :=
  let main_v0 : FVec F S32x16x128 .f32 := Host.absf main_arg0
  let main_cst : FVec F S_ .f32 := constant S_ .f32 0x7F800000#32
  let main_v1 : FVec F S32x16x128 .f32 := broadcastInDim S32x16x128 ![] bcast_S_S32x16x128 main_cst
  let main_v2 : IVec S32x16x128 1 := cmpf .olt main_v0 main_v1
  let main_c : IVec S_ 1 := constantI S_ 1 1#1
  let main_v3 : IVec S_ 1 := (fun x v => Host.reduce IntOp.andi x v reducesTo_S32x16x128_S_d0_1_2 h_S_) main_v2 main_c
  let main_v4 : FVec F S8192x16x128 .f32 := Host.absf main_arg1
  let main_cst_0 : FVec F S_ .f32 := constant S_ .f32 0x7F800000#32
  let main_v5 : FVec F S8192x16x128 .f32 := broadcastInDim S8192x16x128 ![] bcast_S_S8192x16x128 main_cst_0
  let main_v6 : IVec S8192x16x128 1 := cmpf .olt main_v4 main_v5
  let main_c_1 : IVec S_ 1 := constantI S_ 1 1#1
  let main_v7 : IVec S_ 1 := (fun x v => Host.reduce IntOp.andi x v reducesTo_S8192x16x128_S_d0_1_2 h_S_) main_v6 main_c_1
  let main_v8 : IVec S_ 1 := andi main_v3 main_v7
  let main_c_2 : IVec S_ 32 := constantI S_ 32 0#32
  let main_v9 : IVec S32x256 32 := broadcastInDim S32x256 ![] bcast_S_S32x256 main_c_2
  let main_v10 : IVec S32x256 1 := cmpi .sge main_arg3 main_v9
  let main_c_3 : IVec S_ 32 := constantI S_ 32 512#32
  let main_v11 : IVec S32x256 32 := broadcastInDim S32x256 ![] bcast_S_S32x256 main_c_3
  let main_v12 : IVec S32x256 1 := cmpi .slt main_arg3 main_v11
  let main_v13 : IVec S32x256 1 := andi main_v10 main_v12
  let main_c_4 : IVec S_ 1 := constantI S_ 1 1#1
  let main_v14 : IVec S_ 1 := (fun x v => Host.reduce IntOp.andi x v reducesTo_S32x256_S_d0_1 h_S_) main_v13 main_c_4
  let main_v15 : IVec S_ 1 := andi main_v8 main_v14
  let main_c_5 : IVec S_ 32 := constantI S_ 32 1#32
  fn_part1 (F := F) main_arg4 main_v15 main_c_5
-- ==== Pre_tame_ReferenceIdeal.lean ====
abbrev S32x16x128 : Shape := ⟨3, ![32, 16, 128]⟩
abbrev S16384x16x128 : Shape := ⟨3, ![16384, 16, 128]⟩
abbrev S32x256 : Shape := ⟨2, ![32, 256]⟩
abbrev S32x1 : Shape := ⟨2, ![32, 1]⟩
abbrev S_ : Shape := ⟨0, ![]⟩

class Facts : Prop where
  bcast_S_S32x16x128 : S_.BroadcastsInDim S32x16x128 (![] : Fin 0 → Fin S32x16x128.rank)
  reducesTo_S32x16x128_S_d0_1_2 : S32x16x128.ReducesTo [0, 1, 2] S_
  h_S_ : 0 < S_.numel
  bcast_S_S16384x16x128 : S_.BroadcastsInDim S16384x16x128 (![] : Fin 0 → Fin S16384x16x128.rank)
  reducesTo_S16384x16x128_S_d0_1_2 : S16384x16x128.ReducesTo [0, 1, 2] S_
  bcast_S_S32x256 : S_.BroadcastsInDim S32x256 (![] : Fin 0 → Fin S32x256.rank)
  reducesTo_S32x256_S_d0_1 : S32x256.ReducesTo [0, 1] S_
  bcast_S_S32x1 : S_.BroadcastsInDim S32x1 (![] : Fin 0 → Fin S32x1.rank)
  reducesTo_S32x1_S_d0_1 : S32x1.ReducesTo [0, 1] S_

variable [Facts]

def fn_part1 {F : FTy → Type} [FloatOps F] (main_arg4 : IVec S32x1 32) (main_v15 : IVec S_ 1) (main_c_5 : IVec S_ 32) : IVec S_ 1 :=
  let main_v16 : IVec S32x1 32 := broadcastInDim S32x1 ![] bcast_S_S32x1 main_c_5
  let main_v17 : IVec S32x1 1 := cmpi .sge main_arg4 main_v16
  let main_c_6 : IVec S_ 1 := constantI S_ 1 1#1
  let main_v18 : IVec S_ 1 := (fun x v => Host.reduce IntOp.andi x v reducesTo_S32x1_S_d0_1 h_S_) main_v17 main_c_6
  let main_v19 : IVec S_ 1 := andi main_v15 main_v18
  main_v19

def fn {F : FTy → Type} [FloatOps F] (main_arg0 : FVec F S32x16x128 .f32) (main_arg1 : FVec F S16384x16x128 .f32) (main_arg2 : FVec F S16384x16x128 .f32) (main_arg3 : IVec S32x256 32) (main_arg4 : IVec S32x1 32) : IVec S_ 1 :=
  let main_v0 : FVec F S32x16x128 .f32 := Host.absf main_arg0
  let main_cst : FVec F S_ .f32 := constant S_ .f32 0x7F800000#32
  let main_v1 : FVec F S32x16x128 .f32 := broadcastInDim S32x16x128 ![] bcast_S_S32x16x128 main_cst
  let main_v2 : IVec S32x16x128 1 := cmpf .olt main_v0 main_v1
  let main_c : IVec S_ 1 := constantI S_ 1 1#1
  let main_v3 : IVec S_ 1 := (fun x v => Host.reduce IntOp.andi x v reducesTo_S32x16x128_S_d0_1_2 h_S_) main_v2 main_c
  let main_v4 : FVec F S16384x16x128 .f32 := Host.absf main_arg1
  let main_cst_0 : FVec F S_ .f32 := constant S_ .f32 0x7F800000#32
  let main_v5 : FVec F S16384x16x128 .f32 := broadcastInDim S16384x16x128 ![] bcast_S_S16384x16x128 main_cst_0
  let main_v6 : IVec S16384x16x128 1 := cmpf .olt main_v4 main_v5
  let main_c_1 : IVec S_ 1 := constantI S_ 1 1#1
  let main_v7 : IVec S_ 1 := (fun x v => Host.reduce IntOp.andi x v reducesTo_S16384x16x128_S_d0_1_2 h_S_) main_v6 main_c_1
  let main_v8 : IVec S_ 1 := andi main_v3 main_v7
  let main_c_2 : IVec S_ 32 := constantI S_ 32 0#32
  let main_v9 : IVec S32x256 32 := broadcastInDim S32x256 ![] bcast_S_S32x256 main_c_2
  let main_v10 : IVec S32x256 1 := cmpi .sge main_arg3 main_v9
  let main_c_3 : IVec S_ 32 := constantI S_ 32 512#32
  let main_v11 : IVec S32x256 32 := broadcastInDim S32x256 ![] bcast_S_S32x256 main_c_3
  let main_v12 : IVec S32x256 1 := cmpi .slt main_arg3 main_v11
  let main_v13 : IVec S32x256 1 := andi main_v10 main_v12
  let main_c_4 : IVec S_ 1 := constantI S_ 1 1#1
  let main_v14 : IVec S_ 1 := (fun x v => Host.reduce IntOp.andi x v reducesTo_S32x256_S_d0_1 h_S_) main_v13 main_c_4
  let main_v15 : IVec S_ 1 := andi main_v8 main_v14
  let main_c_5 : IVec S_ 32 := constantI S_ 32 1#32
  fn_part1 (F := F) main_arg4 main_v15 main_c_5
-- ==== Kernel.lean ====
abbrev S32x16x128 : Shape := ⟨3, ![32, 16, 128]⟩
abbrev S8192x16x128 : Shape := ⟨3, ![8192, 16, 128]⟩
abbrev S32x256 : Shape := ⟨2, ![32, 256]⟩
abbrev S32x1 : Shape := ⟨2, ![32, 1]⟩
abbrev S32x1x16x128 : Shape := ⟨4, ![32, 1, 16, 128]⟩
abbrev S16x32x128 : Shape := ⟨3, ![16, 32, 128]⟩
abbrev S32x8192 : Shape := ⟨2, ![32, 8192]⟩
abbrev S2x4096x128 : Shape := ⟨3, ![2, 4096, 128]⟩
abbrev S2 : Shape := ⟨1, ![2]⟩
abbrev S_ : Shape := ⟨0, ![]⟩
abbrev S16 : Shape := ⟨1, ![16]⟩
abbrev S1 : Shape := ⟨1, ![1]⟩
abbrev S1x4096x128 : Shape := ⟨3, ![1, 4096, 128]⟩
abbrev S4096x128 : Shape := ⟨2, ![4096, 128]⟩
abbrev S4096x1x128 : Shape := ⟨3, ![4096, 1, 128]⟩
abbrev S32x256x256 : Shape := ⟨3, ![32, 256, 256]⟩
abbrev S32x256x1 : Shape := ⟨3, ![32, 256, 1]⟩
abbrev S32x1x1 : Shape := ⟨3, ![32, 1, 1]⟩
abbrev S256x8192 : Shape := ⟨2, ![256, 8192]⟩
abbrev S1x32x128 : Shape := ⟨3, ![1, 32, 128]⟩
abbrev S32x128 : Shape := ⟨2, ![32, 128]⟩
abbrev S32x4096 : Shape := ⟨2, ![32, 4096]⟩
abbrev S32 : Shape := ⟨1, ![32]⟩
abbrev S32x1x1x128 : Shape := ⟨4, ![32, 1, 1, 128]⟩

abbrev nBuf : Space → Nat
  | .hbm => 6
  | .vmem => 11
  | .smem => 0
  | _ => 0

abbrev bufTy : (tb : Table) → Fin (tcTables nBuf tb) → BufTy
  | .hbm, ⟨0, _⟩ => ⟨S32x16x128, .f32⟩
  | .hbm, ⟨1, _⟩ => ⟨S8192x16x128, .f32⟩
  | .hbm, ⟨2, _⟩ => ⟨S8192x16x128, .f32⟩
  | .hbm, ⟨3, _⟩ => ⟨S32x256, .i32⟩
  | .hbm, ⟨4, _⟩ => ⟨S32x1, .i32⟩
  | .hbm, ⟨5, _⟩ => ⟨S32x1x16x128, .f32⟩
  | .local _ .vmem, ⟨0, _⟩ => ⟨S32x16x128, .f32⟩
  | .local _ .vmem, ⟨1, _⟩ => ⟨S32x256, .i32⟩
  | .local _ .vmem, ⟨2, _⟩ => ⟨S32x1, .i32⟩
  | .local _ .vmem, ⟨3, _⟩ => ⟨S32x1x16x128, .f32⟩
  | .local _ .vmem, ⟨4, _⟩ => ⟨S16x32x128, .bf16⟩
  | .local _ .vmem, ⟨5, _⟩ => ⟨S32x8192, .f32⟩
  | .local _ .vmem, ⟨6, _⟩ => ⟨S2x4096x128, .f32⟩
  | .local _ .vmem, ⟨7, _⟩ => ⟨S2x4096x128, .f32⟩
  | .local _ .vmem, ⟨8, _⟩ => ⟨S32x256, .f32⟩
  | .local _ .vmem, ⟨9, _⟩ => ⟨S32x256, .f32⟩
  | .local _ .vmem, ⟨10, _⟩ => ⟨S16x32x128, .bf16⟩
  | _, _ => ⟨S32x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => true
  | ⟨1, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 2 42 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 1

abbrev nD : Nat := 32
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_4 : BitVec 32 := 0#32
  let v15 : BitVec 1 := Scalar.cmpi .ne v14 c0_i32_4
  v15

def k0_off1 (d0 : Dev nD) : Fin 3 → Nat :=
  let c0_i32_42 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_43 : BitVec 32 := 0#32
  ![0, v10.toNat, 0]
def k0_off2 (d0 : Dev nD) : Fin 3 → Nat :=
  let c4096_i32_54 : BitVec 32 := 4096#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_55 : BitVec 32 := 0#32
  ![4096, v10.toNat, 0]
def k0_dev1 (d0 : Dev nD) : Nat :=
  let c0_i32_64 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_63 : BitVec 32 := 16#32
  let v107 : BitVec 32 := Scalar.muli v11 c16_i32_63
  let v108 : BitVec 32 := Scalar.addi c0_i32_64 v107
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_65 : BitVec 32 := 4#32
  let v109 : BitVec 32 := Scalar.muli v5 c4_i32_65
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v111 : BitVec 32 := Scalar.muli v8 c1_i32_66
  let v112 : BitVec 32 := Scalar.addi v110 v111
  v112.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_67 : BitVec 32 := 0#32
  let v113 : BitVec 1 := Scalar.cmpi .ne v10 c0_i32_67
  let v114 : BitVec 32 := Scalar.extui v113
  let c0_i32_68 : BitVec 32 := 0#32
  let v115 : BitVec 1 := Scalar.cmpi .ne v114 c0_i32_68
  v115

def k0_dev2 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v240 : BitVec 32 := Scalar.muli v2 c16_i32_125
  let v241 : BitVec 32 := Scalar.addi c0_i32_126 v240
  let c0_i32_123 : BitVec 32 := 0#32
  let c4_i32_127 : BitVec 32 := 4#32
  let v242 : BitVec 32 := Scalar.muli c0_i32_123 c4_i32_127
  let v243 : BitVec 32 := Scalar.addi v241 v242
  let c0_i32_124 : BitVec 32 := 0#32
  let c1_i32_128 : BitVec 32 := 1#32
  let v244 : BitVec 32 := Scalar.muli c0_i32_124 c1_i32_128
  let v245 : BitVec 32 := Scalar.addi v243 v244
  v245.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_69 : BitVec 32 := 1#32
  let v116 : BitVec 1 := Scalar.cmpi .ne v10 c1_i32_69
  let v117 : BitVec 32 := Scalar.extui v116
  let c0_i32_70 : BitVec 32 := 0#32
  let v118 : BitVec 1 := Scalar.cmpi .ne v117 c0_i32_70
  v118

def k0_dev3 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v240 : BitVec 32 := Scalar.muli v2 c16_i32_125
  let v241 : BitVec 32 := Scalar.addi c0_i32_126 v240
  let c0_i32_123 : BitVec 32 := 0#32
  let c4_i32_127 : BitVec 32 := 4#32
  let v242 : BitVec 32 := Scalar.muli c0_i32_123 c4_i32_127
  let v243 : BitVec 32 := Scalar.addi v241 v242
  let c1_i32_124 : BitVec 32 := 1#32
  let c1_i32_128 : BitVec 32 := 1#32
  let v244 : BitVec 32 := Scalar.muli c1_i32_124 c1_i32_128
  let v245 : BitVec 32 := Scalar.addi v243 v244
  v245.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c2_i32_71 : BitVec 32 := 2#32
  let v119 : BitVec 1 := Scalar.cmpi .ne v10 c2_i32_71
  let v120 : BitVec 32 := Scalar.extui v119
  let c0_i32_72 : BitVec 32 := 0#32
  let v121 : BitVec 1 := Scalar.cmpi .ne v120 c0_i32_72
  v121

def k0_dev4 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v240 : BitVec 32 := Scalar.muli v2 c16_i32_125
  let v241 : BitVec 32 := Scalar.addi c0_i32_126 v240
  let c0_i32_123 : BitVec 32 := 0#32
  let c4_i32_127 : BitVec 32 := 4#32
  let v242 : BitVec 32 := Scalar.muli c0_i32_123 c4_i32_127
  let v243 : BitVec 32 := Scalar.addi v241 v242
  let c2_i32_124 : BitVec 32 := 2#32
  let c1_i32_128 : BitVec 32 := 1#32
  let v244 : BitVec 32 := Scalar.muli c2_i32_124 c1_i32_128
  let v245 : BitVec 32 := Scalar.addi v243 v244
  v245.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c3_i32 : BitVec 32 := 3#32
  let v122 : BitVec 1 := Scalar.cmpi .ne v10 c3_i32
  let v123 : BitVec 32 := Scalar.extui v122
  let c0_i32_73 : BitVec 32 := 0#32
  let v124 : BitVec 1 := Scalar.cmpi .ne v123 c0_i32_73
  v124

def k0_dev5 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v240 : BitVec 32 := Scalar.muli v2 c16_i32_125
  let v241 : BitVec 32 := Scalar.addi c0_i32_126 v240
  let c0_i32_123 : BitVec 32 := 0#32
  let c4_i32_127 : BitVec 32 := 4#32
  let v242 : BitVec 32 := Scalar.muli c0_i32_123 c4_i32_127
  let v243 : BitVec 32 := Scalar.addi v241 v242
  let c3_i32_124 : BitVec 32 := 3#32
  let c1_i32_128 : BitVec 32 := 1#32
  let v244 : BitVec 32 := Scalar.muli c3_i32_124 c1_i32_128
  let v245 : BitVec 32 := Scalar.addi v243 v244
  v245.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c4_i32_74 : BitVec 32 := 4#32
  let v125 : BitVec 1 := Scalar.cmpi .ne v10 c4_i32_74
  let v126 : BitVec 32 := Scalar.extui v125
  let c0_i32_75 : BitVec 32 := 0#32
  let v127 : BitVec 1 := Scalar.cmpi .ne v126 c0_i32_75
  v127

def k0_dev6 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v240 : BitVec 32 := Scalar.muli v2 c16_i32_125
  let v241 : BitVec 32 := Scalar.addi c0_i32_126 v240
  let c1_i32_123 : BitVec 32 := 1#32
  let c4_i32_127 : BitVec 32 := 4#32
  let v242 : BitVec 32 := Scalar.muli c1_i32_123 c4_i32_127
  let v243 : BitVec 32 := Scalar.addi v241 v242
  let c0_i32_124 : BitVec 32 := 0#32
  let c1_i32_128 : BitVec 32 := 1#32
  let v244 : BitVec 32 := Scalar.muli c0_i32_124 c1_i32_128
  let v245 : BitVec 32 := Scalar.addi v243 v244
  v245.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c5_i32 : BitVec 32 := 5#32
  let v128 : BitVec 1 := Scalar.cmpi .ne v10 c5_i32
  let v129 : BitVec 32 := Scalar.extui v128
  let c0_i32_76 : BitVec 32 := 0#32
  let v130 : BitVec 1 := Scalar.cmpi .ne v129 c0_i32_76
  v130

def k0_dev7 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v240 : BitVec 32 := Scalar.muli v2 c16_i32_125
  let v241 : BitVec 32 := Scalar.addi c0_i32_126 v240
  let c1_i32_123 : BitVec 32 := 1#32
  let c4_i32_127 : BitVec 32 := 4#32
  let v242 : BitVec 32 := Scalar.muli c1_i32_123 c4_i32_127
  let v243 : BitVec 32 := Scalar.addi v241 v242
  let c1_i32_124 : BitVec 32 := 1#32
  let c1_i32_128 : BitVec 32 := 1#32
  let v244 : BitVec 32 := Scalar.muli c1_i32_124 c1_i32_128
  let v245 : BitVec 32 := Scalar.addi v243 v244
  v245.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c6_i32 : BitVec 32 := 6#32
  let v131 : BitVec 1 := Scalar.cmpi .ne v10 c6_i32
  let v132 : BitVec 32 := Scalar.extui v131
  let c0_i32_77 : BitVec 32 := 0#32
  let v133 : BitVec 1 := Scalar.cmpi .ne v132 c0_i32_77
  v133

def k0_dev8 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v240 : BitVec 32 := Scalar.muli v2 c16_i32_125
  let v241 : BitVec 32 := Scalar.addi c0_i32_126 v240
  let c1_i32_123 : BitVec 32 := 1#32
  let c4_i32_127 : BitVec 32 := 4#32
  let v242 : BitVec 32 := Scalar.muli c1_i32_123 c4_i32_127
  let v243 : BitVec 32 := Scalar.addi v241 v242
  let c2_i32_124 : BitVec 32 := 2#32
  let c1_i32_128 : BitVec 32 := 1#32
  let v244 : BitVec 32 := Scalar.muli c2_i32_124 c1_i32_128
  let v245 : BitVec 32 := Scalar.addi v243 v244
  v245.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c7_i32 : BitVec 32 := 7#32
  let v134 : BitVec 1 := Scalar.cmpi .ne v10 c7_i32
  let v135 : BitVec 32 := Scalar.extui v134
  let c0_i32_78 : BitVec 32 := 0#32
  let v136 : BitVec 1 := Scalar.cmpi .ne v135 c0_i32_78
  v136

def k0_dev9 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v240 : BitVec 32 := Scalar.muli v2 c16_i32_125
  let v241 : BitVec 32 := Scalar.addi c0_i32_126 v240
  let c1_i32_123 : BitVec 32 := 1#32
  let c4_i32_127 : BitVec 32 := 4#32
  let v242 : BitVec 32 := Scalar.muli c1_i32_123 c4_i32_127
  let v243 : BitVec 32 := Scalar.addi v241 v242
  let c3_i32_124 : BitVec 32 := 3#32
  let c1_i32_128 : BitVec 32 := 1#32
  let v244 : BitVec 32 := Scalar.muli c3_i32_124 c1_i32_128
  let v245 : BitVec 32 := Scalar.addi v243 v244
  v245.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c8_i32 : BitVec 32 := 8#32
  let v137 : BitVec 1 := Scalar.cmpi .ne v10 c8_i32
  let v138 : BitVec 32 := Scalar.extui v137
  let c0_i32_79 : BitVec 32 := 0#32
  let v139 : BitVec 1 := Scalar.cmpi .ne v138 c0_i32_79
  v139

def k0_dev10 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v240 : BitVec 32 := Scalar.muli v2 c16_i32_125
  let v241 : BitVec 32 := Scalar.addi c0_i32_126 v240
  let c2_i32_123 : BitVec 32 := 2#32
  let c4_i32_127 : BitVec 32 := 4#32
  let v242 : BitVec 32 := Scalar.muli c2_i32_123 c4_i32_127
  let v243 : BitVec 32 := Scalar.addi v241 v242
  let c0_i32_124 : BitVec 32 := 0#32
  let c1_i32_128 : BitVec 32 := 1#32
  let v244 : BitVec 32 := Scalar.muli c0_i32_124 c1_i32_128
  let v245 : BitVec 32 := Scalar.addi v243 v244
  v245.toNat
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c9_i32 : BitVec 32 := 9#32
  let v140 : BitVec 1 := Scalar.cmpi .ne v10 c9_i32
  let v141 : BitVec 32 := Scalar.extui v140
  let c0_i32_80 : BitVec 32 := 0#32
  let v142 : BitVec 1 := Scalar.cmpi .ne v141 c0_i32_80
  v142

def k0_dev11 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v240 : BitVec 32 := Scalar.muli v2 c16_i32_125
  let v241 : BitVec 32 := Scalar.addi c0_i32_126 v240
  let c2_i32_123 : BitVec 32 := 2#32
  let c4_i32_127 : BitVec 32 := 4#32
  let v242 : BitVec 32 := Scalar.muli c2_i32_123 c4_i32_127
  let v243 : BitVec 32 := Scalar.addi v241 v242
  let c1_i32_124 : BitVec 32 := 1#32
  let c1_i32_128 : BitVec 32 := 1#32
  let v244 : BitVec 32 := Scalar.muli c1_i32_124 c1_i32_128
  let v245 : BitVec 32 := Scalar.addi v243 v244
  v245.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c10_i32 : BitVec 32 := 10#32
  let v143 : BitVec 1 := Scalar.cmpi .ne v10 c10_i32
  let v144 : BitVec 32 := Scalar.extui v143
  let c0_i32_81 : BitVec 32 := 0#32
  let v145 : BitVec 1 := Scalar.cmpi .ne v144 c0_i32_81
  v145

def k0_dev12 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v240 : BitVec 32 := Scalar.muli v2 c16_i32_125
  let v241 : BitVec 32 := Scalar.addi c0_i32_126 v240
  let c2_i32_123 : BitVec 32 := 2#32
  let c4_i32_127 : BitVec 32 := 4#32
  let v242 : BitVec 32 := Scalar.muli c2_i32_123 c4_i32_127
  let v243 : BitVec 32 := Scalar.addi v241 v242
  let c2_i32_124 : BitVec 32 := 2#32
  let c1_i32_128 : BitVec 32 := 1#32
  let v244 : BitVec 32 := Scalar.muli c2_i32_124 c1_i32_128
  let v245 : BitVec 32 := Scalar.addi v243 v244
  v245.toNat
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c11_i32 : BitVec 32 := 11#32
  let v146 : BitVec 1 := Scalar.cmpi .ne v10 c11_i32
  let v147 : BitVec 32 := Scalar.extui v146
  let c0_i32_82 : BitVec 32 := 0#32
  let v148 : BitVec 1 := Scalar.cmpi .ne v147 c0_i32_82
  v148

def k0_dev13 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v240 : BitVec 32 := Scalar.muli v2 c16_i32_125
  let v241 : BitVec 32 := Scalar.addi c0_i32_126 v240
  let c2_i32_123 : BitVec 32 := 2#32
  let c4_i32_127 : BitVec 32 := 4#32
  let v242 : BitVec 32 := Scalar.muli c2_i32_123 c4_i32_127
  let v243 : BitVec 32 := Scalar.addi v241 v242
  let c3_i32_124 : BitVec 32 := 3#32
  let c1_i32_128 : BitVec 32 := 1#32
  let v244 : BitVec 32 := Scalar.muli c3_i32_124 c1_i32_128
  let v245 : BitVec 32 := Scalar.addi v243 v244
  v245.toNat
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c12_i32 : BitVec 32 := 12#32
  let v149 : BitVec 1 := Scalar.cmpi .ne v10 c12_i32
  let v150 : BitVec 32 := Scalar.extui v149
  let c0_i32_83 : BitVec 32 := 0#32
  let v151 : BitVec 1 := Scalar.cmpi .ne v150 c0_i32_83
  v151

def k0_dev14 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v240 : BitVec 32 := Scalar.muli v2 c16_i32_125
  let v241 : BitVec 32 := Scalar.addi c0_i32_126 v240
  let c3_i32_123 : BitVec 32 := 3#32
  let c4_i32_127 : BitVec 32 := 4#32
  let v242 : BitVec 32 := Scalar.muli c3_i32_123 c4_i32_127
  let v243 : BitVec 32 := Scalar.addi v241 v242
  let c0_i32_124 : BitVec 32 := 0#32
  let c1_i32_128 : BitVec 32 := 1#32
  let v244 : BitVec 32 := Scalar.muli c0_i32_124 c1_i32_128
  let v245 : BitVec 32 := Scalar.addi v243 v244
  v245.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c13_i32 : BitVec 32 := 13#32
  let v152 : BitVec 1 := Scalar.cmpi .ne v10 c13_i32
  let v153 : BitVec 32 := Scalar.extui v152
  let c0_i32_84 : BitVec 32 := 0#32
  let v154 : BitVec 1 := Scalar.cmpi .ne v153 c0_i32_84
  v154

def k0_dev15 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v240 : BitVec 32 := Scalar.muli v2 c16_i32_125
  let v241 : BitVec 32 := Scalar.addi c0_i32_126 v240
  let c3_i32_123 : BitVec 32 := 3#32
  let c4_i32_127 : BitVec 32 := 4#32
  let v242 : BitVec 32 := Scalar.muli c3_i32_123 c4_i32_127
  let v243 : BitVec 32 := Scalar.addi v241 v242
  let c1_i32_124 : BitVec 32 := 1#32
  let c1_i32_128 : BitVec 32 := 1#32
  let v244 : BitVec 32 := Scalar.muli c1_i32_124 c1_i32_128
  let v245 : BitVec 32 := Scalar.addi v243 v244
  v245.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c14_i32 : BitVec 32 := 14#32
  let v155 : BitVec 1 := Scalar.cmpi .ne v10 c14_i32
  let v156 : BitVec 32 := Scalar.extui v155
  let c0_i32_85 : BitVec 32 := 0#32
  let v157 : BitVec 1 := Scalar.cmpi .ne v156 c0_i32_85
  v157

def k0_dev16 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v240 : BitVec 32 := Scalar.muli v2 c16_i32_125
  let v241 : BitVec 32 := Scalar.addi c0_i32_126 v240
  let c3_i32_123 : BitVec 32 := 3#32
  let c4_i32_127 : BitVec 32 := 4#32
  let v242 : BitVec 32 := Scalar.muli c3_i32_123 c4_i32_127
  let v243 : BitVec 32 := Scalar.addi v241 v242
  let c2_i32_124 : BitVec 32 := 2#32
  let c1_i32_128 : BitVec 32 := 1#32
  let v244 : BitVec 32 := Scalar.muli c2_i32_124 c1_i32_128
  let v245 : BitVec 32 := Scalar.addi v243 v244
  v245.toNat
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32 : BitVec 32 := 15#32
  let v158 : BitVec 1 := Scalar.cmpi .ne v10 c15_i32
  let v159 : BitVec 32 := Scalar.extui v158
  let c0_i32_86 : BitVec 32 := 0#32
  let v160 : BitVec 1 := Scalar.cmpi .ne v159 c0_i32_86
  v160

def k0_dev17 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v240 : BitVec 32 := Scalar.muli v2 c16_i32_125
  let v241 : BitVec 32 := Scalar.addi c0_i32_126 v240
  let c3_i32_123 : BitVec 32 := 3#32
  let c4_i32_127 : BitVec 32 := 4#32
  let v242 : BitVec 32 := Scalar.muli c3_i32_123 c4_i32_127
  let v243 : BitVec 32 := Scalar.addi v241 v242
  let c3_i32_124 : BitVec 32 := 3#32
  let c1_i32_128 : BitVec 32 := 1#32
  let v244 : BitVec 32 := Scalar.muli c3_i32_124 c1_i32_128
  let v245 : BitVec 32 := Scalar.addi v243 v244
  v245.toNat
def k0_off3 (i : grid0.Coords) : Fin 1 → Nat :=
  let arg0 : BitVec 32 := BitVec.ofNat 32 (i 0).val
  let c2_i32_5 : BitVec 32 := 2#32
  let v16 : BitVec 32 := Scalar.remsi arg0 c2_i32_5
  ![v16.toNat]
def k0_off4 (i : grid0.Coords) : Fin 3 → Nat :=
  let arg0 : BitVec 32 := BitVec.ofNat 32 (i 0).val
  let c2_i32_5 : BitVec 32 := 2#32
  let v16 : BitVec 32 := Scalar.remsi arg0 c2_i32_5
  let c0_i32_6 : BitVec 32 := 0#32
  let c0_i32_7 : BitVec 32 := 0#32
  ![v16.toNat, 0, 0]
def k0_off5 (i : grid0.Coords) (d0 : Dev nD) : Fin 3 → Nat :=
  let arg0 : BitVec 32 := BitVec.ofNat 32 (i 0).val
  let c4096_i32 : BitVec 32 := 4096#32
  let v17 : BitVec 32 := Scalar.muli arg0 c4096_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_8 : BitVec 32 := 0#32
  ![v17.toNat, v10.toNat, 0]
def k0_off6 (i : grid0.Coords) : Fin 3 → Nat :=
  let arg0 : BitVec 32 := BitVec.ofNat 32 (i 0).val
  let c2_i32_5 : BitVec 32 := 2#32
  let v16 : BitVec 32 := Scalar.remsi arg0 c2_i32_5
  let v31 : Index := Scalar.indexCast v16
  let c0 : Index := 0#32
  let c0_13 : Index := 0#32
  ![v31.toNat, 0, 0]
def k0_off7 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v39 : Index := Scalar.indexCast v10
  let c0_16 : Index := 0#32
  let c0_17 : Index := 0#32
  ![v39.toNat, 0, 0]
def k0_off8 (i : grid0.Coords) : Fin 2 → Nat :=
  let c0_19 : Index := 0#32
  let arg0 : BitVec 32 := BitVec.ofNat 32 (i 0).val
  let c4096_i32_18 : BitVec 32 := 4096#32
  let v42 : BitVec 32 := Scalar.muli arg0 c4096_i32_18
  let v43 : Index := Scalar.indexCast v42
  ![0, v43.toNat]
def k0_cond18 (i : grid0.Coords) : BitVec 1 :=
  let arg0 : BitVec 32 := BitVec.ofNat 32 (i 0).val
  let c2_i32_33 : BitVec 32 := 2#32
  let v76 : BitVec 32 := Scalar.addi arg0 c2_i32_33
  let c2_i32_34 : BitVec 32 := 2#32
  let v77 : BitVec 1 := Scalar.cmpi .slt v76 c2_i32_34
  let v78 : BitVec 32 := Scalar.extui v77
  let c0_i32_35 : BitVec 32 := 0#32
  let v79 : BitVec 1 := Scalar.cmpi .ne v78 c0_i32_35
  v79

def k0_off9 (i : grid0.Coords) : Fin 1 → Nat :=
  let arg0 : BitVec 32 := BitVec.ofNat 32 (i 0).val
  let c2_i32_5 : BitVec 32 := 2#32
  let v16 : BitVec 32 := Scalar.remsi arg0 c2_i32_5
  ![v16.toNat]
def k0_off10 (i : grid0.Coords) : Fin 3 → Nat :=
  let arg0 : BitVec 32 := BitVec.ofNat 32 (i 0).val
  let c2_i32_5 : BitVec 32 := 2#32
  let v16 : BitVec 32 := Scalar.remsi arg0 c2_i32_5
  let c0_i32_40 : BitVec 32 := 0#32
  let c0_i32_41 : BitVec 32 := 0#32
  ![v16.toNat, 0, 0]
def k0_off11 (i : grid0.Coords) (d0 : Dev nD) : Fin 3 → Nat :=
  let arg0 : BitVec 32 := BitVec.ofNat 32 (i 0).val
  let c2_i32_38 : BitVec 32 := 2#32
  let v83 : BitVec 32 := Scalar.addi arg0 c2_i32_38
  let c4096_i32_39 : BitVec 32 := 4096#32
  let v84 : BitVec 32 := Scalar.muli v83 c4096_i32_39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_42 : BitVec 32 := 0#32
  ![v84.toNat, v10.toNat, 0]
def k0_cond19 (i : grid0.Coords) : BitVec 1 :=
  let arg0 : BitVec 32 := BitVec.ofNat 32 (i 0).val
  let c1_i32_36 : BitVec 32 := 1#32
  let v80 : BitVec 1 := Scalar.cmpi .eq arg0 c1_i32_36
  let v81 : BitVec 32 := Scalar.extui v80
  let c0_i32_37 : BitVec 32 := 0#32
  let v82 : BitVec 1 := Scalar.cmpi .ne v81 c0_i32_37
  v82

def k0_dev18 (d0 : Dev nD) : Nat :=
  let c0_i32_40 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_39 : BitVec 32 := 16#32
  let v83 : BitVec 32 := Scalar.muli v11 c16_i32_39
  let v84 : BitVec 32 := Scalar.addi c0_i32_40 v83
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_41 : BitVec 32 := 4#32
  let v85 : BitVec 32 := Scalar.muli v5 c4_i32_41
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v87 : BitVec 32 := Scalar.muli v8 c1_i32_42
  let v88 : BitVec 32 := Scalar.addi v86 v87
  v88.toNat
def k0_off12 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v117 : Index := Scalar.indexCast v10
  let c0_61 : Index := 0#32
  let c0_62 : Index := 0#32
  ![v117.toNat, 0, 0]
def k0_cond20 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_63 : BitVec 32 := 0#32
  let v121 : BitVec 1 := Scalar.cmpi .ne v10 c0_i32_63
  let v122 : BitVec 32 := Scalar.extui v121
  let c0_i32_64 : BitVec 32 := 0#32
  let v123 : BitVec 1 := Scalar.cmpi .ne v122 c0_i32_64
  v123

def k0_off13 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off14 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_220 : BitVec 32 := 0#32
  let c0_i32_221 : BitVec 32 := 0#32
  ![v10.toNat, 0, 0]
def k0_dev19 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v313 : BitVec 32 := Scalar.muli v2 c16_i32_216
  let v314 : BitVec 32 := Scalar.addi c0_i32_217 v313
  let c0_i32_214 : BitVec 32 := 0#32
  let c4_i32_218 : BitVec 32 := 4#32
  let v315 : BitVec 32 := Scalar.muli c0_i32_214 c4_i32_218
  let v316 : BitVec 32 := Scalar.addi v314 v315
  let c0_i32_215 : BitVec 32 := 0#32
  let c1_i32_219 : BitVec 32 := 1#32
  let v317 : BitVec 32 := Scalar.muli c0_i32_215 c1_i32_219
  let v318 : BitVec 32 := Scalar.addi v316 v317
  v318.toNat
def k0_cond21 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_65 : BitVec 32 := 1#32
  let v124 : BitVec 1 := Scalar.cmpi .ne v10 c1_i32_65
  let v125 : BitVec 32 := Scalar.extui v124
  let c0_i32_66 : BitVec 32 := 0#32
  let v126 : BitVec 1 := Scalar.cmpi .ne v125 c0_i32_66
  v126

def k0_off15 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off16 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_220 : BitVec 32 := 0#32
  let c0_i32_221 : BitVec 32 := 0#32
  ![v10.toNat, 0, 0]
def k0_dev20 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v313 : BitVec 32 := Scalar.muli v2 c16_i32_216
  let v314 : BitVec 32 := Scalar.addi c0_i32_217 v313
  let c0_i32_214 : BitVec 32 := 0#32
  let c4_i32_218 : BitVec 32 := 4#32
  let v315 : BitVec 32 := Scalar.muli c0_i32_214 c4_i32_218
  let v316 : BitVec 32 := Scalar.addi v314 v315
  let c1_i32_215 : BitVec 32 := 1#32
  let c1_i32_219 : BitVec 32 := 1#32
  let v317 : BitVec 32 := Scalar.muli c1_i32_215 c1_i32_219
  let v318 : BitVec 32 := Scalar.addi v316 v317
  v318.toNat
def k0_cond22 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c2_i32_67 : BitVec 32 := 2#32
  let v127 : BitVec 1 := Scalar.cmpi .ne v10 c2_i32_67
  let v128 : BitVec 32 := Scalar.extui v127
  let c0_i32_68 : BitVec 32 := 0#32
  let v129 : BitVec 1 := Scalar.cmpi .ne v128 c0_i32_68
  v129

def k0_off17 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off18 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_220 : BitVec 32 := 0#32
  let c0_i32_221 : BitVec 32 := 0#32
  ![v10.toNat, 0, 0]
def k0_dev21 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v313 : BitVec 32 := Scalar.muli v2 c16_i32_216
  let v314 : BitVec 32 := Scalar.addi c0_i32_217 v313
  let c0_i32_214 : BitVec 32 := 0#32
  let c4_i32_218 : BitVec 32 := 4#32
  let v315 : BitVec 32 := Scalar.muli c0_i32_214 c4_i32_218
  let v316 : BitVec 32 := Scalar.addi v314 v315
  let c2_i32_215 : BitVec 32 := 2#32
  let c1_i32_219 : BitVec 32 := 1#32
  let v317 : BitVec 32 := Scalar.muli c2_i32_215 c1_i32_219
  let v318 : BitVec 32 := Scalar.addi v316 v317
  v318.toNat
def k0_cond23 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c3_i32 : BitVec 32 := 3#32
  let v130 : BitVec 1 := Scalar.cmpi .ne v10 c3_i32
  let v131 : BitVec 32 := Scalar.extui v130
  let c0_i32_69 : BitVec 32 := 0#32
  let v132 : BitVec 1 := Scalar.cmpi .ne v131 c0_i32_69
  v132

def k0_off19 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off20 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_220 : BitVec 32 := 0#32
  let c0_i32_221 : BitVec 32 := 0#32
  ![v10.toNat, 0, 0]
def k0_dev22 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v313 : BitVec 32 := Scalar.muli v2 c16_i32_216
  let v314 : BitVec 32 := Scalar.addi c0_i32_217 v313
  let c0_i32_214 : BitVec 32 := 0#32
  let c4_i32_218 : BitVec 32 := 4#32
  let v315 : BitVec 32 := Scalar.muli c0_i32_214 c4_i32_218
  let v316 : BitVec 32 := Scalar.addi v314 v315
  let c3_i32_215 : BitVec 32 := 3#32
  let c1_i32_219 : BitVec 32 := 1#32
  let v317 : BitVec 32 := Scalar.muli c3_i32_215 c1_i32_219
  let v318 : BitVec 32 := Scalar.addi v316 v317
  v318.toNat
def k0_cond24 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c4_i32_70 : BitVec 32 := 4#32
  let v133 : BitVec 1 := Scalar.cmpi .ne v10 c4_i32_70
  let v134 : BitVec 32 := Scalar.extui v133
  let c0_i32_71 : BitVec 32 := 0#32
  let v135 : BitVec 1 := Scalar.cmpi .ne v134 c0_i32_71
  v135

def k0_off21 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off22 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_220 : BitVec 32 := 0#32
  let c0_i32_221 : BitVec 32 := 0#32
  ![v10.toNat, 0, 0]
def k0_dev23 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v313 : BitVec 32 := Scalar.muli v2 c16_i32_216
  let v314 : BitVec 32 := Scalar.addi c0_i32_217 v313
  let c1_i32_214 : BitVec 32 := 1#32
  let c4_i32_218 : BitVec 32 := 4#32
  let v315 : BitVec 32 := Scalar.muli c1_i32_214 c4_i32_218
  let v316 : BitVec 32 := Scalar.addi v314 v315
  let c0_i32_215 : BitVec 32 := 0#32
  let c1_i32_219 : BitVec 32 := 1#32
  let v317 : BitVec 32 := Scalar.muli c0_i32_215 c1_i32_219
  let v318 : BitVec 32 := Scalar.addi v316 v317
  v318.toNat
def k0_cond25 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c5_i32 : BitVec 32 := 5#32
  let v136 : BitVec 1 := Scalar.cmpi .ne v10 c5_i32
  let v137 : BitVec 32 := Scalar.extui v136
  let c0_i32_72 : BitVec 32 := 0#32
  let v138 : BitVec 1 := Scalar.cmpi .ne v137 c0_i32_72
  v138

def k0_off23 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off24 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_220 : BitVec 32 := 0#32
  let c0_i32_221 : BitVec 32 := 0#32
  ![v10.toNat, 0, 0]
def k0_dev24 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v313 : BitVec 32 := Scalar.muli v2 c16_i32_216
  let v314 : BitVec 32 := Scalar.addi c0_i32_217 v313
  let c1_i32_214 : BitVec 32 := 1#32
  let c4_i32_218 : BitVec 32 := 4#32
  let v315 : BitVec 32 := Scalar.muli c1_i32_214 c4_i32_218
  let v316 : BitVec 32 := Scalar.addi v314 v315
  let c1_i32_215 : BitVec 32 := 1#32
  let c1_i32_219 : BitVec 32 := 1#32
  let v317 : BitVec 32 := Scalar.muli c1_i32_215 c1_i32_219
  let v318 : BitVec 32 := Scalar.addi v316 v317
  v318.toNat
def k0_cond26 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c6_i32 : BitVec 32 := 6#32
  let v139 : BitVec 1 := Scalar.cmpi .ne v10 c6_i32
  let v140 : BitVec 32 := Scalar.extui v139
  let c0_i32_73 : BitVec 32 := 0#32
  let v141 : BitVec 1 := Scalar.cmpi .ne v140 c0_i32_73
  v141

def k0_off25 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off26 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_220 : BitVec 32 := 0#32
  let c0_i32_221 : BitVec 32 := 0#32
  ![v10.toNat, 0, 0]
def k0_dev25 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v313 : BitVec 32 := Scalar.muli v2 c16_i32_216
  let v314 : BitVec 32 := Scalar.addi c0_i32_217 v313
  let c1_i32_214 : BitVec 32 := 1#32
  let c4_i32_218 : BitVec 32 := 4#32
  let v315 : BitVec 32 := Scalar.muli c1_i32_214 c4_i32_218
  let v316 : BitVec 32 := Scalar.addi v314 v315
  let c2_i32_215 : BitVec 32 := 2#32
  let c1_i32_219 : BitVec 32 := 1#32
  let v317 : BitVec 32 := Scalar.muli c2_i32_215 c1_i32_219
  let v318 : BitVec 32 := Scalar.addi v316 v317
  v318.toNat
def k0_cond27 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c7_i32 : BitVec 32 := 7#32
  let v142 : BitVec 1 := Scalar.cmpi .ne v10 c7_i32
  let v143 : BitVec 32 := Scalar.extui v142
  let c0_i32_74 : BitVec 32 := 0#32
  let v144 : BitVec 1 := Scalar.cmpi .ne v143 c0_i32_74
  v144

def k0_off27 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off28 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_220 : BitVec 32 := 0#32
  let c0_i32_221 : BitVec 32 := 0#32
  ![v10.toNat, 0, 0]
def k0_dev26 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v313 : BitVec 32 := Scalar.muli v2 c16_i32_216
  let v314 : BitVec 32 := Scalar.addi c0_i32_217 v313
  let c1_i32_214 : BitVec 32 := 1#32
  let c4_i32_218 : BitVec 32 := 4#32
  let v315 : BitVec 32 := Scalar.muli c1_i32_214 c4_i32_218
  let v316 : BitVec 32 := Scalar.addi v314 v315
  let c3_i32_215 : BitVec 32 := 3#32
  let c1_i32_219 : BitVec 32 := 1#32
  let v317 : BitVec 32 := Scalar.muli c3_i32_215 c1_i32_219
  let v318 : BitVec 32 := Scalar.addi v316 v317
  v318.toNat
def k0_cond28 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c8_i32 : BitVec 32 := 8#32
  let v145 : BitVec 1 := Scalar.cmpi .ne v10 c8_i32
  let v146 : BitVec 32 := Scalar.extui v145
  let c0_i32_75 : BitVec 32 := 0#32
  let v147 : BitVec 1 := Scalar.cmpi .ne v146 c0_i32_75
  v147

def k0_off29 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off30 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_220 : BitVec 32 := 0#32
  let c0_i32_221 : BitVec 32 := 0#32
  ![v10.toNat, 0, 0]
def k0_dev27 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v313 : BitVec 32 := Scalar.muli v2 c16_i32_216
  let v314 : BitVec 32 := Scalar.addi c0_i32_217 v313
  let c2_i32_214 : BitVec 32 := 2#32
  let c4_i32_218 : BitVec 32 := 4#32
  let v315 : BitVec 32 := Scalar.muli c2_i32_214 c4_i32_218
  let v316 : BitVec 32 := Scalar.addi v314 v315
  let c0_i32_215 : BitVec 32 := 0#32
  let c1_i32_219 : BitVec 32 := 1#32
  let v317 : BitVec 32 := Scalar.muli c0_i32_215 c1_i32_219
  let v318 : BitVec 32 := Scalar.addi v316 v317
  v318.toNat
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c9_i32 : BitVec 32 := 9#32
  let v148 : BitVec 1 := Scalar.cmpi .ne v10 c9_i32
  let v149 : BitVec 32 := Scalar.extui v148
  let c0_i32_76 : BitVec 32 := 0#32
  let v150 : BitVec 1 := Scalar.cmpi .ne v149 c0_i32_76
  v150

def k0_off31 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off32 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_220 : BitVec 32 := 0#32
  let c0_i32_221 : BitVec 32 := 0#32
  ![v10.toNat, 0, 0]
def k0_dev28 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v313 : BitVec 32 := Scalar.muli v2 c16_i32_216
  let v314 : BitVec 32 := Scalar.addi c0_i32_217 v313
  let c2_i32_214 : BitVec 32 := 2#32
  let c4_i32_218 : BitVec 32 := 4#32
  let v315 : BitVec 32 := Scalar.muli c2_i32_214 c4_i32_218
  let v316 : BitVec 32 := Scalar.addi v314 v315
  let c1_i32_215 : BitVec 32 := 1#32
  let c1_i32_219 : BitVec 32 := 1#32
  let v317 : BitVec 32 := Scalar.muli c1_i32_215 c1_i32_219
  let v318 : BitVec 32 := Scalar.addi v316 v317
  v318.toNat
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c10_i32 : BitVec 32 := 10#32
  let v151 : BitVec 1 := Scalar.cmpi .ne v10 c10_i32
  let v152 : BitVec 32 := Scalar.extui v151
  let c0_i32_77 : BitVec 32 := 0#32
  let v153 : BitVec 1 := Scalar.cmpi .ne v152 c0_i32_77
  v153

def k0_off33 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off34 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_220 : BitVec 32 := 0#32
  let c0_i32_221 : BitVec 32 := 0#32
  ![v10.toNat, 0, 0]
def k0_dev29 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v313 : BitVec 32 := Scalar.muli v2 c16_i32_216
  let v314 : BitVec 32 := Scalar.addi c0_i32_217 v313
  let c2_i32_214 : BitVec 32 := 2#32
  let c4_i32_218 : BitVec 32 := 4#32
  let v315 : BitVec 32 := Scalar.muli c2_i32_214 c4_i32_218
  let v316 : BitVec 32 := Scalar.addi v314 v315
  let c2_i32_215 : BitVec 32 := 2#32
  let c1_i32_219 : BitVec 32 := 1#32
  let v317 : BitVec 32 := Scalar.muli c2_i32_215 c1_i32_219
  let v318 : BitVec 32 := Scalar.addi v316 v317
  v318.toNat
def k0_cond31 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c11_i32 : BitVec 32 := 11#32
  let v154 : BitVec 1 := Scalar.cmpi .ne v10 c11_i32
  let v155 : BitVec 32 := Scalar.extui v154
  let c0_i32_78 : BitVec 32 := 0#32
  let v156 : BitVec 1 := Scalar.cmpi .ne v155 c0_i32_78
  v156

def k0_off35 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off36 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_220 : BitVec 32 := 0#32
  let c0_i32_221 : BitVec 32 := 0#32
  ![v10.toNat, 0, 0]
def k0_dev30 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v313 : BitVec 32 := Scalar.muli v2 c16_i32_216
  let v314 : BitVec 32 := Scalar.addi c0_i32_217 v313
  let c2_i32_214 : BitVec 32 := 2#32
  let c4_i32_218 : BitVec 32 := 4#32
  let v315 : BitVec 32 := Scalar.muli c2_i32_214 c4_i32_218
  let v316 : BitVec 32 := Scalar.addi v314 v315
  let c3_i32_215 : BitVec 32 := 3#32
  let c1_i32_219 : BitVec 32 := 1#32
  let v317 : BitVec 32 := Scalar.muli c3_i32_215 c1_i32_219
  let v318 : BitVec 32 := Scalar.addi v316 v317
  v318.toNat
def k0_cond32 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c12_i32 : BitVec 32 := 12#32
  let v157 : BitVec 1 := Scalar.cmpi .ne v10 c12_i32
  let v158 : BitVec 32 := Scalar.extui v157
  let c0_i32_79 : BitVec 32 := 0#32
  let v159 : BitVec 1 := Scalar.cmpi .ne v158 c0_i32_79
  v159

def k0_off37 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off38 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_220 : BitVec 32 := 0#32
  let c0_i32_221 : BitVec 32 := 0#32
  ![v10.toNat, 0, 0]
def k0_dev31 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v313 : BitVec 32 := Scalar.muli v2 c16_i32_216
  let v314 : BitVec 32 := Scalar.addi c0_i32_217 v313
  let c3_i32_214 : BitVec 32 := 3#32
  let c4_i32_218 : BitVec 32 := 4#32
  let v315 : BitVec 32 := Scalar.muli c3_i32_214 c4_i32_218
  let v316 : BitVec 32 := Scalar.addi v314 v315
  let c0_i32_215 : BitVec 32 := 0#32
  let c1_i32_219 : BitVec 32 := 1#32
  let v317 : BitVec 32 := Scalar.muli c0_i32_215 c1_i32_219
  let v318 : BitVec 32 := Scalar.addi v316 v317
  v318.toNat
def k0_cond33 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c13_i32 : BitVec 32 := 13#32
  let v160 : BitVec 1 := Scalar.cmpi .ne v10 c13_i32
  let v161 : BitVec 32 := Scalar.extui v160
  let c0_i32_80 : BitVec 32 := 0#32
  let v162 : BitVec 1 := Scalar.cmpi .ne v161 c0_i32_80
  v162

def k0_off39 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off40 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_220 : BitVec 32 := 0#32
  let c0_i32_221 : BitVec 32 := 0#32
  ![v10.toNat, 0, 0]
def k0_dev32 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v313 : BitVec 32 := Scalar.muli v2 c16_i32_216
  let v314 : BitVec 32 := Scalar.addi c0_i32_217 v313
  let c3_i32_214 : BitVec 32 := 3#32
  let c4_i32_218 : BitVec 32 := 4#32
  let v315 : BitVec 32 := Scalar.muli c3_i32_214 c4_i32_218
  let v316 : BitVec 32 := Scalar.addi v314 v315
  let c1_i32_215 : BitVec 32 := 1#32
  let c1_i32_219 : BitVec 32 := 1#32
  let v317 : BitVec 32 := Scalar.muli c1_i32_215 c1_i32_219
  let v318 : BitVec 32 := Scalar.addi v316 v317
  v318.toNat
def k0_cond34 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c14_i32 : BitVec 32 := 14#32
  let v163 : BitVec 1 := Scalar.cmpi .ne v10 c14_i32
  let v164 : BitVec 32 := Scalar.extui v163
  let c0_i32_81 : BitVec 32 := 0#32
  let v165 : BitVec 1 := Scalar.cmpi .ne v164 c0_i32_81
  v165

def k0_off41 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off42 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_220 : BitVec 32 := 0#32
  let c0_i32_221 : BitVec 32 := 0#32
  ![v10.toNat, 0, 0]
def k0_dev33 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v313 : BitVec 32 := Scalar.muli v2 c16_i32_216
  let v314 : BitVec 32 := Scalar.addi c0_i32_217 v313
  let c3_i32_214 : BitVec 32 := 3#32
  let c4_i32_218 : BitVec 32 := 4#32
  let v315 : BitVec 32 := Scalar.muli c3_i32_214 c4_i32_218
  let v316 : BitVec 32 := Scalar.addi v314 v315
  let c2_i32_215 : BitVec 32 := 2#32
  let c1_i32_219 : BitVec 32 := 1#32
  let v317 : BitVec 32 := Scalar.muli c2_i32_215 c1_i32_219
  let v318 : BitVec 32 := Scalar.addi v316 v317
  v318.toNat
def k0_cond35 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_82 : BitVec 32 := 15#32
  let v166 : BitVec 1 := Scalar.cmpi .ne v10 c15_i32_82
  let v167 : BitVec 32 := Scalar.extui v166
  let c0_i32_83 : BitVec 32 := 0#32
  let v168 : BitVec 1 := Scalar.cmpi .ne v167 c0_i32_83
  v168

def k0_off43 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off44 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_220 : BitVec 32 := 0#32
  let c0_i32_221 : BitVec 32 := 0#32
  ![v10.toNat, 0, 0]
def k0_dev34 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v313 : BitVec 32 := Scalar.muli v2 c16_i32_216
  let v314 : BitVec 32 := Scalar.addi c0_i32_217 v313
  let c3_i32_214 : BitVec 32 := 3#32
  let c4_i32_218 : BitVec 32 := 4#32
  let v315 : BitVec 32 := Scalar.muli c3_i32_214 c4_i32_218
  let v316 : BitVec 32 := Scalar.addi v314 v315
  let c3_i32_215 : BitVec 32 := 3#32
  let c1_i32_219 : BitVec 32 := 1#32
  let v317 : BitVec 32 := Scalar.muli c3_i32_215 c1_i32_219
  let v318 : BitVec 32 := Scalar.addi v316 v317
  v318.toNat
def k0_cond36 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_84 : BitVec 32 := 0#32
  let v169 : BitVec 1 := Scalar.cmpi .ne v10 c0_i32_84
  let v170 : BitVec 32 := Scalar.extui v169
  let c0_i32_85 : BitVec 32 := 0#32
  let v171 : BitVec 1 := Scalar.cmpi .ne v170 c0_i32_85
  v171

def k0_off45 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_217 : BitVec 32 := 0#32
  let c0_i32_218 : BitVec 32 := 0#32
  ![v10.toNat, 0, 0]
def k0_cond37 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_86 : BitVec 32 := 1#32
  let v172 : BitVec 1 := Scalar.cmpi .ne v10 c1_i32_86
  let v173 : BitVec 32 := Scalar.extui v172
  let c0_i32_87 : BitVec 32 := 0#32
  let v174 : BitVec 1 := Scalar.cmpi .ne v173 c0_i32_87
  v174

def k0_off46 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_217 : BitVec 32 := 0#32
  let c0_i32_218 : BitVec 32 := 0#32
  ![v10.toNat, 0, 0]
def k0_cond38 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c2_i32_88 : BitVec 32 := 2#32
  let v175 : BitVec 1 := Scalar.cmpi .ne v10 c2_i32_88
  let v176 : BitVec 32 := Scalar.extui v175
  let c0_i32_89 : BitVec 32 := 0#32
  let v177 : BitVec 1 := Scalar.cmpi .ne v176 c0_i32_89
  v177

def k0_off47 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_217 : BitVec 32 := 0#32
  let c0_i32_218 : BitVec 32 := 0#32
  ![v10.toNat, 0, 0]
def k0_cond39 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c3_i32_90 : BitVec 32 := 3#32
  let v178 : BitVec 1 := Scalar.cmpi .ne v10 c3_i32_90
  let v179 : BitVec 32 := Scalar.extui v178
  let c0_i32_91 : BitVec 32 := 0#32
  let v180 : BitVec 1 := Scalar.cmpi .ne v179 c0_i32_91
  v180

def k0_off48 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_217 : BitVec 32 := 0#32
  let c0_i32_218 : BitVec 32 := 0#32
  ![v10.toNat, 0, 0]
def k0_cond40 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c4_i32_92 : BitVec 32 := 4#32
  let v181 : BitVec 1 := Scalar.cmpi .ne v10 c4_i32_92
  let v182 : BitVec 32 := Scalar.extui v181
  let c0_i32_93 : BitVec 32 := 0#32
  let v183 : BitVec 1 := Scalar.cmpi .ne v182 c0_i32_93
  v183

def k0_off49 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_217 : BitVec 32 := 0#32
  let c0_i32_218 : BitVec 32 := 0#32
  ![v10.toNat, 0, 0]
def k0_cond41 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c5_i32_94 : BitVec 32 := 5#32
  let v184 : BitVec 1 := Scalar.cmpi .ne v10 c5_i32_94
  let v185 : BitVec 32 := Scalar.extui v184
  let c0_i32_95 : BitVec 32 := 0#32
  let v186 : BitVec 1 := Scalar.cmpi .ne v185 c0_i32_95
  v186

def k0_off50 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_217 : BitVec 32 := 0#32
  let c0_i32_218 : BitVec 32 := 0#32
  ![v10.toNat, 0, 0]
def k0_cond42 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c6_i32_96 : BitVec 32 := 6#32
  let v187 : BitVec 1 := Scalar.cmpi .ne v10 c6_i32_96
  let v188 : BitVec 32 := Scalar.extui v187
  let c0_i32_97 : BitVec 32 := 0#32
  let v189 : BitVec 1 := Scalar.cmpi .ne v188 c0_i32_97
  v189

def k0_off51 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_217 : BitVec 32 := 0#32
  let c0_i32_218 : BitVec 32 := 0#32
  ![v10.toNat, 0, 0]
def k0_cond43 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c7_i32_98 : BitVec 32 := 7#32
  let v190 : BitVec 1 := Scalar.cmpi .ne v10 c7_i32_98
  let v191 : BitVec 32 := Scalar.extui v190
  let c0_i32_99 : BitVec 32 := 0#32
  let v192 : BitVec 1 := Scalar.cmpi .ne v191 c0_i32_99
  v192

def k0_off52 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_217 : BitVec 32 := 0#32
  let c0_i32_218 : BitVec 32 := 0#32
  ![v10.toNat, 0, 0]
def k0_cond44 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c8_i32_100 : BitVec 32 := 8#32
  let v193 : BitVec 1 := Scalar.cmpi .ne v10 c8_i32_100
  let v194 : BitVec 32 := Scalar.extui v193
  let c0_i32_101 : BitVec 32 := 0#32
  let v195 : BitVec 1 := Scalar.cmpi .ne v194 c0_i32_101
  v195

def k0_off53 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_217 : BitVec 32 := 0#32
  let c0_i32_218 : BitVec 32 := 0#32
  ![v10.toNat, 0, 0]
def k0_cond45 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c9_i32_102 : BitVec 32 := 9#32
  let v196 : BitVec 1 := Scalar.cmpi .ne v10 c9_i32_102
  let v197 : BitVec 32 := Scalar.extui v196
  let c0_i32_103 : BitVec 32 := 0#32
  let v198 : BitVec 1 := Scalar.cmpi .ne v197 c0_i32_103
  v198

def k0_off54 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_217 : BitVec 32 := 0#32
  let c0_i32_218 : BitVec 32 := 0#32
  ![v10.toNat, 0, 0]
def k0_cond46 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c10_i32_104 : BitVec 32 := 10#32
  let v199 : BitVec 1 := Scalar.cmpi .ne v10 c10_i32_104
  let v200 : BitVec 32 := Scalar.extui v199
  let c0_i32_105 : BitVec 32 := 0#32
  let v201 : BitVec 1 := Scalar.cmpi .ne v200 c0_i32_105
  v201

def k0_off55 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_217 : BitVec 32 := 0#32
  let c0_i32_218 : BitVec 32 := 0#32
  ![v10.toNat, 0, 0]
def k0_cond47 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c11_i32_106 : BitVec 32 := 11#32
  let v202 : BitVec 1 := Scalar.cmpi .ne v10 c11_i32_106
  let v203 : BitVec 32 := Scalar.extui v202
  let c0_i32_107 : BitVec 32 := 0#32
  let v204 : BitVec 1 := Scalar.cmpi .ne v203 c0_i32_107
  v204

def k0_off56 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_217 : BitVec 32 := 0#32
  let c0_i32_218 : BitVec 32 := 0#32
  ![v10.toNat, 0, 0]
def k0_cond48 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c12_i32_108 : BitVec 32 := 12#32
  let v205 : BitVec 1 := Scalar.cmpi .ne v10 c12_i32_108
  let v206 : BitVec 32 := Scalar.extui v205
  let c0_i32_109 : BitVec 32 := 0#32
  let v207 : BitVec 1 := Scalar.cmpi .ne v206 c0_i32_109
  v207

def k0_off57 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_217 : BitVec 32 := 0#32
  let c0_i32_218 : BitVec 32 := 0#32
  ![v10.toNat, 0, 0]
def k0_cond49 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c13_i32_110 : BitVec 32 := 13#32
  let v208 : BitVec 1 := Scalar.cmpi .ne v10 c13_i32_110
  let v209 : BitVec 32 := Scalar.extui v208
  let c0_i32_111 : BitVec 32 := 0#32
  let v210 : BitVec 1 := Scalar.cmpi .ne v209 c0_i32_111
  v210

def k0_off58 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_217 : BitVec 32 := 0#32
  let c0_i32_218 : BitVec 32 := 0#32
  ![v10.toNat, 0, 0]
def k0_cond50 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c14_i32_112 : BitVec 32 := 14#32
  let v211 : BitVec 1 := Scalar.cmpi .ne v10 c14_i32_112
  let v212 : BitVec 32 := Scalar.extui v211
  let c0_i32_113 : BitVec 32 := 0#32
  let v213 : BitVec 1 := Scalar.cmpi .ne v212 c0_i32_113
  v213

def k0_off59 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_217 : BitVec 32 := 0#32
  let c0_i32_218 : BitVec 32 := 0#32
  ![v10.toNat, 0, 0]
def k0_cond51 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_114 : BitVec 32 := 15#32
  let v214 : BitVec 1 := Scalar.cmpi .ne v10 c15_i32_114
  let v215 : BitVec 32 := Scalar.extui v214
  let c0_i32_115 : BitVec 32 := 0#32
  let v216 : BitVec 1 := Scalar.cmpi .ne v215 c0_i32_115
  v216

def k0_off60 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_217 : BitVec 32 := 0#32
  let c0_i32_218 : BitVec 32 := 0#32
  ![v10.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S32x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S32x16x128 : Shape := ⟨3, ![32, 16, 128]⟩
abbrev S16384x16x128 : Shape := ⟨3, ![16384, 16, 128]⟩
abbrev S32x256 : Shape := ⟨2, ![32, 256]⟩
abbrev S32x1 : Shape := ⟨2, ![32, 1]⟩
abbrev S512x32x16x128 : Shape := ⟨4, ![512, 32, 16, 128]⟩
abbrev S_ : Shape := ⟨0, ![]⟩
abbrev S32x256x1 : Shape := ⟨3, ![32, 256, 1]⟩
abbrev S32x256x32x16x128 : Shape := ⟨5, ![32, 256, 32, 16, 128]⟩
abbrev S32x8192x16x128 : Shape := ⟨4, ![32, 8192, 16, 128]⟩
abbrev S32x16x8192 : Shape := ⟨3, ![32, 16, 8192]⟩
abbrev S32x1x1 : Shape := ⟨3, ![32, 1, 1]⟩
abbrev S32x16 : Shape := ⟨2, ![32, 16]⟩
abbrev S32x16x1 : Shape := ⟨3, ![32, 16, 1]⟩
abbrev S32x1x16x128 : Shape := ⟨4, ![32, 1, 16, 128]⟩

abbrev nBuf : Space → Nat
  | .hbm => 70
  | .vmem => 0
  | .smem => 0
  | _ => 0

abbrev bufTy : (tb : Table) → Fin (tcTables nBuf tb) → BufTy
  | .hbm, ⟨0, _⟩ => ⟨S32x16x128, .f32⟩
  | .hbm, ⟨1, _⟩ => ⟨S16384x16x128, .f32⟩
  | .hbm, ⟨2, _⟩ => ⟨S16384x16x128, .f32⟩
  | .hbm, ⟨3, _⟩ => ⟨S32x256, .i32⟩
  | .hbm, ⟨4, _⟩ => ⟨S32x1, .i32⟩
  | .hbm, ⟨5, _⟩ => ⟨S512x32x16x128, .f32⟩
  | .hbm, ⟨6, _⟩ => ⟨S512x32x16x128, .f32⟩
  | .hbm, ⟨7, _⟩ => ⟨S_, .i32⟩
  | .hbm, ⟨8, _⟩ => ⟨S32x256, .i32⟩
  | .hbm, ⟨9, _⟩ => ⟨S32x256, .i1⟩
  | .hbm, ⟨10, _⟩ => ⟨S_, .i32⟩
  | .hbm, ⟨11, _⟩ => ⟨S32x256, .i32⟩
  | .hbm, ⟨12, _⟩ => ⟨S32x256, .i32⟩
  | .hbm, ⟨13, _⟩ => ⟨S32x256, .i32⟩
  | .hbm, ⟨14, _⟩ => ⟨S32x256x1, .i32⟩
  | .hbm, ⟨15, _⟩ => ⟨S32x256x32x16x128, .f32⟩
  | .hbm, ⟨16, _⟩ => ⟨S32x8192x16x128, .f32⟩
  | .hbm, ⟨17, _⟩ => ⟨S_, .i32⟩
  | .hbm, ⟨18, _⟩ => ⟨S32x256, .i32⟩
  | .hbm, ⟨19, _⟩ => ⟨S32x256, .i1⟩
  | .hbm, ⟨20, _⟩ => ⟨S_, .i32⟩
  | .hbm, ⟨21, _⟩ => ⟨S32x256, .i32⟩
  | .hbm, ⟨22, _⟩ => ⟨S32x256, .i32⟩
  | .hbm, ⟨23, _⟩ => ⟨S32x256, .i32⟩
  | .hbm, ⟨24, _⟩ => ⟨S32x256x1, .i32⟩
  | .hbm, ⟨25, _⟩ => ⟨S32x256x32x16x128, .f32⟩
  | .hbm, ⟨26, _⟩ => ⟨S32x8192x16x128, .f32⟩
  | .hbm, ⟨27, _⟩ => ⟨S32x16x8192, .f32⟩
  | .hbm, ⟨28, _⟩ => ⟨S_, .f32⟩
  | .hbm, ⟨29, _⟩ => ⟨S32x16x8192, .f32⟩
  | .hbm, ⟨30, _⟩ => ⟨S32x16x8192, .f32⟩
  | .hbm, ⟨31, _⟩ => ⟨S32x16x8192, .i32⟩
  | .hbm, ⟨32, _⟩ => ⟨S_, .i32⟩
  | .hbm, ⟨33, _⟩ => ⟨S_, .i32⟩
  | .hbm, ⟨34, _⟩ => ⟨S32x16x8192, .i32⟩
  | .hbm, ⟨35, _⟩ => ⟨S32x16x8192, .i32⟩
  | .hbm, ⟨36, _⟩ => ⟨S32x16x8192, .i32⟩
  | .hbm, ⟨37, _⟩ => ⟨S_, .i32⟩
  | .hbm, ⟨38, _⟩ => ⟨S32x16x8192, .i32⟩
  | .hbm, ⟨39, _⟩ => ⟨S32x16x8192, .i1⟩
  | .hbm, ⟨40, _⟩ => ⟨S32x16x8192, .i32⟩
  | .hbm, ⟨41, _⟩ => ⟨S32x16x8192, .i32⟩
  | .hbm, ⟨42, _⟩ => ⟨S_, .i32⟩
  | .hbm, ⟨43, _⟩ => ⟨S32x16x8192, .i32⟩
  | .hbm, ⟨44, _⟩ => ⟨S32x16x8192, .i1⟩
  | .hbm, ⟨45, _⟩ => ⟨S32x16x8192, .i1⟩
  | .hbm, ⟨46, _⟩ => ⟨S_, .i32⟩
  | .hbm, ⟨47, _⟩ => ⟨S32x16x8192, .i32⟩
  | .hbm, ⟨48, _⟩ => ⟨S32x16x8192, .i32⟩
  | .hbm, ⟨49, _⟩ => ⟨S32x16x8192, .i32⟩
  | .hbm, ⟨50, _⟩ => ⟨S32x1x1, .i32⟩
  | .hbm, ⟨51, _⟩ => ⟨S32x16x8192, .i32⟩
  | .hbm, ⟨52, _⟩ => ⟨S32x16x8192, .i1⟩
  | .hbm, ⟨53, _⟩ => ⟨S_, .f32⟩
  | .hbm, ⟨54, _⟩ => ⟨S_, .f32⟩
  | .hbm, ⟨55, _⟩ => ⟨S32x16x8192, .f32⟩
  | .hbm, ⟨56, _⟩ => ⟨S32x16x8192, .f32⟩
  | .hbm, ⟨57, _⟩ => ⟨S_, .f32⟩
  | .hbm, ⟨58, _⟩ => ⟨S32x16, .f32⟩
  | .hbm, ⟨59, _⟩ => ⟨S32x16x1, .f32⟩
  | .hbm, ⟨60, _⟩ => ⟨S32x16x8192, .f32⟩
  | .hbm, ⟨61, _⟩ => ⟨S32x16x8192, .f32⟩
  | .hbm, ⟨62, _⟩ => ⟨S32x16x8192, .f32⟩
  | .hbm, ⟨63, _⟩ => ⟨S_, .f32⟩
  | .hbm, ⟨64, _⟩ => ⟨S32x16, .f32⟩
  | .hbm, ⟨65, _⟩ => ⟨S32x16x1, .f32⟩
  | .hbm, ⟨66, _⟩ => ⟨S32x16x8192, .f32⟩
  | .hbm, ⟨67, _⟩ => ⟨S32x16x8192, .f32⟩
  | .hbm, ⟨68, _⟩ => ⟨S32x16x128, .f32⟩
  | .hbm, ⟨69, _⟩ => ⟨S32x1x16x128, .f32⟩
  | _, _ => ⟨S32x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_4 : Ref sig .tc := ⟨.hbm, 53, rfl⟩
abbrev main_call1_v0 : Ref sig .tc := ⟨.hbm, 54, rfl⟩
abbrev main_call1_v1 : Ref sig .tc := ⟨.hbm, 55, rfl⟩
abbrev main_v26 : Ref sig .tc := ⟨.hbm, 56, rfl⟩
abbrev main_cst_5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_6 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩

abbrev nD : Nat := 1
abbrev τ : Topo := Topo.v7x

variable {F : FTy → Type} [FloatOps F]
-- ==== Proof.Run.Proto.lean ====
/- The protocol of the kernel between the devices: which device is whose partner, the semaphores
   it runs on, who owes what to whom, and the levels that order the waits.

   Device `c` of the mesh is `16 * x + 4 * y + z`.  The sixteen devices of one `x` hold the same half of
   the key and value pages, and each works on one head (`me c`).  The device with the same head in the
   other half is `xp c`; the device of its own half working on head `j` is `mate c j`. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Devices -/

/-- The head device `c` works on. -/
def me (c : Dev nD) : Fin 16 := ⟨c.val % 16, Nat.mod_lt _ (by decide)⟩
/-- The device with the same head in the other half. -/
def xp (c : Dev nD) : Dev nD := ⟨(c.val + 16) % 32, Nat.mod_lt _ (by decide)⟩
theorem mate_lt (c : Dev nD) (j : Fin 16) : c.val / 16 * 16 + j.val < nD := by
  have h := c.isLt; have hj := j.isLt; simp only [nD] at h ⊢; omega
/-- The device of `c`'s half that works on head `j`. -/
def mate (c : Dev nD) (j : Fin 16) : Dev nD := ⟨c.val / 16 * 16 + j.val, mate_lt c j⟩

theorem xp_xp (c : Dev nD) : xp (xp c) = c := by revert c; decide
theorem xp_ne (c : Dev nD) : xp c ≠ c := by revert c; decide
theorem me_xp (c : Dev nD) : me (xp c) = me c := by revert c; decide
theorem me_mate (c : Dev nD) (j : Fin 16) : me (mate c j) = j := by revert c j; decide
theorem mate_me (c : Dev nD) : mate c (me c) = c := by revert c; decide
theorem mate_mate (c : Dev nD) (j k : Fin 16) : mate (mate c j) k = mate c k := by revert c j k; decide

/-! ## Semaphores -/

/-- The kernel's own semaphores: the two key copies, the two value copies, the sum sent and received
    across the halves, the readiness signal across the halves; then per head the sent and the received row. -/
abbrev OK : Type := Fin 7 ⊕ (Fin 16 ⊕ Fin 16)
/-- All of them: the barrier first. -/
abbrev KK : Type := Unit ⊕ OK

abbrev dq (n : ℕ) (h : n < 42) : SemLoc sig := .dma (⟨n, h⟩ : Fin 42)

def osem : OK → SemLoc sig
  | .inl 0 => dq 4 (by decide)
  | .inl 1 => dq 5 (by decide)
  | .inl 2 => dq 6 (by decide)
  | .inl 3 => dq 7 (by decide)
  | .inl 4 => dq 8 (by decide)
  | .inl 5 => dq 9 (by decide)
  | .inl 6 => .reg (0 : Fin 2)
  | .inr (.inl j) => dq (10 + j.val) (by have := j.isLt; omega)
  | .inr (.inr j) => dq (26 + j.val) (by have := j.isLt; omega)

def ksem : KK → SemLoc sig
  | .inl _ => .reg (1 : Fin 2)
  | .inr k => osem k

abbrev kBar : KK := .inl ()
abbrev kK (s : Fin 2) : KK := .inr (.inl (Fin.castLE (by decide) s))
abbrev kV (s : Fin 2) : KK := .inr (.inl (Fin.natAdd 2 s |>.castLE (by decide)))
abbrev kSx : KK := .inr (.inl 4)
abbrev kRx : KK := .inr (.inl 5)
abbrev kXr : KK := .inr (.inl 6)
abbrev kGs (j : Fin 16) : KK := .inr (.inr (.inl j))
abbrev kGr (j : Fin 16) : KK := .inr (.inr (.inr j))

/-- Which of the kernel's semaphores a semaphore is. -/
def kind? : SemLoc sig → Option KK
  | .reg q => if q.val = 0 then some kXr else some kBar
  | .dma q =>
    if q.val < 4 then none
    else if h : q.val < 10 then some (.inr (.inl ⟨q.val - 4, by omega⟩))
    else if h : q.val < 26 then some (kGs ⟨q.val - 10, by omega⟩)
    else some (kGr ⟨q.val - 26, by have : q.val < 42 := q.isLt; omega⟩)

theorem kind_ksem (k : KK) : kind? (ksem k) = some k := by revert k; decide

abbrev kcell (ck : Dev nD × KK) : GSem nD τ sig := ((ck.1 : Thread nD τ), ksem ck.2)

theorem ksem_inj {k k' : KK} (h : ksem k = ksem k') : k = k' := by
  have := congrArg kind? h; rw [kind_ksem, kind_ksem] at this; exact Option.some.inj this

theorem kcell_inj : Function.Injective kcell := by
  rintro ⟨c, k⟩ ⟨c', k'⟩ h
  have h1 : (c : Thread nD τ) = (c' : Thread nD τ) := congrArg (fun g : GSem nD τ sig => g.1) h
  have h2 : ksem k = ksem k' := congrArg (fun g : GSem nD τ sig => g.2) h
  exact Prod.ext (congrArg (fun t : Thread nD τ => t.1) h1) (ksem_inj h2)

theorem kcell_eq_iff {c c' : Dev nD} {k k' : KK} : kcell (c, k) = kcell (c', k') ↔ c = c' ∧ k = k' :=
  ⟨fun h => by have := kcell_inj h; exact ⟨congrArg Prod.fst this, congrArg Prod.snd this⟩, fun h => by rw [h.1, h.2]⟩

/-! ## Amounts, levels, what is owed -/

abbrev pM : Memref sig .tc .vmem S32x256 .f32 := Memref.whole cc0_scratch6
abbrev rM : Memref sig .tc .vmem S32x256 .f32 := Memref.whole cc0_scratch7
abbrev gM : Memref sig .tc .vmem S16x32x128 .bf16 := Memref.whole cc0_scratch8
abbrev kM : Memref sig .tc .vmem S2x4096x128 .f32 := Memref.whole cc0_scratch2
abbrev vM : Memref sig .tc .vmem S2x4096x128 .f32 := Memref.whole cc0_scratch3

theorem inb_row (j : Fin 16) : ∀ a, (![j.val, 0, 0] : Fin 3 → ℕ) a + S1x32x128.size a ≤ S16x32x128.size a := by revert j; decide
theorem inb_slot (s : Fin 2) : ∀ a, (![s.val, 0, 0] : Fin 3 → ℕ) a + S1x4096x128.size a ≤ S2x4096x128.size a := by revert s; decide
/-- One head's row of the exchange buffer. -/
abbrev rowR (j : Fin 16) : Rect S16x32x128 := Rect.unit ![j.val, 0, 0] S1x32x128.size (inb_row j)
/-- One slot of a staging buffer of keys or values. -/
abbrev slotR (s : Fin 2) : Rect S2x4096x128 := Rect.unit ![s.val, 0, 0] S1x4096x128.size (inb_slot s)

def NK : ℕ := (View.slice kM.view (slotR 0)).dmaCredit
def NX : ℕ := rM.view.dmaCredit
def NG : ℕ := (View.slice gM.view (rowR 0)).dmaCredit
theorem NK_pos : 0 < NK := View.dmaCredit_pos _ (by decide)
theorem NX_pos : 0 < NX := View.dmaCredit_pos _ (by decide)
theorem NG_pos : 0 < NG := View.dmaCredit_pos _ (by decide)

/-- What one duty of a cell adds. -/
def amt : KK → ℕ
  | .inl _ => 1
  | .inr (.inl i) => if i.val < 4 then NK else if i.val < 6 then NX else 1
  | .inr (.inr _) => NG

theorem amt_pos (k : KK) : 0 < amt k := by
  rcases k with _ | i | j
  · exact Nat.one_pos
  · dsimp only [amt]; split
    · exact NK_pos
    · split
      · exact NX_pos
      · exact Nat.one_pos
  · exact NG_pos

/-- The duties of device `c`'s cell of kind `k`: the barrier one per other device of the half, the
    rows' cells none for the device's own head. -/
def duts (c : Dev nD) : KK → Finset (Fin 16)
  | .inl _ => Finset.univ.erase (me c)
  | .inr (.inl _) => {0}
  | .inr (.inr (.inl j)) => if j = me c then ∅ else {0}
  | .inr (.inr (.inr j)) => if j = me c then ∅ else {0}

/-- The level of a kind of cell: a wait owes only higher ones. -/
def lvK : KK → ℕ
  | .inl _ => 2
  | .inr (.inl i) => if i.val = 6 then 1 else if i.val = 5 then 3 else 0
  | .inr (.inr (.inl _)) => 0
  | .inr (.inr (.inr _)) => 4

def L (g : GSem nD τ sig) : Finset Unit := if g.1.2 = .tc then {()} else ∅
def lv (g : GSem nD τ sig) (_ : Unit) : ℕ := ((kind? g.2).map lvK).getD 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : KK) : lv (kcell (c, k)) () = lvK k := by
  dsimp only [lv]; rw [kind_ksem]; rfl

abbrev Tal : Type := CellTallies nD τ sig Unit

/-- The rows still to send: heads `n` and later. -/
def OG (c : Dev nD) (n : ℕ) : Tal :=
  ∑ j : Fin 16, if n ≤ j.val ∧ j ≠ me c then tallyAt (kcell (mate c j, kGr (me c))) () NG else 0
/-- The sum to send across. -/
def OR (c : Dev nD) : Tal := tallyAt (kcell (xp c, kRx)) () NX
/-- The barrier signals still to give: heads `n` and later. -/
def OB (c : Dev nD) (n : ℕ) : Tal :=
  ∑ j : Fin 16, if n ≤ j.val ∧ j ≠ me c then tallyAt (kcell (mate c j, kBar)) () 1 else 0
/-- All a device owes when the kernel starts. -/
def O₀ (c : Dev nD) : Tal := ((OG c 0 + OR c) + OB c 0) + tallyAt (kcell (xp c, kXr)) () 1

/-- A sum over the heads from `n` on, not this device's, loses its first term. -/
theorem sum_from (c : Dev nD) (T : Fin 16 → Tal) (j : Fin 16) :
    (∑ i : Fin 16, if j.val ≤ i.val ∧ i ≠ me c then T i else 0)
      = (∑ i : Fin 16, if j.val + 1 ≤ i.val ∧ i ≠ me c then T i else 0) + (if j ≠ me c then T j else 0) := by
  have : ∀ i : Fin 16, (if j.val ≤ i.val ∧ i ≠ me c then T i else 0)
      = (if j.val + 1 ≤ i.val ∧ i ≠ me c then T i else 0) + (if i = j then (if j ≠ me c then T j else 0) else 0) := by
    intro i
    by_cases hij : i = j
    · subst hij
      have hneg : ¬ (i.val + 1 ≤ i.val ∧ i ≠ me c) := fun h => absurd h.1 (Nat.not_succ_le_self _)
      rw [if_pos rfl, if_neg hneg, zero_add]
      by_cases hm : i ≠ me c
      · rw [if_pos ⟨le_rfl, hm⟩, if_pos hm]
      · rw [if_neg (fun h => hm h.2), if_neg hm]
    · rw [if_neg hij, add_zero]
      refine if_congr ⟨fun h => ⟨?_, h.2⟩, fun h => ⟨by omega, h.2⟩⟩ rfl rfl
      have : i.val ≠ j.val := fun h => hij (Fin.ext h)
      have := h.1; omega
  rw [Finset.sum_congr rfl fun i _ => this i, Finset.sum_add_distrib, Finset.sum_ite_eq' Finset.univ j, if_pos (Finset.mem_univ _)]

theorem OG_step (c : Dev nD) (j : Fin 16) : OG c j.val = OG c (j.val + 1) + (if j ≠ me c then tallyAt (kcell (mate c j, kGr (me c))) () NG else 0) :=
  sum_from c _ j
theorem OB_step (c : Dev nD) (j : Fin 16) : OB c j.val = OB c (j.val + 1) + (if j ≠ me c then tallyAt (kcell (mate c j, kBar)) () 1 else 0) :=
  sum_from c _ j
theorem sum_end (c : Dev nD) (T : Fin 16 → Tal) : (∑ i : Fin 16, if 16 ≤ i.val ∧ i ≠ me c then T i else 0) = 0 :=
  Finset.sum_eq_zero fun i _ => if_neg fun h => by have := i.isLt; have := h.1; omega
theorem OG_end (c : Dev nD) : OG c 16 = 0 := sum_end c _
theorem OB_end (c : Dev nD) : OB c 16 = 0 := sum_end c _

/-! ## Which cells are owed -/

/-- What is owed lies only on cells of kinds `S`. -/
def On (O : Tal) (S : KK → Prop) : Prop := ∀ g u, 0 < O g u → ∃ c k, g = kcell (c, k) ∧ S k

theorem On.add {O O' : Tal} {S : KK → Prop} (h : On O S) (h' : On O' S) : On (O + O') S := fun g u hg => by
  rw [Pi.add_apply, Finsupp.add_apply] at hg
  rcases Nat.add_pos_iff_pos_or_pos.mp hg with h1 | h1
  · exact h g u h1
  · exact h' g u h1
theorem On.zero {S : KK → Prop} : On 0 S := fun g u hg => absurd hg (by rw [Pi.zero_apply, Finsupp.zero_apply]; exact Nat.lt_irrefl 0)
theorem On.tally {S : KK → Prop} (c : Dev nD) (k : KK) (n : ℕ) (hk : S k) : On (tallyAt (kcell (c, k)) () n) S := fun g u hg => by
  rw [tallyAt_apply] at hg
  by_cases h : g = kcell (c, k) ∧ u = ()
  · exact ⟨c, k, h.1, hk⟩
  · rw [if_neg h] at hg; exact absurd hg (Nat.lt_irrefl 0)
theorem On.sum {S : KK → Prop} (T : Fin 16 → Tal) (s : Finset (Fin 16)) (h : ∀ i, On (T i) S) : On (∑ i ∈ s, T i) S := by
  classical
  induction s using Finset.induction_on with
  | empty => rw [Finset.sum_empty]; exact On.zero
  | insert a s ha ih => rw [Finset.sum_insert ha]; exact (h a).add ih
theorem On.mono {O : Tal} {S S' : KK → Prop} (h : On O S) (hs : ∀ k, S k → S' k) : On O S' := fun g u hg => by
  obtain ⟨c, k, h1, h2⟩ := h g u hg; exact ⟨c, k, h1, hs k h2⟩

theorem On_OG (c : Dev nD) (n : ℕ) : On (OG c n) (fun k => 4 ≤ lvK k) := by
  unfold OG; refine On.sum _ _ fun i => ?_
  split
  · exact On.tally _ _ _ (le_refl 4)
  · exact On.zero
theorem On_OR (c : Dev nD) : On (OR c) (fun k => 3 ≤ lvK k) := On.tally _ _ _ (le_refl 3)
theorem On_OB (c : Dev nD) (n : ℕ) : On (OB c n) (fun k => 2 ≤ lvK k) := by
  unfold OB; refine On.sum _ _ fun i => ?_
  split
  · exact On.tally _ _ _ (le_refl 2)
  · exact On.zero
theorem On_OGR (c : Dev nD) : On (OG c 0 + OR c) (fun k => 3 ≤ lvK k) :=
  ((On_OG c 0).mono fun _ h => by omega).add (On_OR c)
theorem On_O₀ (c : Dev nD) : On (O₀ c) (fun k => 1 ≤ lvK k) :=
  (((On_OGR c).mono fun _ h => by omega).add ((On_OB c 0).mono fun _ h => by omega)).add (On.tally _ _ _ (le_refl 1))

end Cert.Run

end
-- ==== Proof.Run.Contents.lean ====
/- What every buffer of the kernel holds, as pure functions of the arrays at launch: the staged keys and
   values, the transposed queries, the table of slot counts, the running sums of a device after each of its
   two blocks of tokens, the combined head, the exchange buffer, and the result. -/
module

public import proofs.«01_k».proof.Proof.Run.Proto
public import proofs.«01_k».proof.Proof.Gen.KernelIdeal.Frame
public import Idealize.ShloMosaic.Lib.ValueLayout

@[expose] public section

noncomputable section

namespace Cert.Run

open Cert.KernelIdeal Cert.KernelIdeal.Gen
open Idealize.ShloMosaic Idealize.ShloMosaic.TcCoe Idealize.ShloMosaic.ValueIdx
open Idealize.SL Idealize.SL.Sem

variable {F : FTy → Type} [FloatOps F] [Named F]
variable (m : (ℓ : Loc nD τ sig) → Buf (Elt F) ℓ)

abbrev qM : Memref sig .tc .vmem S32x16x128 .f32 := Memref.whole cc0_stg0_0
abbrev btM : Memref sig .tc .vmem S32x256 .i32 := Memref.whole cc0_stg1_0
abbrev lnM : Memref sig .tc .vmem S32x1 .i32 := Memref.whole cc0_stg2_0
abbrev oM : Memref sig .tc .vmem S32x1x16x128 .f32 := Memref.whole cc0_stg3_0
abbrev qtM : Memref sig .tc .vmem S16x32x128 .bf16 := Memref.whole cc0_scratch0
abbrev lcM : Memref sig .tc .vmem S32x8192 .f32 := Memref.whole cc0_scratch1
abbrev aK : Memref sig .tc .hbm S8192x16x128 .f32 := Memref.whole main_arg1
abbrev aV : Memref sig .tc .hbm S8192x16x128 .f32 := Memref.whole main_arg2

/-- The two grid points' coordinates. -/
abbrev i0 : grid0.Coords := grid0.coords t0_0
abbrev i1 : grid0.Coords := grid0.coords t0_1

/-! ## The rectangles read and written -/

abbrev rO : Rect S32x256 := Rect.unit (s := S32x256) ![0, 0] S32x128.size inb_S32x256_S32x128_0_0
abbrev rMx : Rect S32x256 := Rect.unit (s := S32x256) ![0, 128] S32x1.size inb_S32x256_S32x1_0_128
abbrev rL : Rect S32x256 := Rect.unit (s := S32x256) ![0, 129] S32x1.size inb_S32x256_S32x1_0_129
abbrev rAll : Rect S32x256 := Rect.unit (s := S32x256) ![0, 0] S32x256.size inb_S32x256_S32x256_0_0

/-! ## Contents -/

/-- Device `c`'s key rows at its head, by slot. -/
def KB (c : Dev nD) : Vec F S2x4096x128 .f32 := fun i =>
  (m ((c : Thread nD τ).loc main_arg1) : Vec F S8192x16x128 .f32)
    (ix3 (⟨(i 0).val * 4096 + (i 1).val, by have h0 : (i 0).val < 2 := (i 0).isLt; have h1 : (i 1).val < 4096 := (i 1).isLt; omega⟩ : Fin 8192) (me c) (i 2))
/-- Device `c`'s value rows at its head, by slot. -/
def VB (c : Dev nD) : Vec F S2x4096x128 .f32 := fun i =>
  (m ((c : Thread nD τ).loc main_arg2) : Vec F S8192x16x128 .f32)
    (ix3 (⟨(i 0).val * 4096 + (i 1).val, by have h0 : (i 0).val < 2 := (i 0).isLt; have h1 : (i 1).val < 4096 := (i 1).isLt; omega⟩ : Fin 8192) (me c) (i 2))

/-- The staged queries, page table and lengths. -/
def Qs (c : Dev nD) : Vec F S32x16x128 .f32 := iblk m c 0 t0_0
def Bs (c : Dev nD) : Vec F S32x256 .i32 := iblk m c 1 t0_0
def Ls (c : Dev nD) : Vec F S32x1 .i32 := iblk m c 2 t0_0

/-- The queries scaled and transposed. -/
def QT (c : Dev nD) : Vec F S16x32x128 .bf16 := k0_pay3 (Qs m c)
/-- The logarithms of the slot counts. -/
def LC (c : Dev nD) : Vec F S32x8192 .f32 :=
  k0_pay32 (k0_pay4 (Dev.word c) 2#32 16#32 (Bs m c) (Ls m c)) (iota .tc S256x8192 32 [1] iota_S256x8192_d1_w32) k0_pay5 k0_pay6 k0_pay7

/-- The running sums when the kernel starts. -/
def P0 : Vec F S32x256 .f32 :=
  (pM.access rMx : View sig .tc _ _ _).write (Elt F) (k0_pay33 (F := F)) (k0_pay34 (F := F)) Finset.univ

def rdK (c : Dev nD) (i : grid0.Coords) : Vec F S1x4096x128 .f32 :=
  kM.view.readAt (Elt F) (Rect.unit (s := S2x4096x128) (k0_off6 i) S1x4096x128.size (k0_off6_inb i)).toLoadRect (KB m c)
def rdV (c : Dev nD) (i : grid0.Coords) : Vec F S1x4096x128 .f32 :=
  vM.view.readAt (Elt F) (Rect.unit (s := S2x4096x128) (k0_off6 i) S1x4096x128.size (k0_off6_inb i)).toLoadRect (VB m c)
def rdQ (c : Dev nD) : Vec F S1x32x128 .bf16 :=
  qtM.view.readAt (Elt F) (Rect.unit (s := S16x32x128) (k0_off7 c) S1x32x128.size (k0_off7_inb c)).toLoadRect (QT m c)
def rdC (c : Dev nD) (i : grid0.Coords) : Vec F S32x4096 .f32 :=
  lcM.view.readAt (Elt F) (Rect.unit (s := S32x8192) (k0_off8 i) S32x4096.size (k0_off8_inb i)).toLoadRect (LC m c)
def rdO (P : Vec F S32x256 .f32) : Vec F S32x128 .f32 := pM.view.readAt (Elt F) rO.toLoadRect P
def rdM (P : Vec F S32x256 .f32) : Vec F S32x1 .f32 := pM.view.readAt (Elt F) rMx.toLoadRect P
def rdL (P : Vec F S32x256 .f32) : Vec F S32x1 .f32 := pM.view.readAt (Elt F) rL.toLoadRect P

/-- The running sums after one block of tokens: the three columns are written one after the other. -/
def stepO (c : Dev nD) (i : grid0.Coords) (P : Vec F S32x256 .f32) : Vec F S32x256 .f32 :=
  (pM.access rO : View sig .tc _ _ _).write (Elt F) P
    (k0_pay41 (k0_pay35 (rdK m c i)) (rdV m c i) (rdQ m c) (rdC m c i) (rdM P) (rdO P)) Finset.univ
def stepM (c : Dev nD) (i : grid0.Coords) (P : Vec F S32x256 .f32) : Vec F S32x256 .f32 :=
  (pM.access rMx : View sig .tc _ _ _).write (Elt F) (stepO m c i P)
    (k0_pay42 (k0_pay35 (rdK m c i)) (rdQ m c) (rdC m c i) (rdM P)) Finset.univ
def stepP (c : Dev nD) (i : grid0.Coords) (P : Vec F S32x256 .f32) : Vec F S32x256 .f32 :=
  (pM.access rL : View sig .tc _ _ _).write (Elt F) (stepM m c i P)
    (k0_pay1 (k0_pay40 (k0_pay35 (rdK m c i)) (rdQ m c) (rdC m c i) (rdM P) (rdL P))) Finset.univ

/-- A device's sums after its first and after both blocks. -/
def P1 (c : Dev nD) : Vec F S32x256 .f32 := stepP m c i0 P0
def PF (c : Dev nD) : Vec F S32x256 .f32 := stepP m c i1 (P1 m c)

/-- The head of device `c`, from its own sums and those of its partner in the other half. -/
def hd (c : Dev nD) : Vec F S1x32x128 .bf16 :=
  k0_pay14 (k0_pay11 (rdM (PF m c)) (rdL (PF m c)) (rdM (PF m (xp c))) (rdL (PF m (xp c))))
    (k0_pay12 (rdO (PF m c)) (rdM (PF m c)) (rdM (PF m (xp c))))
    (k0_pay13 (rdM (PF m c)) (rdO (PF m (xp c))) (rdM (PF m (xp c))))

/-- The exchange buffer of device `c`'s half: row `j` is the head of the device working on head `j`. -/
def GB (c : Dev nD) : Vec F S16x32x128 .bf16 := fun i => hd m (mate c (i 0)) (ix3 (0 : Fin 1) (i 1) (i 2))

theorem GB_mate (c : Dev nD) (j : Fin 16) : GB m (mate c j) = GB m c := by
  funext i; exact congrArg (fun d => hd m d (ix3 (0 : Fin 1) (i 1) (i 2))) (mate_mate c j (i 0))

/-- The result of device `c`. -/
def OUT (c : Dev nD) : Vec F S32x1x16x128 .f32 := fun i =>
  k0_pay15 (gM.view.readAt (Elt F) (rowR (i 2)).toLoadRect (GB m c)) (ix4 (i 0) (0 : Fin 1) (0 : Fin 1) (i 3))

end Cert.Run

end
-- ==== Proof.Run.Geo.lean ====
/- The geometry of the copies: where the slots of the staged keys and values and the rows of the exchange
   buffer lie, what a copy into one leaves there, and which semaphore and device each printed expression is. -/
module

public import proofs.«01_k».proof.Proof.Run.Contents
public import Idealize.ShloMosaic.Lib.Pipeline.Value
public import Idealize.ShloMosaic.Lib.Exec.Context

@[expose] public section

noncomputable section

namespace Cert.Run

open Cert.KernelIdeal Cert.KernelIdeal.Gen
open Idealize.ShloMosaic Idealize.ShloMosaic.TcCoe Idealize.ShloMosaic.ValueIdx
open Idealize.SL Idealize.SL.Sem

variable {F : FTy → Type} [FloatOps F] [Named F]
variable (m : (ℓ : Loc nD τ sig) → Buf (Elt F) ℓ)

/-! ## Rows and slots -/

theorem mem_rowR (j : Fin 16) (i : S16x32x128.Idx) : i ∈ (rowR j).set ↔ (i 0).val = j.val := by
  rw [Rect.mem_set_unit]
  constructor
  · intro h
    have h0 : j.val ≤ (i 0).val ∧ (i 0).val < j.val + 1 := h 0
    omega
  · intro h a
    fin_cases a
    · show j.val ≤ (i 0).val ∧ (i 0).val < j.val + 1; omega
    · have : (i 1).val < 32 := (i 1).isLt
      show 0 ≤ (i 1).val ∧ (i 1).val < 0 + 32; omega
    · have : (i 2).val < 128 := (i 2).isLt
      show 0 ≤ (i 2).val ∧ (i 2).val < 0 + 128; omega

theorem mem_slotR (s : Fin 2) (i : S2x4096x128.Idx) : i ∈ (slotR s).set ↔ (i 0).val = s.val := by
  rw [Rect.mem_set_unit]
  constructor
  · intro h
    have h0 : s.val ≤ (i 0).val ∧ (i 0).val < s.val + 1 := h 0
    omega
  · intro h a
    fin_cases a
    · show s.val ≤ (i 0).val ∧ (i 0).val < s.val + 1; omega
    · have : (i 1).val < 4096 := (i 1).isLt
      show 0 ≤ (i 1).val ∧ (i 1).val < 0 + 4096; omega
    · have : (i 2).val < 128 := (i 2).isLt
      show 0 ≤ (i 2).val ∧ (i 2).val < 0 + 128; omega

theorem rows_cover : Finset.univ.biUnion (fun j : Fin 16 => (rowR j).set) = (Finset.univ : Finset S16x32x128.Idx) :=
  Finset.eq_univ_iff_forall.mpr fun i => Finset.mem_biUnion.mpr ⟨i 0, Finset.mem_univ _, (mem_rowR _ i).mpr rfl⟩
theorem rows_disjoint : (↑(Finset.univ : Finset (Fin 16)) : Set (Fin 16)).PairwiseDisjoint (fun j : Fin 16 => (rowR j).set) := by
  intro j _ k _ hjk
  refine Finset.disjoint_left.mpr fun i hi hk => hjk (Fin.ext ?_)
  rw [← (mem_rowR _ _).mp hi, (mem_rowR _ _).mp hk]
theorem slots_sdiff : (Finset.univ : Finset S2x4096x128.Idx) \ (slotR 0).set = (slotR 1).set := by
  ext i
  rw [Finset.mem_sdiff, mem_slotR, mem_slotR]
  have : (i 0).val < 2 := (i 0).isLt
  constructor
  · intro h; have := h.2; show (i 0).val = 1
    have h0 : ¬ (i 0).val = 0 := this
    omega
  · intro h; refine ⟨Finset.mem_univ _, fun h' => ?_⟩
    have h1 : (i 0).val = 1 := h
    have h0 : (i 0).val = 0 := h'
    omega

/-- Reading a view's own contents back into it changes nothing there. -/
theorem write_read_self {sp : Space} {s : Shape} {e : EltTy} (v : View sig .tc sp s e) (fd f : v.ty.Contents (Elt F))
    (i : v.ty.Idx) (hi : i ∈ v.set) : v.write (Elt F) fd (v.read (Elt F) f) Finset.univ i = f i := by
  obtain ⟨k, -, rfl⟩ := Finset.mem_map.mp hi
  rw [View.write_emb_of_mem _ _ (Finset.mem_univ k), View.read_apply, cast_cast, cast_eq]

/-! ## The copies of keys and values -/

/-- The memref of the rows `off` of an array of keys or values, as the copies name it. -/
abbrev srcOf (A : Memref sig .tc .hbm S8192x16x128 .f32) (off : Fin 3 → ℕ) (h : ∀ a, off a + S4096x1x128.size a ≤ S8192x16x128.size a) :
    Memref sig .tc .hbm S4096x128 .f32 :=
  (A.slice (Rect.unit (s := S8192x16x128) off S4096x1x128.size h) (fun _ => rfl)).squeeze S4096x128 squeezes_S4096x1x128_S4096x128
/-- The memref of a slot of a staging buffer, as the copies name it. -/
abbrev dstOf (A : Memref sig .tc .vmem S2x4096x128 .f32) (off : Fin 3 → ℕ) (h : ∀ a, off a + S1x4096x128.size a ≤ S2x4096x128.size a) :
    Memref sig .tc .vmem S4096x128 .f32 :=
  (A.slice (Rect.unit (s := S2x4096x128) off S1x4096x128.size h) (fun _ => rfl)).squeeze S4096x128 squeezes_S1x4096x128_S4096x128
/-- The memref of a row of the exchange buffer, as the copies name it. -/
abbrev rowOf (off : Fin 3 → ℕ) (h : ∀ a, off a + S1x32x128.size a ≤ S16x32x128.size a) : Memref sig .tc .vmem S32x128 .bf16 :=
  (gM.slice (Rect.unit (s := S16x32x128) off S1x32x128.size h) (fun _ => rfl)).squeeze S32x128 squeezes_S1x32x128_S32x128

theorem reshape_mid {a b : ℕ} (h : (⟨2, ![a, b]⟩ : Shape).numel = (⟨3, ![a, 1, b]⟩ : Shape).numel)
    (x : Fin a) (y : Fin b) : Shape.reshapeEquiv h (ix2 x y) = ix3 x (⟨0, Nat.one_pos⟩ : Fin 1) y :=
  Shape.reshapeEquiv_eq_of_rowMajor h (by
    rw [Shape.rowMajor_val_three, Shape.rowMajor_val_two]
    show ((x.val * 1 + 0) * b + y.val) = x.val * b + y.val
    simp only [Nat.mul_one, Nat.add_zero])

theorem eta2 {n0 n1 : ℕ} (k : (⟨2, ![n0, n1]⟩ : Shape).Idx) : k = ix2 (n0 := n0) (n1 := n1) (k 0) (k 1) := by
  funext a; fin_cases a <;> rfl
theorem eta3 {n0 n1 n2 : ℕ} (k : (⟨3, ![n0, n1, n2]⟩ : Shape).Idx) : k = ix3 (n0 := n0) (n1 := n1) (n2 := n2) (k 0) (k 1) (k 2) := by
  funext a; fin_cases a <;> rfl

theorem src_emb (s : Fin 2) (h : Fin 16) (hin : ∀ a, (![s.val * 4096, h.val, 0] : Fin 3 → ℕ) a + S4096x1x128.size a ≤ S8192x16x128.size a)
    (hn : S4096x128.numel = S4096x1x128.numel) (k : S4096x128.Idx) :
    (Rect.unit (s := S8192x16x128) ![s.val * 4096, h.val, 0] S4096x1x128.size hin).emb (Shape.reshapeEquiv hn k)
      = ix3 (⟨s.val * 4096 + (k 0).val, by have h0 := s.isLt; have h1 : (k 0).val < 4096 := (k 0).isLt; omega⟩ : Fin 8192) h (k 1) := by
  have e : Shape.reshapeEquiv hn k = ix3 (k 0) (⟨0, Nat.one_pos⟩ : Fin 1) (k 1) := by
    conv_lhs => rw [eta2 k]
    exact reshape_mid hn (k 0) (k 1)
  rw [e]
  funext a
  refine Fin.ext ?_
  fin_cases a
  · show s.val * 4096 + 1 * (k 0).val = s.val * 4096 + (k 0).val; omega
  · show h.val + 1 * 0 = h.val; omega
  · show 0 + 1 * (k 1).val = (k 1).val; omega

theorem dst_emb (s : Fin 2) (hn : S4096x128.numel = S1x4096x128.numel) (k : S4096x128.Idx) :
    (slotR s).emb (Shape.reshapeEquiv hn k) = ix3 s (k 0) (k 1) := by
  have e : Shape.reshapeEquiv hn k = ix3 (⟨0, Nat.one_pos⟩ : Fin 1) (k 0) (k 1) := by
    conv_lhs => rw [eta2 k]
    exact reshapeEquiv_ix2_1ab hn (k 0) (k 1)
  rw [e]
  funext a
  refine Fin.ext ?_
  fin_cases a
  · show s.val + 1 * 0 = s.val; omega
  · show 0 + 1 * (k 0).val = (k 0).val; omega
  · show 0 + 1 * (k 1).val = (k 1).val; omega

theorem set_dstOf_k (s : Fin 2) : (dstOf kM ![s.val, 0, 0] (inb_slot s)).view.set = (slotR s).set :=
  (View.set_reshape _ _).trans (View.set_slice_whole _ _)
theorem set_dstOf_v (s : Fin 2) : (dstOf vM ![s.val, 0, 0] (inb_slot s)).view.set = (slotR s).set :=
  (View.set_reshape _ _).trans (View.set_slice_whole _ _)
theorem set_rowOf (j : Fin 16) : (rowOf ![j.val, 0, 0] (inb_row j)).view.set = (rowR j).set :=
  (View.set_reshape _ _).trans (View.set_slice_whole _ _)

theorem land_k (c : Dev nD) (s : Fin 2) (hin) (fd : Vec F S2x4096x128 .f32) (i : S2x4096x128.Idx) (hi : i ∈ (slotR s).set) :
    (dstOf kM ![s.val, 0, 0] (inb_slot s)).view.write (Elt F) fd
      ((srcOf aK ![s.val * 4096, (me c).val, 0] hin).view.read (Elt F) (m ((c : Thread nD τ).loc main_arg1))) Finset.univ i = KB m c i := by
  rw [← set_dstOf_k] at hi
  obtain ⟨k, -, rfl⟩ := Finset.mem_map.mp hi
  rw [View.write_emb_of_mem _ _ (Finset.mem_univ k)]
  show m ((c : Thread nD τ).loc main_arg1) ((Rect.unit (s := S8192x16x128) ![s.val * 4096, (me c).val, 0] S4096x1x128.size hin).emb (Shape.reshapeEquiv _ k))
    = KB m c ((slotR s).emb (Shape.reshapeEquiv _ k))
  rw [src_emb, dst_emb]
  rfl

theorem land_v (c : Dev nD) (s : Fin 2) (hin) (fd : Vec F S2x4096x128 .f32) (i : S2x4096x128.Idx) (hi : i ∈ (slotR s).set) :
    (dstOf vM ![s.val, 0, 0] (inb_slot s)).view.write (Elt F) fd
      ((srcOf aV ![s.val * 4096, (me c).val, 0] hin).view.read (Elt F) (m ((c : Thread nD τ).loc main_arg2))) Finset.univ i = VB m c i := by
  rw [← set_dstOf_v] at hi
  obtain ⟨k, -, rfl⟩ := Finset.mem_map.mp hi
  rw [View.write_emb_of_mem _ _ (Finset.mem_univ k)]
  show m ((c : Thread nD τ).loc main_arg2) ((Rect.unit (s := S8192x16x128) ![s.val * 4096, (me c).val, 0] S4096x1x128.size hin).emb (Shape.reshapeEquiv _ k))
    = VB m c ((slotR s).emb (Shape.reshapeEquiv _ k))
  rw [src_emb, dst_emb]
  rfl

/-! ## The exchange buffer -/

theorem row_emb (j : Fin 16) (k : S1x32x128.Idx) : (rowR j).emb k = ix3 j (k 1) (k 2) := by
  funext a
  refine Fin.ext ?_
  have h0 : (k 0).val < 1 := (k 0).isLt
  fin_cases a
  · show j.val + 1 * (k 0).val = j.val; omega
  · show 0 + 1 * (k 1).val = (k 1).val; omega
  · show 0 + 1 * (k 2).val = (k 2).val; omega

/-- The head a device stores in its own row of the exchange buffer. -/
theorem store_row (c : Dev nD) (f : Vec F S16x32x128 .bf16) (i : S16x32x128.Idx) (hi : i ∈ (rowR (me c)).set) :
    (gM.access (rowR (me c)) : View sig .tc _ _ _).write (Elt F) f (hd m c) Finset.univ i = GB m c i := by
  rw [← View.set_slice_whole cc0_scratch8 (rowR (me c))] at hi
  obtain ⟨k, -, rfl⟩ := Finset.mem_map.mp hi
  refine (View.write_emb_of_mem (v := (gM.access (rowR (me c)) : View sig .tc _ _ _)) f (hd m c) (Finset.mem_univ k)).trans ?_
  show hd m c k = GB m c ((rowR (me c)).emb k)
  rw [row_emb]
  show hd m c k = hd m (mate c (me c)) (ix3 (0 : Fin 1) (k 1) (k 2))
  rw [mate_me]
  refine congrArg (hd m c) ?_
  funext a
  have h0 : (k 0).val < 1 := (k 0).isLt
  fin_cases a
  · exact Fin.ext (by show (k 0).val = 0; omega)
  · rfl
  · rfl

/-! ## The printed semaphores, devices and offsets -/

theorem bar_sem : (SemArray.scalar (sig.barrier 0 rfl) : Sems sig S_).sem = (1 : Fin 2) := rfl
theorem xr_sem : (cc0_scratch13 : Sems sig S_).sem = (0 : Fin 2) := rfl
theorem sx_sem : (cc0_scratch9 : DmaSems sig S_).sem = (⟨8, by decide⟩ : Fin 42) := rfl
theorem rx_sem : (cc0_scratch10 : DmaSems sig S_).sem = (⟨9, by decide⟩ : Fin 42) := rfl

abbrev sem2 (A : DmaSems sig S2) (off : Fin 1 → ℕ) (h : ∀ a, off a + S1.size a ≤ S2.size a) : DmaSem sig :=
  ((A.slice (Rect.unit (s := S2) off S1.size h)).squeeze S_ squeezes_S1_S_).sem
abbrev sem16 (A : DmaSems sig S16) (off : Fin 1 → ℕ) (h : ∀ a, off a + S1.size a ≤ S16.size a) : DmaSem sig :=
  ((A.slice (Rect.unit (s := S16) off S1.size h)).squeeze S_ squeezes_S1_S_).sem

theorem k_sem (s : Fin 2) (h) : SemLoc.dma (sem2 cc0_scratch4 ![s.val] h) = ksem (kK s) := by revert s; decide
theorem v_sem (s : Fin 2) (h) : SemLoc.dma (sem2 cc0_scratch5 ![s.val] h) = ksem (kV s) := by revert s; decide
theorem gs_sem (j : Fin 16) (h) : SemLoc.dma (sem16 cc0_scratch11 ![j.val] h) = ksem (kGs j) := by revert j; decide
theorem gr_sem (j : Fin 16) (h) : SemLoc.dma (sem16 cc0_scratch12 ![j.val] h) = ksem (kGr j) := by revert j; decide

theorem off1_eq (c : Dev nD) : k0_off1 c = ![(0 : Fin 2).val * 4096, (me c).val, 0] := by revert c; decide
theorem off2_eq (c : Dev nD) : k0_off2 c = ![(1 : Fin 2).val * 4096, (me c).val, 0] := by revert c; decide
theorem off12_eq (c : Dev nD) : k0_off12 c = ![(me c).val, 0, 0] := by revert c; decide
theorem off13_eq (c : Dev nD) : k0_off13 c = ![(me c).val] := by revert c; decide
theorem off14_eq (c : Dev nD) : k0_off14 c = ![(me c).val, 0, 0] := by revert c; decide
theorem off45_eq (c : Dev nD) : k0_off45 c = ![(me c).val, 0, 0] := by revert c; decide
theorem dev1_eq (c : Dev nD) : k0_dev1 c = (xp c).val := by revert c; decide
theorem dev2_eq (c : Dev nD) : k0_dev2 c = (mate c 0).val := by revert c; decide
theorem cond2_iff (c : Dev nD) : k0_cond2 c = 1#1 ↔ (0 : Fin 16) ≠ me c := by revert c; decide
theorem cond1_i0 : k0_cond1 i0 = 1#1 := by decide
theorem cond1_i1 : ¬ k0_cond1 i1 = 1#1 := by decide
theorem cond18_i0 : ¬ k0_cond18 i0 = 1#1 := by decide
theorem cond18_i1 : ¬ k0_cond18 i1 = 1#1 := by decide
theorem cond19_i0 : ¬ k0_cond19 i0 = 1#1 := by decide
theorem cond19_i1 : k0_cond19 i1 = 1#1 := by decide
theorem off3_i0 : k0_off3 i0 = ![(0 : Fin 2).val] := by decide
theorem off3_i1 : k0_off3 i1 = ![(1 : Fin 2).val] := by decide
theorem off6_i0 : k0_off6 i0 = ![(0 : Fin 2).val, 0, 0] := by decide
theorem off6_i1 : k0_off6 i1 = ![(1 : Fin 2).val, 0, 0] := by decide

end Cert.Run

end
-- ==== Proof.Run.Sched.lean ====
/- The schedule of the kernel's semaphores: what every duty of every cell hands over, and what the levels
   allow a wait to owe. -/
module

public import proofs.«01_k».proof.Proof.Run.Geo
public import Idealize.ShloMosaic.Lib.ShareLeaves

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- Device `c`'s buffer `b`, on the elements `S`, at share `q`, holding `f`. -/
abbrev pts (c : Dev nD) (b : Ref sig .tc) (S : Finset b.ty.Idx) (q : PosShare TreeShare) (f : b.ty.Contents (Elt F)) : sProp 𝕄 :=
  ((c : Thread nD τ).loc b) ↦[S]{q} f

/-- What duty `d` of device `c`'s cell of kind `k` hands over. -/
def pay (c : Dev nD) : KK → Fin 16 → sProp 𝕄
  | .inl _, d => iprop(∃ f, pts (F := F) (mate c d) cc0_scratch8 (rowR (me c)).set fullShare f)
  | .inr (.inl 0), _ => pts c cc0_scratch2 (slotR 0).set fullShare (KB m c)
  | .inr (.inl 1), _ => pts c cc0_scratch2 (slotR 1).set fullShare (KB m c)
  | .inr (.inl 2), _ => pts c cc0_scratch3 (slotR 0).set fullShare (VB m c)
  | .inr (.inl 3), _ => pts c cc0_scratch3 (slotR 1).set fullShare (VB m c)
  | .inr (.inl 4), _ => pts c cc0_scratch6 Finset.univ fullShare (PF m c)
  | .inr (.inl 5), _ => pts c cc0_scratch7 Finset.univ fullShare (PF m (xp c))
  | .inr (.inl 6), _ => iprop(∃ f, pts (F := F) (xp c) cc0_scratch7 Finset.univ fullShare f)
  | .inr (.inr (.inl j)), _ => pts c cc0_scratch8 (rowR (me c)).set (ShareLeaves.leaf 4 fullShare j) (GB m c)
  | .inr (.inr (.inr j)), _ => pts c cc0_scratch8 (rowR j).set fullShare (GB m c)

instance pay_storable (c : Dev nD) (k : KK) (d : Fin 16) : BI.Storable (upEmb : UEmb _ 𝕄) (pay (F := F) m c k d) := by
  rcases k with _ | i | j | j
  · unfold pay; infer_instance
  · fin_cases i <;> (dsimp only [pay]; infer_instance)
  · unfold pay; infer_instance
  · unfold pay; infer_instance

/-- One round: round 0. -/
def Rd : Rounds.Schedule (GSem nD τ sig) (Fin 16) 𝕄 where
  duties g r := if r = 0 ∧ g.1.2 = .tc then ((kind? g.2).map (duts g.1.1)).getD ∅ else ∅
  unitless _ := False
  amount g _ _ := ((kind? g.2).map amt).getD 1
  payload g _ d := ((kind? g.2).map fun k => pay m g.1.1 k d).getD iprop(emp)
  amount_pos g _ _ _ := by
    cases h : kind? g.2 with
    | none => exact Nat.one_pos
    | some k => exact amt_pos k

instance Rd_payload_storable (g : GSem nD τ sig) (r : ℕ) (d : Fin 16) :
    BI.Storable (upEmb : UEmb _ 𝕄) ((Rd (F := F) m).payload g r d) := by
  show BI.Storable upEmb (((kind? g.2).map fun k => pay m g.1.1 k d).getD iprop(emp))
  cases h : kind? g.2 with
  | none => show BI.Storable upEmb (iprop(emp) : sProp 𝕄); infer_instance
  | some k => exact pay_storable m _ k d

theorem duties_k (c : Dev nD) (k : KK) : (Rd (F := F) m).duties (kcell (c, k)) 0 = duts c k := by
  dsimp only [Rd]; rw [if_pos ⟨rfl, rfl⟩, kind_ksem]; rfl
theorem duties_later (g : GSem nD τ sig) : ∀ r, 1 ≤ r → (Rd (F := F) m).duties g r = ∅ :=
  fun r hr => by dsimp only [Rd]; rw [if_neg fun h => by have := h.1; omega]
theorem amount_k (c : Dev nD) (k : KK) (r : ℕ) (d : Fin 16) : (Rd (F := F) m).amount (kcell (c, k)) r d = amt k := by
  dsimp only [Rd]; rw [kind_ksem]; rfl
theorem payload_k (c : Dev nD) (k : KK) (r : ℕ) (d : Fin 16) : (Rd (F := F) m).payload (kcell (c, k)) r d = pay m c k d := by
  dsimp only [Rd]; rw [kind_ksem]; rfl
theorem expect_k (c : Dev nD) (k : KK) : (Rd (F := F) m).expect (kcell (c, k)) 0 = (duts c k).card * amt k := by
  unfold Schedule.expect Schedule.amountOf
  rw [duties_k, Finset.sum_congr rfl fun d _ => amount_k m c k 0 d, Finset.sum_const, smul_eq_mul]
theorem rest_k (c : Dev nD) (k : KK) :
    bigSep ((Rd (F := F) m).duties (kcell (c, k)) 0 \ ∅) (fun d => (Rd (F := F) m).payload (kcell (c, k)) 0 d) = bigSep (duts c k) (pay m c k) := by
  rw [Finset.sdiff_empty, duties_k]
  exact bigSep_congr fun d _ => payload_k m c k 0 d

/-! ## Waits -/

/-- A wait on a cell below everything owed. -/
theorem mayWait (c : Dev nD) (sm : SemLoc sig) (n : ℕ) (hn : lv ((c : Thread nD τ), sm) () ≤ n) (O : Tal) (hO : On O fun k => n < lvK k) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by obtain ⟨c', k, rfl, -⟩ := hO g u hg; rw [L_tc]; exact Finset.mem_singleton_self _)
    (fun p hp => by rw [Finset.mem_singleton.mp hp]; exact hn)
    (fun g u hg => by obtain ⟨c', k, rfl, hk⟩ := hO g u hg; rw [show u = () from rfl, lv_kcell]; exact hk)

theorem mayWait_k (c : Dev nD) (k : KK) (O : Tal) (hO : On O fun k' => lvK k < lvK k') :
    (levAts L lv : sProp 𝕄) ⊢ MayWait (c : Thread nD τ) (ksem k) () O :=
  mayWait c (ksem k) (lvK k) (le_of_eq (lv_kcell c k)) O hO

/-! ## The ghost state -/

/-- The invariants of all cells, at the names the launch gave them, and that every cell has reached round 0. -/
def records (K : Dev nD × KK → ℕ) : sProp 𝕄 :=
  bigSep Finset.univ fun ck : Dev nD × KK => iprop(cellInv ER (Rd m) (K ck) (kcell ck) ∗ reached ER (kcell ck) 0)

instance records_persistent (K : Dev nD × KK → ℕ) : BI.Persistent (records m K) := by unfold records; infer_instance

theorem rec_inv (K : Dev nD × KK → ℕ) (c : Dev nD) (k : KK) : records m K ⊢ cellInv ER (Rd m) (K (c, k)) (kcell (c, k)) :=
  (bigSep_elim (Finset.mem_univ ((c, k) : Dev nD × KK))).trans (sep_and.trans and_elimL)
theorem rec_rch (K : Dev nD × KK → ℕ) (c : Dev nD) (k : KK) : records m K ⊢ reached ER (kcell (c, k)) 0 :=
  (bigSep_elim (Finset.mem_univ ((c, k) : Dev nD × KK))).trans (sep_and.trans and_elimR)

end Cert.Run

end
-- ==== Proof.Run.Steps.lean ====
/- The steps the kernel's body is made of, each as a rule of its own: a loop over the sixteen heads keeps a
   conjunction whose parts pass one by one from "to do" to "done"; a signal, a wait, a copy and a send each
   take a cell's token or credit and hand over what the schedule says. -/
module

public import proofs.«01_k».proof.Proof.Run.Sched

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ
variable (m : (ℓ : Loc nD τ sig) → Buf (Elt F) ℓ)

abbrev 𝒱₀ : Variants := Variants.none

abbrev PR (F : FTy → Type) (α : Type) : Type 1 := Prog (TpuEff nD τ sig (Elt F) Λ₀ .tc) α

/-- The weakest precondition of a piece of device `c`'s body. -/
abbrev WP (c : Dev nD) {α : Type} (p : PR F α) (Q : α → sProp 𝕄) : sProp 𝕄 :=
  wp frame (wpE (defs₀ (F := F)) 𝒱₀ (c : Thread nD τ) none) Set.univ p Q

/-- What device `c` owes, whatever it has waited for so far. -/
def ow (c : Dev nD) (O : Tal) : sProp 𝕄 := iprop(∃ W, owes (c : Thread nD τ) O W)

/-! ## Loops over the heads -/

/-- Before head `n`: the heads below are done, the others to do. -/
def loop (T D : Fin 16 → sProp 𝕄) (n : ℕ) : sProp 𝕄 := bigSep Finset.univ fun j : Fin 16 => if j.val < n then D j else T j

theorem loop_zero (T D : Fin 16 → sProp 𝕄) : loop T D 0 = bigSep Finset.univ T :=
  bigSep_congr fun j _ => if_neg (Nat.not_lt_zero _)
theorem loop_end (T D : Fin 16 → sProp 𝕄) : loop T D 16 = bigSep Finset.univ D :=
  bigSep_congr fun j _ => if_pos j.isLt
theorem loop_step (T D : Fin 16 → sProp 𝕄) (j : Fin 16) : loop T D j.val ⊢ iprop(T j ∗ (D j -∗ loop T D (j.val + 1))) := by
  have h1 : loop T D j.val = iprop(T j ∗ bigSep (Finset.univ.erase j) fun i : Fin 16 => if i.val < j.val then D i else T i) := by
    unfold loop; rw [bigSep_erase (Finset.mem_univ j), if_neg (Nat.lt_irrefl _)]; rfl
  have h2 : loop T D (j.val + 1) = iprop(D j ∗ bigSep (Finset.univ.erase j) fun i : Fin 16 => if i.val < j.val then D i else T i) := by
    unfold loop; rw [bigSep_erase (Finset.mem_univ j), if_pos (Nat.lt_succ_self _)]
    rw [bigSep_congr (s := Finset.univ.erase j) fun i hi => (by
      have hne : i.val ≠ j.val := fun h => (Finset.ne_of_mem_erase hi) (Fin.ext h)
      exact if_congr ⟨fun h => by omega, fun h => by omega⟩ rfl rfl :
        (if i.val < j.val + 1 then D i else T i) = (if i.val < j.val then D i else T i))]
    rfl
  rw [h1, h2]
  iintro ⟨HT, HR⟩
  isplitl [HT]; · iexact HT
  iintro HD
  isplitl [HD] <;> iassumption

/-! ## Waiting -/

/-- A wait for the whole round of a cell: all its payloads come, and the cell is closed. -/
theorem wait_k (K : Dev nD × KK → ℕ) (c : Dev nD) (k : KK) {w : TpuEff nD τ sig (Elt F) Λ₀ .tc PUnit} {sm : SemLoc sig} {n : ℕ}
    (hw : ∀ K' : PUnit → sProp 𝕄, wpE (defs₀ (F := F)) 𝒱₀ (c : Thread nD τ) none Set.univ w K' = waitSpec (c : Thread nD τ) Set.univ sm n K')
    (hsm : sm = ksem k) (hn : n = (duts c k).card * amt k) (O : Tal) (hO : On O fun k' => lvK k < lvK k')
    {α : Type} {Q : α → sProp 𝕄} {kont : PUnit → PR F α} :
    iprop(records m K ∗ levAts L lv ∗ cred (tallyAt (kcell (c, k)) () n) ∗ ow (F := F) c O ∗ atPos ER (kcell (c, k)) 0 ∅ 0)
      ⊢ iprop(((ow c O ∗ semVal (kcell (c, k)) 0 ∗ bigSep (duts c k) (pay m c k)) -∗ WP c (kont ⟨⟩) Q)
          -∗ WP c (.op w kont) Q) := by
  subst hsm
  unfold ow
  iintro ⟨#HR, #Hlev, Hc, ⟨%W, HO⟩, Hat⟩ Hk
  ihave #Hinv := (rec_inv m K c k) $$ HR
  iapply (Rounds.wp_wait_rest_token 𝒱₀ ER (Rd m) (c : Thread nD τ) none (κ := K (c, k)) hw (Set.mem_univ _) () (O := O) (W := W) (R := 0) (m := 0) (T := ∅)
    (by rw [Nat.zero_add, hn]; exact (expect_k m c k).symm)) $$ [Hc HO Hat]
  · isplitr; · iexact Hinv
    isplitl [Hc]; · iexact Hc
    isplitl [HO]; · iexact HO
    isplitr; · iapply (mayWait_k c k O hO); iexact Hlev
    iexact Hat
  iintro ⟨HO, Hat, -, Hpay⟩
  ihave Hp := (Entails.of_eq (rest_k m c k)) $$ Hpay
  imod (Rounds.cell_close ER (Rd m) (Set.mem_univ (K (c, k))) (fun h => h) (R := 0 + 1) (duties_later m (kcell (c, k)))) $$ [Hat] with Hz
  · isplitr; · iexact Hinv
    iexact Hat
  iapply Hk
  isplitl [HO]; · iexists _; iexact HO
  isplitl [Hz] <;> iassumption

/-! ## Signalling -/

theorem signal_k (K : Dev nD × KK → ℕ) (c c' n : Dev nD) (k : KK) (d : Fin 16) (s : Sem sig) (hn : n = c') (hs : SemLoc.reg s = ksem k)
    (hd : d ∈ duts c' k) (ha : amt k = 1) (O₀ O : Tal) (hO : O₀ = O + tallyAt (kcell (c', k)) () 1)
    {α : Type} {Q : α → sProp 𝕄} {kont : PUnit → PR F α} :
    iprop(records m K ∗ ow (F := F) c O₀ ∗ dutyTok ER (kcell (c', k)) 0 d ∗ pay m c' k d)
      ⊢ iprop((ow c O -∗ WP c (kont ⟨⟩) Q) -∗ WP c (.op (.semSignal (n, Proc.tc) s (1#32 : BitVec 32).toInt) kont) Q) := by
  subst hn
  unfold ow
  iintro ⟨#HR, ⟨%W, HO⟩, Ht, Hp⟩ Hk
  ihave #Hinv := (rec_inv m K n k) $$ HR
  ihave #Hr := (rec_rch m K n k) $$ HR
  have e : ((n : Thread nD τ), SemLoc.reg s) = kcell (n, k) := Prod.ext rfl hs
  iapply (Rounds.wp_signal 𝒱₀ ER (Rd m) (c : Thread nD τ) none (dst := (n : Thread nD τ)) (sem := s) (κ := K (n, k)) (r := 0)
      (d := d) (by rw [e, duties_k]; exact hd) ((by rw [e, amount_k, ha] : (Rd (F := F) m).amount ((n : Thread nD τ), SemLoc.reg s) 0 d = 1).trans (by decide)) () (O₀ := O₀) O
      (by rw [e]; exact hO) (W := W))
    $$ [HO Ht Hp]
  · rw [e]
    isplitr; · iexact Hinv
    isplitl [HO]; · iexact HO
    isplitl [Ht]; · iexact Ht
    isplitl [Hp]; · rw [payload_k]; iexact Hp
    iexact Hr
  iintro HO
  iapply Hk
  iexists _; iexact HO

end Cert.Run

end
-- ==== Proof.Run.Ghost.lean ====
/- The ghost state at launch: every device opens all its cells, the tokens are dealt to the devices that
   pay them, and the launch credit of a cell is what the devices owe it. -/
module

public import proofs.«01_k».proof.Proof.Run.Steps

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ
variable (m : (ℓ : Loc nD τ sig) → Buf (Elt F) ℓ)

theorem mate_me_me (c : Dev nD) (j : Fin 16) : mate (mate c j) (me c) = c := by rw [mate_mate, mate_me]
/-- Device `c` at head `j` against the device working on head `j` at `c`'s head. -/
def across : Dev nD × Fin 16 ≃ Dev nD × Fin 16 where
  toFun x := (mate x.1 x.2, me x.1)
  invFun x := (mate x.1 x.2, me x.1)
  left_inv x := Prod.ext (mate_me_me _ _) (me_mate _ _)
  right_inv x := Prod.ext (mate_me_me _ _) (me_mate _ _)
def xpE : Dev nD ≃ Dev nD := ⟨xp, xp, xp_xp, xp_xp⟩

/-! ## Tokens -/

abbrev TT : Type := OK ⊕ Fin 16
/-- The tokens of a device's own cells: one of each of its own semaphores, one per head of its barrier. -/
def tokOf (x : Dev nD × TT) : GSem nD τ sig × ℕ × Fin 16 := match x.2 with
  | .inl k => (kcell (x.1, .inr k), 0, 0)
  | .inr d => (kcell (x.1, kBar), 0, d)
theorem tokOf_inj : Function.Injective tokOf := by
  rintro ⟨c, k | d⟩ ⟨c', k' | d'⟩ h
  · have := kcell_inj (congrArg Prod.fst h)
    exact Prod.ext (congrArg (fun x : Dev nD × KK => x.1) this) (congrArg Sum.inl (Sum.inr.inj (congrArg Prod.snd this)))
  · have := congrArg Prod.snd (kcell_inj (congrArg Prod.fst h)); cases this
  · have := congrArg Prod.snd (kcell_inj (congrArg Prod.fst h)); cases this
  · have := kcell_inj (congrArg Prod.fst h)
    exact Prod.ext (congrArg (fun x : Dev nD × KK => x.1) this) (congrArg Sum.inr (congrArg (fun z : GSem nD τ sig × ℕ × Fin 16 => z.2.2) h))

def allCells : Finset (GSem nD τ sig) := Finset.univ.map ⟨kcell, kcell_inj⟩
def allToks : Finset (GSem nD τ sig × ℕ × Fin 16) := Finset.univ.map ⟨tokOf, tokOf_inj⟩
def u₀ : UU := (initOf (Pipeline.cells cfgs cellOf_inj) (Pipeline.launchToks cfgs cellOf_inj), initOf allCells allToks)

abbrev tokA (ck : Dev nD × KK) (d : Fin 16) : sProp 𝕄 := dutyTok ER (kcell ck) 0 d

theorem bigSep_7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_1 (Φ : Unit → sProp 𝕄) : bigSep Finset.univ Φ = Φ () :=
  bigSep_univ_eq_bigSepL [()] (by decide) (by decide) Φ
theorem bigSep_OK (Φ : OK → sProp 𝕄) : bigSep Finset.univ Φ
    = iprop((Φ (.inl 0) ∗ Φ (.inl 1) ∗ Φ (.inl 2) ∗ Φ (.inl 3) ∗ Φ (.inl 4) ∗ Φ (.inl 5) ∗ Φ (.inl 6))
      ∗ (bigSep Finset.univ fun j => Φ (.inr (.inl j))) ∗ bigSep Finset.univ fun j => Φ (.inr (.inr j))) := by
  rw [BI.bigSep_univ_sum, BI.bigSep_univ_sum, bigSep_7]; rfl
theorem bigSep_KK (Φ : KK → sProp 𝕄) : bigSep Finset.univ Φ = iprop(Φ kBar ∗ bigSep Finset.univ fun k => Φ (.inr k)) := by
  rw [BI.bigSep_univ_sum, bigSep_1]; rfl

/-- The tokens of the device's own cells. -/
def toks (c : Dev nD) : sProp 𝕄 :=
  iprop((bigSep Finset.univ fun k : OK => tokA (F := F) (c, .inr k) 0) ∗ bigSep Finset.univ fun d : Fin 16 => tokA (F := F) (c, kBar) d)
/-- The tokens of the duties it pays. -/
def payToks (c : Dev nD) : sProp 𝕄 :=
  iprop((tokA (F := F) (c, kK 0) 0 ∗ tokA (F := F) (c, kK 1) 0 ∗ tokA (F := F) (c, kV 0) 0 ∗ tokA (F := F) (c, kV 1) 0 ∗ tokA (F := F) (c, kSx) 0
      ∗ tokA (F := F) (xp c, kRx) 0 ∗ tokA (F := F) (xp c, kXr) 0)
    ∗ (bigSep Finset.univ fun j : Fin 16 => tokA (F := F) (c, kGs j) 0)
    ∗ (bigSep Finset.univ fun j : Fin 16 => tokA (F := F) (mate c j, kGr (me c)) 0)
    ∗ bigSep Finset.univ fun j : Fin 16 => tokA (F := F) (mate c j, kBar) (me c))

/-- A family over devices and heads, dealt the other way round. -/
theorem bigSep_across (Φ : Dev nD → Fin 16 → sProp 𝕄) :
    (bigSep Finset.univ fun c => bigSep Finset.univ fun j => Φ c j) = bigSep Finset.univ fun c => bigSep Finset.univ fun j => Φ (mate c j) (me c) := by
  rw [← bigSep_univ_prod (fun x : Dev nD × Fin 16 => Φ x.1 x.2), ← bigSep_univ_prod (fun x : Dev nD × Fin 16 => Φ (mate x.1 x.2) (me x.1)),
    bigSep_univ_equiv across (fun x : Dev nD × Fin 16 => Φ x.1 x.2)]
  rfl

theorem toks_around : (bigSep Finset.univ fun c : Dev nD => (toks (F := F) c : sProp 𝕄)) ⊢ bigSep Finset.univ fun c : Dev nD => payToks (F := F) c := by
  unfold toks payToks
  simp only [bigSep_OK, bigSep_sep']
  rw [bigSep_across (fun c j => tokA (F := F) (c, kGr j) 0), bigSep_across (fun c j => tokA (F := F) (c, kBar) j),
    bigSep_univ_equiv xpE (fun c : Dev nD => tokA (F := F) (c, kRx) 0), bigSep_univ_equiv xpE (fun c : Dev nD => tokA (F := F) (c, kXr) 0)]
  iintro ⟨⟨⟨H0, H1, H2, H3, H4, H5, H6⟩, Hs, Hr⟩, Hb⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [Hs]; · iexact Hs
  isplitl [Hr]; · iexact Hr
  iexact Hb

/-! ## Opening the cells -/

/-- What the launch element deals a device. -/
def G (c : Dev nD) : sProp 𝕄 :=
  iprop((bigSep Finset.univ fun k : KK => roundState ER (Rd m) (kcell (c, k)) 0)
    ∗ (bigSep Finset.univ fun k : KK => iprop(atPos ER (kcell (c, k)) 0 ∅ 0 ∗ reached ER (kcell (c, k)) 0)) ∗ toks (F := F) c)
/-- What stays with the device alone: its positions and the tokens it pays. -/
def linear (c : Dev nD) : sProp 𝕄 :=
  iprop((bigSep Finset.univ fun k : KK => atPos ER (kcell (c, k)) 0 ∅ 0) ∗ payToks (F := F) c)
def G' (c : Dev nD) : sProp 𝕄 := iprop(∃ K, records m K ∗ linear (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : KK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [BI.bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem bar_eq (c : Dev nD) : (unscopedSems0 c : sProp 𝕄) = semVal (kcell (c, kBar)) 0 := by
  unfold unscopedSems0; rw [bigSep_eq_bigSepL_of_eq [SemLoc.reg (1 : Fin 2)] (by decide) (by decide)]; rfl

theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) := by
  unfold G Pipeline.ownSems0
  rw [bar_eq]
  iintro ⟨Hos, Hus, Hst, Hat, Htok⟩
  ihave Hv := (Entails.of_eq (bigSep_KK (fun k : KK => (semVal (kcell (c, k)) 0 : sProp 𝕄))).symm) $$ [Hos Hus]
  · isplitl [Hus]; · iexact Hus
    iexact Hos
  imod (show iprop((bigSep Finset.univ fun k : KK => semVal (kcell (c, k)) 0) ∗ bigSep Finset.univ fun k : KK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × KK => iprop(∃ κ : ℕ, cellInv ER (Rd m) κ (kcell ck))),
    bigSep_congr (s := Finset.univ) (fun (c : Dev nD) _ => bigSep_sep' Finset.univ (fun k : KK => (atPos ER (kcell (c, k)) 0 ∅ 0 : sProp 𝕄)) (fun k => reached ER (kcell (c, k)) 0)),
    bigSep_sep', ← bigSep_univ_prod (fun ck : Dev nD × KK => (reached ER (kcell ck) 0 : sProp 𝕄))]
  iintro ⟨HI, ⟨Hat, #HR⟩, Htok⟩
  ihave HK := (BI.bigSep_exists_pi Finset.univ (fun (ck : Dev nD × KK) (κ : ℕ) => (cellInv ER (Rd m) κ (kcell ck) : sProp 𝕄))) $$ HI
  icases HK with ⟨%K, #HI⟩
  ihave Htk := (toks_around (F := F)) $$ Htok
  iapply (with_persistent (R := records m K) (Φ := fun c => linear (F := F) c) (Ψ := G' m) fun c _ => by
    unfold G'; iintro ⟨#H1, H2⟩; iexists K; isplitr; · iexact H1
    iexact H2)
  isplitr
  · unfold records; rw [bigSep_sep']; isplitl; · iexact HI
    iexact HR
  · unfold linear; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (regroup m))

/-! ## The launch credit -/

theorem tally_k (c d : Dev nD) (k l : KK) (n : ℕ) : (tallyAt (kcell (c, k)) () n : Tal) (kcell (d, l)) () = if c = d ∧ k = l then n else 0 := by
  rw [tallyAt_apply]
  by_cases h : c = d ∧ k = l
  · rw [if_pos h, if_pos ⟨by rw [h.1, h.2], rfl⟩]
  · rw [if_neg h, if_neg fun h' => h ⟨(kcell_eq_iff.mp h'.1).1.symm, (kcell_eq_iff.mp h'.1).2.symm⟩]

/-- Summed over devices and heads, dealt the other way round. -/
theorem sum_across (f : Dev nD → Fin 16 → ℕ) : ∑ c : Dev nD, ∑ j : Fin 16, f (mate c j) (me c) = ∑ c : Dev nD, ∑ j : Fin 16, f c j := by
  rw [← Fintype.sum_prod_type (f := fun x : Dev nD × Fin 16 => f (mate x.1 x.2) (me x.1)), ← Fintype.sum_prod_type (f := fun x : Dev nD × Fin 16 => f x.1 x.2)]
  exact Equiv.sum_comp across fun x => f x.1 x.2

theorem OG_at (d c : Dev nD) (k : KK) : OG d 0 (kcell (c, k)) () = ∑ j : Fin 16, if j ≠ me d ∧ mate d j = c ∧ kGr (me d) = k then NG else 0 := by
  unfold OG
  rw [Finset.sum_apply, Finsupp.finset_sum_apply]
  refine Finset.sum_congr rfl fun j _ => ?_
  by_cases hj : j ≠ me d
  · rw [if_pos ⟨Nat.zero_le _, hj⟩, tally_k]; exact if_congr ⟨fun h => ⟨hj, h⟩, fun h => h.2⟩ rfl rfl
  · rw [if_neg fun h => hj h.2, if_neg fun h => hj h.1]; rfl
theorem OB_at (d c : Dev nD) (k : KK) : OB d 0 (kcell (c, k)) () = ∑ j : Fin 16, if j ≠ me d ∧ mate d j = c ∧ kBar = k then 1 else 0 := by
  unfold OB
  rw [Finset.sum_apply, Finsupp.finset_sum_apply]
  refine Finset.sum_congr rfl fun j _ => ?_
  by_cases hj : j ≠ me d
  · rw [if_pos ⟨Nat.zero_le _, hj⟩, tally_k]; exact if_congr ⟨fun h => ⟨hj, h⟩, fun h => h.2⟩ rfl rfl
  · rw [if_neg fun h => hj h.2, if_neg fun h => hj h.1]; rfl

theorem sum_OG (c : Dev nD) (k : KK) : ∑ d : Dev nD, OG d 0 (kcell (c, k)) () = ∑ j : Fin 16, if j ≠ me c ∧ kGr j = k then NG else 0 := by
  rw [Finset.sum_congr rfl fun d _ => OG_at d c k]
  have h := sum_across fun d j => if me d ≠ j ∧ d = c ∧ kGr j = k then NG else 0
  simp only [me_mate] at h
  rw [h, Finset.sum_eq_single c (fun d _ hd => Finset.sum_eq_zero fun j _ => if_neg fun h => hd h.2.1) (fun h => absurd (Finset.mem_univ _) h)]
  exact Finset.sum_congr rfl fun j _ => if_congr ⟨fun h => ⟨h.1.symm, h.2.2⟩, fun h => ⟨h.1.symm, rfl, h.2⟩⟩ rfl rfl
theorem sum_OB (c : Dev nD) (k : KK) : ∑ d : Dev nD, OB d 0 (kcell (c, k)) () = ∑ j : Fin 16, if j ≠ me c ∧ kBar = k then 1 else 0 := by
  rw [Finset.sum_congr rfl fun d _ => OB_at d c k]
  have h := sum_across fun d j => if me d ≠ j ∧ d = c ∧ kBar = k then 1 else 0
  simp only [me_mate] at h
  rw [h, Finset.sum_eq_single c (fun d _ hd => Finset.sum_eq_zero fun j _ => if_neg fun h => hd h.2.1) (fun h => absurd (Finset.mem_univ _) h)]
  exact Finset.sum_congr rfl fun j _ => if_congr ⟨fun h => ⟨h.1.symm, h.2.2⟩, fun h => ⟨h.1.symm, rfl, h.2⟩⟩ rfl rfl
theorem sum_xp (c : Dev nD) (k l : KK) (n : ℕ) : ∑ d : Dev nD, (tallyAt (kcell (xp d, l)) () n : Tal) (kcell (c, k)) () = if l = k then n else 0 := by
  rw [Finset.sum_congr rfl fun d _ => tally_k (xp d) c l k n,
    Finset.sum_eq_single (xp c) (fun d _ hd => if_neg fun h => hd (by rw [← h.1, xp_xp])) (fun h => absurd (Finset.mem_univ _) h)]
  exact if_congr ⟨fun h => h.2, fun h => ⟨xp_xp c, h⟩⟩ rfl rfl

theorem sum_O₀ (c : Dev nD) (k : KK) : ∑ d : Dev nD, O₀ d (kcell (c, k)) ()
    = (((∑ j : Fin 16, if j ≠ me c ∧ kGr j = k then NG else 0) + if kRx = k then NX else 0)
      + ∑ j : Fin 16, if j ≠ me c ∧ kBar = k then 1 else 0) + if kXr = k then 1 else 0 := by
  rw [← sum_OG, ← sum_OB, ← sum_xp c k kRx, ← sum_xp c k kXr, ← Finset.sum_add_distrib, ← Finset.sum_add_distrib, ← Finset.sum_add_distrib]
  rfl

/-- What a cell is owed at launch. -/
def due (c : Dev nD) : KK → ℕ
  | .inl _ => 15
  | .inr (.inl i) => if i.val = 5 then NX else if i.val = 6 then 1 else 0
  | .inr (.inr (.inl _)) => 0
  | .inr (.inr (.inr j)) => if j = me c then 0 else NG

theorem sum_due (c : Dev nD) (k : KK) : ∑ d : Dev nD, O₀ d (kcell (c, k)) () = due c k := by
  rw [sum_O₀]
  rcases k with u | i | j | j
  · have h1 : ∀ j : Fin 16, ¬ (j ≠ me c ∧ kGr j = Sum.inl u) := fun j h => by cases h.2
    rw [Finset.sum_eq_zero fun j _ => if_neg (h1 j), if_neg (by intro h; cases h), if_neg (by intro h; cases h)]
    rw [Finset.sum_congr rfl fun j _ => if_congr (⟨fun h => h.1, fun h => ⟨h, rfl⟩⟩ : (j ≠ me c ∧ kBar = Sum.inl u) ↔ j ≠ me c) rfl rfl]
    show ((0 + 0 + ∑ j : Fin 16, if j ≠ me c then 1 else 0) + 0) = 15
    generalize me c = a
    revert a; clear h1; decide
  · have h1 : ∀ j : Fin 16, ¬ (j ≠ me c ∧ kGr j = Sum.inr (Sum.inl i)) := fun j h => by cases h.2
    have h2 : ∀ j : Fin 16, ¬ (j ≠ me c ∧ kBar = Sum.inr (Sum.inl i)) := fun j h => by cases h.2
    rw [Finset.sum_eq_zero fun j _ => if_neg (h1 j), Finset.sum_eq_zero fun j _ => if_neg (h2 j)]
    dsimp only [due]
    generalize NX = n
    fin_cases i <;> simp
  · have h1 : ∀ j' : Fin 16, ¬ (j' ≠ me c ∧ kGr j' = kGs j) := fun j' h => by cases h.2
    have h2 : ∀ j' : Fin 16, ¬ (j' ≠ me c ∧ kBar = kGs j) := fun j' h => by cases h.2
    rw [Finset.sum_eq_zero fun j _ => if_neg (h1 j), Finset.sum_eq_zero fun j _ => if_neg (h2 j), if_neg (by intro h; cases h), if_neg (by intro h; cases h)]
    rfl
  · have h2 : ∀ j' : Fin 16, ¬ (j' ≠ me c ∧ kBar = kGr j) := fun j' h => by cases h.2
    rw [Finset.sum_eq_zero fun j _ => if_neg (h2 j), if_neg (by intro h; cases h), if_neg (by intro h; cases h), add_zero, add_zero, add_zero,
      Finset.sum_eq_single j (fun j' _ hj => if_neg fun h => hj (by injection h.2 with h; injection h with h; injection h)) (fun h => absurd (Finset.mem_univ _) h)]
    dsimp only [due]
    by_cases hj : j = me c
    · rw [if_pos hj, if_neg fun h => h.1 hj]
    · rw [if_neg hj, if_pos ⟨hj, rfl⟩]

theorem launch_due (c : Dev nD) (k : KK) : tallyOn (kcell (c, k)) (launchCredit (Pipeline.owing O₀) 0 (kcell (c, k))) = (tallyAt (kcell (c, k)) () (due c k) : Tal) := by
  unfold tallyAt; refine congrArg _ (Finsupp.ext fun u => ?_); cases u
  rw [Pipeline.launchCredit_owing, Finsupp.single_eq_same, sum_due]

/-- The credit a device starts with. -/
def creds (c : Dev nD) : sProp 𝕄 := bigSep Finset.univ fun k : KK => cred (tallyAt (kcell (c, k)) () (due c k))

theorem creds_intro (c : Dev nD) : (Pipeline.launchCred O₀ c : sProp 𝕄) ⊢ creds (F := F) c := by
  unfold Pipeline.launchCred creds
  refine (bigSep_subset (t := Finset.univ.map ⟨ksem, fun _ _ h => ksem_inj h⟩) (Finset.subset_univ _)).trans ?_
  rw [bigSep_map]
  exact bigSep_mono fun k _ => Entails.of_eq (congrArg cred (launch_due c k))

end Cert.Run

end
-- ==== Proof.Run.Moves.lean ====
/- The copies of the body as rules: a slot of keys or values fetched, the running sums sent to the partner in
   the other half, a head's row sent to one device of the half, and the two waits for a row. -/
module

public import proofs.«01_k».proof.Proof.Run.Steps

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ
variable (m : (ℓ : Loc nD τ sig) → Buf (Elt F) ℓ)

/-! ## The local copies -/

theorem inb_src (c : Dev nD) (s : Fin 2) : ∀ a, (![s.val * 4096, (me c).val, 0] : Fin 3 → ℕ) a + S4096x1x128.size a ≤ S8192x16x128.size a := by
  have h := s.isLt; have h' := (me c).isLt
  intro a; fin_cases a
  · show s.val * 4096 + 4096 ≤ 8192; omega
  · show (me c).val + 1 ≤ 16; omega
  · show 0 + 128 ≤ 128; omega

/-- The rows slot `s` is fetched from. -/
abbrev srcK (c : Dev nD) (s : Fin 2) : Finset S8192x16x128.Idx := (srcOf aK ![s.val * 4096, (me c).val, 0] (inb_src c s)).view.set
abbrev srcV (c : Dev nD) (s : Fin 2) : Finset S8192x16x128.Idx := (srcOf aV ![s.val * 4096, (me c).val, 0] (inb_src c s)).view.set

theorem pay_kK (c : Dev nD) (s d) : pay (F := F) m c (kK s) d = pts c cc0_scratch2 (slotR s).set fullShare (KB m c) := by fin_cases s <;> rfl
theorem pay_kV (c : Dev nD) (s d) : pay (F := F) m c (kV s) d = pts c cc0_scratch3 (slotR s).set fullShare (VB m c) := by fin_cases s <;> rfl
theorem duts_kK (c : Dev nD) (s) : duts c (kK s) = {0} := rfl
theorem duts_kV (c : Dev nD) (s) : duts c (kV s) = {0} := rfl
theorem amt_kK (s) : amt (kK s) = NK := by fin_cases s <;> rfl
theorem amt_kV (s) : amt (kV s) = NK := by fin_cases s <;> rfl

theorem copy_K (K : Dev nD × KK → ℕ) (c : Dev nD) (s : Fin 2) (off off' : Fin 3 → ℕ) (o : Fin 1 → ℕ) (hin hin' ho)
    (hoff : off = ![s.val * 4096, (me c).val, 0]) (hoff' : off' = ![s.val, 0, 0]) (hoo : o = ![s.val]) (q : PosShare TreeShare) (fd : Vec F S2x4096x128 .f32)
    {hsrc hdst hsem} {α : Type} {Q : α → sProp 𝕄} {kont : PUnit → PR F α} :
    iprop(records m K ∗ pts c main_arg1 (srcK c s) q (m ((c : Thread nD τ).loc main_arg1)) ∗ pts c cc0_scratch2 (slotR s).set fullShare fd
        ∗ dutyTok ER (kcell (c, kK s)) 0 0)
      ⊢ iprop((cred (tallyAt (kcell (c, kK s)) () NK) -∗ WP c (kont ⟨⟩) Q)
          -∗ WP c (.op (.enqueueDma (srcOf aK off hin) (.here (dstOf kM off' hin')) (.dma (sem2 cc0_scratch4 o ho)) hsrc hdst hsem) kont) Q) := by
  subst hoff hoff' hoo
  iintro ⟨#HR, Hs, Hd, Ht⟩ Hk
  ihave #Hinv := (rec_inv m K c (kK s)) $$ HR
  ihave #Hr := (rec_rch m K c (kK s)) $$ HR
  have e : ((c : Thread nD τ), SemLoc.dma (sem2 cc0_scratch4 ![s.val] ho)) = kcell (c, kK s) := Prod.ext rfl (k_sem s ho)
  have hpay : iprop(((dstOf kM ![s.val, 0, 0] hin').view.loc (c : Thread nD τ) ↦[(dstOf kM ![s.val, 0, 0] hin').view.set]{fullShare}
        ((dstOf kM ![s.val, 0, 0] hin').view.write (Elt F) fd ((srcOf aK ![s.val * 4096, (me c).val, 0] hin).view.read (Elt F) (m ((c : Thread nD τ).loc main_arg1))) Finset.univ))
      ∗ ((srcOf aK ![s.val * 4096, (me c).val, 0] hin).view.loc (c : Thread nD τ) ↦[(srcOf aK ![s.val * 4096, (me c).val, 0] hin).view.set]{q} (m ((c : Thread nD τ).loc main_arg1))))
      ⊢ (pay m c (kK s) 0 : sProp 𝕄) := by
    rw [pay_kK, set_dstOf_k]
    iintro ⟨H, -⟩
    iapply (Entails.of_eq (pointsTo_congr (fun i hi => land_k m c s hin fd i hi)))
    iexact H
  iapply (Rounds.wp_copy_pointsTo 𝒱₀ ER (Rd m) (c : Thread nD τ) none (κ := K (c, kK s)) (r := 0) (d := 0) (q := q) (fs := m ((c : Thread nD τ).loc main_arg1)) (fd := fd)
    (by rw [e, duties_k, duts_kK]; exact Finset.mem_singleton_self _) () NK rfl (by rw [e, amount_k, amt_kK])
    (by rw [e, payload_k]; exact hpay)) $$ [Hs Hd Ht]
  · rw [e]
    isplitr; · iexact Hinv
    isplitl [Hs]; · iexact Hs
    isplitl [Hd]; · rw [set_dstOf_k]; iexact Hd
    isplitl [Ht]; · iexact Ht
    iexact Hr
  rw [e]
  iexact Hk

theorem copy_V (K : Dev nD × KK → ℕ) (c : Dev nD) (s : Fin 2) (off off' : Fin 3 → ℕ) (o : Fin 1 → ℕ) (hin hin' ho)
    (hoff : off = ![s.val * 4096, (me c).val, 0]) (hoff' : off' = ![s.val, 0, 0]) (hoo : o = ![s.val]) (q : PosShare TreeShare) (fd : Vec F S2x4096x128 .f32)
    {hsrc hdst hsem} {α : Type} {Q : α → sProp 𝕄} {kont : PUnit → PR F α} :
    iprop(records m K ∗ pts c main_arg2 (srcV c s) q (m ((c : Thread nD τ).loc main_arg2)) ∗ pts c cc0_scratch3 (slotR s).set fullShare fd
        ∗ dutyTok ER (kcell (c, kV s)) 0 0)
      ⊢ iprop((cred (tallyAt (kcell (c, kV s)) () NK) -∗ WP c (kont ⟨⟩) Q)
          -∗ WP c (.op (.enqueueDma (srcOf aV off hin) (.here (dstOf vM off' hin')) (.dma (sem2 cc0_scratch5 o ho)) hsrc hdst hsem) kont) Q) := by
  subst hoff hoff' hoo
  iintro ⟨#HR, Hs, Hd, Ht⟩ Hk
  ihave #Hinv := (rec_inv m K c (kV s)) $$ HR
  ihave #Hr := (rec_rch m K c (kV s)) $$ HR
  have e : ((c : Thread nD τ), SemLoc.dma (sem2 cc0_scratch5 ![s.val] ho)) = kcell (c, kV s) := Prod.ext rfl (v_sem s ho)
  have hpay : iprop(((dstOf vM ![s.val, 0, 0] hin').view.loc (c : Thread nD τ) ↦[(dstOf vM ![s.val, 0, 0] hin').view.set]{fullShare}
        ((dstOf vM ![s.val, 0, 0] hin').view.write (Elt F) fd ((srcOf aV ![s.val * 4096, (me c).val, 0] hin).view.read (Elt F) (m ((c : Thread nD τ).loc main_arg2))) Finset.univ))
      ∗ ((srcOf aV ![s.val * 4096, (me c).val, 0] hin).view.loc (c : Thread nD τ) ↦[(srcOf aV ![s.val * 4096, (me c).val, 0] hin).view.set]{q} (m ((c : Thread nD τ).loc main_arg2))))
      ⊢ (pay m c (kV s) 0 : sProp 𝕄) := by
    rw [pay_kV, set_dstOf_v]
    iintro ⟨H, -⟩
    iapply (Entails.of_eq (pointsTo_congr (fun i hi => land_v m c s hin fd i hi)))
    iexact H
  iapply (Rounds.wp_copy_pointsTo 𝒱₀ ER (Rd m) (c : Thread nD τ) none (κ := K (c, kV s)) (r := 0) (d := 0) (q := q) (fs := m ((c : Thread nD τ).loc main_arg2)) (fd := fd)
    (by rw [e, duties_k, duts_kV]; exact Finset.mem_singleton_self _) () NK rfl (by rw [e, amount_k, amt_kV])
    (by rw [e, payload_k]; exact hpay)) $$ [Hs Hd Ht]
  · rw [e]
    isplitr; · iexact Hinv
    isplitl [Hs]; · iexact Hs
    isplitl [Hd]; · rw [set_dstOf_v]; iexact Hd
    isplitl [Ht]; · iexact Ht
    iexact Hr
  rw [e]
  iexact Hk

/-! ## The sum sent across -/

theorem send_X (K : Dev nD × KK → ℕ) (c n : Dev nD) (hn : n = xp c) (O : Tal) (fd : Vec F S32x256 .f32)
    {hsc hsrc hdst hsem} {α : Type} {Q : α → sProp 𝕄} {kont : PUnit → PR F α} :
    iprop(records m K ∗ pts c cc0_scratch6 Finset.univ fullShare (PF m c) ∗ pts (xp c) cc0_scratch7 Finset.univ fullShare fd
        ∗ ow (F := F) c (O + OR c) ∗ dutyTok ER (kcell (c, kSx)) 0 0 ∗ dutyTok ER (kcell (xp c, kRx)) 0 0)
      ⊢ iprop(((cred (tallyAt (kcell (c, kSx)) () NX) ∗ ow c O) -∗ WP c (kont ⟨⟩) Q)
          -∗ WP c (.op (.enqueueDma pM (.remote (Dev.tc n : Thread nD τ) rM (.dma (cc0_scratch9 : DmaSems sig S_).sem) hsc) (.dma (cc0_scratch10 : DmaSems sig S_).sem) hsrc hdst hsem) kont) Q) := by
  subst hn
  unfold ow
  iintro ⟨#HR, Hs, Hd, ⟨%W, HO⟩, Ht1, Ht2⟩ Hk
  ihave #Hinv1 := (rec_inv m K c kSx) $$ HR
  ihave #Hr1 := (rec_rch m K c kSx) $$ HR
  ihave #Hinv2 := (rec_inv m K (xp c) kRx) $$ HR
  ihave #Hr2 := (rec_rch m K (xp c) kRx) $$ HR
  have e1 : ((c : Thread nD τ), SemLoc.dma (cc0_scratch9 : DmaSems sig S_).sem) = kcell (c, kSx) := Prod.ext rfl rfl
  have e2 : ((xp c : Thread nD τ), SemLoc.dma (cc0_scratch10 : DmaSems sig S_).sem) = kcell (xp c, kRx) := Prod.ext rfl rfl
  have hpay1 : (pM.view.loc (c : Thread nD τ) ↦[pM.view.set]{fullShare} PF m c) ⊢ (pay m c kSx 0 : sProp 𝕄) := by
    rw [show pM.view.set = Finset.univ from View.set_whole _]; exact .rfl
  have hpay2 : (rM.view.loc (xp c : Thread nD τ) ↦[rM.view.set]{fullShare} (rM.view.write (Elt F) fd (pM.view.read (Elt F) (PF m c)) Finset.univ)) ⊢ (pay m (xp c) kRx 0 : sProp 𝕄) := by
    show _ ⊢ pts (xp c) cc0_scratch7 Finset.univ fullShare (PF m (xp (xp c)))
    rw [xp_xp, show rM.view.write (Elt F) fd (pM.view.read (Elt F) (PF m c)) Finset.univ = PF m c from View.write_whole_univ _ _ _, show rM.view.set = Finset.univ from View.set_whole _]
  iapply (Rounds.wp_send_pointsTo 𝒱₀ ER (Rd m) (c : Thread nD τ) none (κ₁ := K (c, kSx)) (κ₂ := K (xp c, kRx)) (c' := (xp c : Thread nD τ))
    (r₁ := 0) (r₂ := 0) (d₁ := 0) (d₂ := 0) (fs := PF m c) (fd := fd) (q := fullShare)
    (by rw [e1, duties_k]; exact Finset.mem_singleton_self _) (by rw [e2, duties_k]; exact Finset.mem_singleton_self _)
    () () NX rfl (by rw [e1, amount_k]; rfl) (by rw [e2, amount_k]; rfl) (O₀ := O + OR c) O (by rw [e2]; rfl) (W := W)
    (by rw [e1, payload_k]; exact hpay1) (by rw [e2, payload_k]; exact hpay2)) $$ [Hs Hd HO Ht1 Ht2]
  · rw [e1, e2]
    isplitr; · iexact Hinv1
    isplitr; · iexact Hinv2
    isplitl [Hs]; · rw [show pM.view.set = Finset.univ from View.set_whole _]; iexact Hs
    isplitl [Hd]; · rw [show rM.view.set = Finset.univ from View.set_whole _]; iexact Hd
    isplitl [HO]; · iexact HO
    isplitl [Ht1]; · iexact Ht1
    isplitr; · iexact Hr1
    isplitl [Ht2]; · iexact Ht2
    iexact Hr2
  rw [e1]
  iintro ⟨Hc, HO⟩
  iapply Hk
  isplitl [Hc]; · iexact Hc
  iexists _; iexact HO

/-! ## A row sent to one device of the half -/

theorem send_row (K : Dev nD × KK → ℕ) (c n : Dev nD) (j : Fin 16) (hj : j ≠ me c) (hn : n = mate c j) (off : Fin 3 → ℕ) (o o' : Fin 1 → ℕ) (hin ho ho')
    (hoff : off = ![(me c).val, 0, 0]) (hoo : o = ![j.val]) (hoo' : o' = ![(me c).val]) (O : Tal) (fd : Vec F S16x32x128 .bf16)
    {hsc hsrc hdst hsem} {α : Type} {Q : α → sProp 𝕄} {kont : PUnit → PR F α} :
    iprop(records m K ∗ pts c cc0_scratch8 (rowR (me c)).set (ShareLeaves.leaf 4 fullShare j) (GB m c)
        ∗ pts (mate c j) cc0_scratch8 (rowR (me c)).set fullShare fd
        ∗ ow (F := F) c (O + tallyAt (kcell (mate c j, kGr (me c))) () NG) ∗ dutyTok ER (kcell (c, kGs j)) 0 0 ∗ dutyTok ER (kcell (mate c j, kGr (me c))) 0 0)
      ⊢ iprop(((cred (tallyAt (kcell (c, kGs j)) () NG) ∗ ow c O) -∗ WP c (kont ⟨⟩) Q)
          -∗ WP c (.op (.enqueueDma (rowOf off hin) (.remote (Dev.tc n : Thread nD τ) (rowOf off hin) (.dma (sem16 cc0_scratch11 o ho)) hsc)
              (.dma (sem16 cc0_scratch12 o' ho')) hsrc hdst hsem) kont) Q) := by
  subst hn hoff hoo hoo'
  unfold ow
  iintro ⟨#HR, Hs, Hd, ⟨%W, HO⟩, Ht1, Ht2⟩ Hk
  ihave #Hinv1 := (rec_inv m K c (kGs j)) $$ HR
  ihave #Hr1 := (rec_rch m K c (kGs j)) $$ HR
  ihave #Hinv2 := (rec_inv m K (mate c j) (kGr (me c))) $$ HR
  ihave #Hr2 := (rec_rch m K (mate c j) (kGr (me c))) $$ HR
  have e1 : ((c : Thread nD τ), SemLoc.dma (sem16 cc0_scratch11 ![j.val] ho)) = kcell (c, kGs j) := Prod.ext rfl (gs_sem j ho)
  have e2 : ((mate c j : Thread nD τ), SemLoc.dma (sem16 cc0_scratch12 ![(me c).val] ho')) = kcell (mate c j, kGr (me c)) := Prod.ext rfl (gr_sem (me c) ho')
  have hd1 : duts c (kGs j) = {0} := if_neg hj
  have hd2 : duts (mate c j) (kGr (me c)) = {0} := if_neg (by rw [me_mate]; exact fun h => hj h.symm)
  have hpay1 : ((rowOf ![(me c).val, 0, 0] hin).view.loc (c : Thread nD τ) ↦[(rowOf ![(me c).val, 0, 0] hin).view.set]{ShareLeaves.leaf 4 fullShare j} GB m c)
      ⊢ (pay m c (kGs j) 0 : sProp 𝕄) := by
    rw [set_rowOf]; exact .rfl
  have hpay2 : ((rowOf ![(me c).val, 0, 0] hin).view.loc (mate c j : Thread nD τ) ↦[(rowOf ![(me c).val, 0, 0] hin).view.set]{fullShare}
        ((rowOf ![(me c).val, 0, 0] hin).view.write (Elt F) fd ((rowOf ![(me c).val, 0, 0] hin).view.read (Elt F) (GB m c)) Finset.univ))
      ⊢ (pay m (mate c j) (kGr (me c)) 0 : sProp 𝕄) := by
    show _ ⊢ pts (mate c j) cc0_scratch8 (rowR (me c)).set fullShare (GB m (mate c j))
    rw [GB_mate]
    have h := pointsTo_congr (Ix := Unit) (Name := ℕ) (U := UU) (Lvl := ℕ) (ℓ := (rowOf ![(me c).val, 0, 0] hin).view.loc (mate c j : Thread nD τ)) (q := fullShare)
      (fun i hi => write_read_self (rowOf ![(me c).val, 0, 0] hin).view fd (GB m c) i hi)
    rw [h, set_rowOf]
  iapply (Rounds.wp_send_pointsTo 𝒱₀ ER (Rd m) (c : Thread nD τ) none (κ₁ := K (c, kGs j)) (κ₂ := K (mate c j, kGr (me c))) (c' := (mate c j : Thread nD τ))
    (r₁ := 0) (r₂ := 0) (d₁ := 0) (d₂ := 0) (fs := GB m c) (fd := fd) (q := ShareLeaves.leaf 4 fullShare j)
    (by rw [e1, duties_k, hd1]; exact Finset.mem_singleton_self _) (by rw [e2, duties_k, hd2]; exact Finset.mem_singleton_self _)
    () () NG rfl (by rw [e1, amount_k]; rfl) (by rw [e2, amount_k]; rfl) (O₀ := O + tallyAt (kcell (mate c j, kGr (me c))) () NG) O (by rw [e2]) (W := W)
    (by rw [e1, payload_k]; exact hpay1) (by rw [e2, payload_k]; exact hpay2)) $$ [Hs Hd HO Ht1 Ht2]
  · rw [e1, e2]
    isplitr; · iexact Hinv1
    isplitr; · iexact Hinv2
    isplitl [Hs]; · rw [set_rowOf]; iexact Hs
    isplitl [Hd]; · rw [set_rowOf]; iexact Hd
    isplitl [HO]; · iexact HO
    isplitl [Ht1]; · iexact Ht1
    isplitr; · iexact Hr1
    isplitl [Ht2]; · iexact Ht2
    iexact Hr2
  rw [e1]
  iintro ⟨Hc, HO⟩
  iapply Hk
  isplitl [Hc]; · iexact Hc
  iexists _; iexact HO

end Cert.Run

end
-- ==== Proof.Run.Rules.lean ====
/- The rules the body is run by, on the text of its pieces: a piece and what follows it, a load, a store, a
   wait, a copy, each taking what it needs and going on with what it leaves. -/
module

public import proofs.«01_k».proof.Proof.Run.Moves

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ
variable (m : (ℓ : Loc nD τ sig) → Buf (Elt F) ℓ)

/-- A piece of the body on the buffers and semaphores it is called with. -/
abbrev here {X : Sort _} (f :
    (arg1 : Memref sig .tc .vmem S32x16x128 .f32) → (harg1 : arg1.IsWhole) → (arg2 : Memref sig .tc .hbm S8192x16x128 .f32) →
    (harg2 : arg2.IsWhole) → (arg3 : Memref sig .tc .hbm S8192x16x128 .f32) → (harg3 : arg3.IsWhole) →
    (arg4 : Memref sig .tc .vmem S32x256 .i32) → (harg4 : arg4.IsWhole) → (arg5 : Memref sig .tc .vmem S32x1 .i32) →
    (harg5 : arg5.IsWhole) → (arg6 : Memref sig .tc .vmem S32x1x16x128 .f32) → (harg6 : arg6.IsWhole) →
    (arg7 : Memref sig .tc .vmem S16x32x128 .bf16) → (harg7 : arg7.IsWhole) → (arg8 : Memref sig .tc .vmem S32x8192 .f32) →
    (harg8 : arg8.IsWhole) → (arg9 : Memref sig .tc .vmem S2x4096x128 .f32) → (harg9 : arg9.IsWhole) →
    (arg10 : Memref sig .tc .vmem S2x4096x128 .f32) → (harg10 : arg10.IsWhole) → (arg11 : DmaSems sig S2) →
    (arg12 : DmaSems sig S2) → (arg13 : Memref sig .tc .vmem S32x256 .f32) → (harg13 : arg13.IsWhole) →
    (arg14 : Memref sig .tc .vmem S32x256 .f32) → (harg14 : arg14.IsWhole) → (arg15 : Memref sig .tc .vmem S16x32x128 .bf16) →
    (harg15 : arg15.IsWhole) → (arg16 : DmaSems sig S_) → (arg17 : DmaSems sig S_) → (arg18 : DmaSems sig S16) →
    (arg19 : DmaSems sig S16) → (arg20 : Sems sig S_) → X) : X :=
  f qM (Memref.isWhole_whole _) aK (Memref.isWhole_whole _) aV (Memref.isWhole_whole _) btM (Memref.isWhole_whole _) lnM (Memref.isWhole_whole _) oM (Memref.isWhole_whole _) qtM (Memref.isWhole_whole _) lcM (Memref.isWhole_whole _) kM (Memref.isWhole_whole _) vM (Memref.isWhole_whole _) cc0_scratch4 cc0_scratch5 pM (Memref.isWhole_whole _) rM (Memref.isWhole_whole _) gM (Memref.isWhole_whole _) cc0_scratch9 cc0_scratch10 cc0_scratch11 cc0_scratch12 cc0_scratch13

/-- The weakest precondition of a piece of device `c`'s body, kept folded: the rules below go by the piece's text. -/
@[irreducible] def RUN (c : Dev nD) {α : Type} (p : PR F α) (Q : α → sProp 𝕄) : sProp 𝕄 := WP c p Q

theorem RUN_eq (c : Dev nD) {α : Type} (p : PR F α) (Q : α → sProp 𝕄) : RUN c p Q = WP c p Q := by unfold RUN; rfl

theorem dev_of {n : ℕ} {h : n < nD} (d : Dev nD) (e : n = d.val) : (⟨n, h⟩ : Dev nD) = d := Fin.ext e

theorem ret_step (c : Dev nD) {α : Type} {x : α} {Q : α → sProp 𝕄} {P : sProp 𝕄} (h : P ⊢ Q x) : P ⊢ RUN c (pure x : PR F α) Q := by
  rw [RUN_eq]
  show P ⊢ wp _ _ _ (Prog.ret x) Q
  rw [wp_ret]
  exact h.trans fupd_intro

theorem lift_bind {α β : Type} (e : TpuEff nD τ sig (Elt F) Λ₀ .tc α) (k : α → PR F β) : ((Prog.lift e : PR F α) >>= k) = .op e k := rfl

theorem bind_run (c : Dev nD) {α β : Type} {p : PR F α} {k : α → PR F β} {Q : β → sProp 𝕄} :
    RUN c p (fun a => RUN c (k a) Q) ⊢ RUN c (p >>= k) Q := by
  simp only [RUN_eq]
  exact Entails.of_eq (wp_bind ..).symm

theorem dev_run (c : Dev nD) {β : Type} {k : Dev nD → PR F β} {Q : β → sProp 𝕄} : RUN c (k c) Q ⊢ RUN c ((Prog.lift .deviceId : PR F (Dev nD)) >>= k) Q := by
  simp only [RUN_eq, lift_bind, WP, wp_deviceId]; exact .rfl

theorem load_run (c : Dev nD) {cs : CoreSpace} {s : Shape} {e : EltTy} (M : Memref sig .tc cs s e) {r : LoadRect s} {hl : M.view.LoadsAt r}
    {β : Type} {k : (r.shape.Idx → Elt F e) → PR F β} {Q : β → sProp 𝕄} {S : Finset (Idx (M.view.loc (c : Thread nD τ)))} {q : PosShare TreeShare}
    {f : Buf (Elt F) (M.view.loc (c : Thread nD τ))} (hS : M.view.setOn r.set ⊆ S) :
    (M.view.loc (c : Thread nD τ) ↦[S]{q} f)
      ⊢ iprop(((M.view.loc (c : Thread nD τ) ↦[S]{q} f) -∗ RUN c (k (M.view.readAt (Elt F) r f)) Q) -∗ RUN c ((Prog.lift (.load M r hl) : PR F _) >>= k) Q) := by
  simp only [RUN_eq, lift_bind]
  exact wp_load 𝒱₀ (c : Thread nD τ) none Set.univ hS

theorem store_run (c : Dev nD) {cs : CoreSpace} {s : Shape} {e : EltTy} (M : Memref sig .tc cs s e) {r : Rect s} {w : r.shape.Idx → Elt F e}
    {hx : (M.access r).Stores Finset.univ} {hm : (Finset.univ : Finset r.shape.Idx) = Finset.univ ∨ ∀ a, r.stride a = 1}
    {β : Type} {k : PUnit → PR F β} {Q : β → sProp 𝕄} {S : Finset (Idx ((M.access r).loc (c : Thread nD τ)))}
    {f : Buf (Elt F) ((M.access r).loc (c : Thread nD τ))} (hS : (M.access r).setOn Finset.univ ⊆ S) :
    ((M.access r).loc (c : Thread nD τ) ↦[S]{fullShare} f)
      ⊢ iprop((((M.access r).loc (c : Thread nD τ) ↦[S]{fullShare} ((M.access r).write (Elt F) f w Finset.univ)) -∗ RUN c (k ⟨⟩) Q)
        -∗ RUN c ((Prog.lift (.store M r w Finset.univ hx hm) : PR F _) >>= k) Q) := by
  simp only [RUN_eq, lift_bind]
  exact wp_store 𝒱₀ (c : Thread nD τ) none Set.univ hS

/-- A wait on a copy's semaphore. -/
theorem waitD_run (K : Dev nD × KK → ℕ) (c : Dev nD) (k : KK) {sem : DmaSem sig} {sp sp' : Space} {s s' : Shape} {e e' : EltTy}
    {src : Memref sig .tc sp' s' e'} {dst : Memref sig .tc sp s e} {hsrc : src.view.WordExact} {hdst : dst.view.WordExact}
    (hsm : SemLoc.dma sem = ksem k) (N : ℕ) (hc : dst.view.dmaCredit = N) (hN : N = (duts c k).card * amt k) (O : Tal) (hO : On O fun k' => lvK k < lvK k')
    {β : Type} {kont : PUnit → PR F β} {Q : β → sProp 𝕄} :
    iprop(records m K ∗ levAts L lv ∗ cred (tallyAt (kcell (c, k)) () N) ∗ ow (F := F) c O ∗ atPos ER (kcell (c, k)) 0 ∅ 0)
      ⊢ iprop(((ow c O ∗ semVal (kcell (c, k)) 0 ∗ bigSep (duts c k) (pay m c k)) -∗ RUN c (kont ⟨⟩) Q)
          -∗ RUN c ((Prog.lift (.waitDma2 sem src dst hsrc hdst) : PR F _) >>= kont) Q) := by
  subst hc
  simp only [RUN_eq, lift_bind]
  exact wait_k m K c k (fun K' => wpE_waitDma2_eq 𝒱₀ (c : Thread nD τ) none Set.univ K') hsm hN O hO

/-- A wait on a signal's semaphore. -/
theorem waitS_run (K : Dev nD × KK → ℕ) (c : Dev nD) (k : KK) {sem : Sem sig} {w : BitVec 32}
    (hsm : SemLoc.reg sem = ksem k) (N : ℕ) (hc : w.toInt = (N : ℤ)) (hN : N = (duts c k).card * amt k) (O : Tal) (hO : On O fun k' => lvK k < lvK k')
    {β : Type} {kont : PUnit → PR F β} {Q : β → sProp 𝕄} :
    iprop(records m K ∗ levAts L lv ∗ cred (tallyAt (kcell (c, k)) () N) ∗ ow (F := F) c O ∗ atPos ER (kcell (c, k)) 0 ∅ 0)
      ⊢ iprop(((ow c O ∗ semVal (kcell (c, k)) 0 ∗ bigSep (duts c k) (pay m c k)) -∗ RUN c (kont ⟨⟩) Q)
          -∗ RUN c ((semWaitWord sem w : PR F PUnit) >>= kont) Q) := by
  have e : ((semWaitWord sem w : PR F PUnit) >>= kont) = .op (.semWait sem (N : ℤ)) kont := by
    rw [← hc]; rfl
  rw [e]
  simp only [RUN_eq]
  exact wait_k m K c k (fun K' => wpE_semWait_eq 𝒱₀ (c : Thread nD τ) none Set.univ K') hsm hN O hO

theorem copy_K_run (K : Dev nD × KK → ℕ) (c : Dev nD) (s : Fin 2) {off off' : Fin 3 → ℕ} {o : Fin 1 → ℕ} {hin hin' ho}
    (hoff : off = ![s.val * 4096, (me c).val, 0]) (hoff' : off' = ![s.val, 0, 0]) (hoo : o = ![s.val]) (q : PosShare TreeShare) (fd : Vec F S2x4096x128 .f32)
    {hsrc hdst hsem} {β : Type} {Q : β → sProp 𝕄} {kont : PUnit → PR F β} :
    iprop(records m K ∗ pts c main_arg1 (srcK c s) q (m ((c : Thread nD τ).loc main_arg1)) ∗ pts c cc0_scratch2 (slotR s).set fullShare fd
        ∗ dutyTok ER (kcell (c, kK s)) 0 0)
      ⊢ iprop((cred (tallyAt (kcell (c, kK s)) () NK) -∗ RUN c (kont ⟨⟩) Q)
          -∗ RUN c ((Prog.lift (.enqueueDma (srcOf aK off hin) (.here (dstOf kM off' hin')) (.dma (sem2 cc0_scratch4 o ho)) hsrc hdst hsem) : PR F _) >>= kont) Q) := by
  simp only [RUN_eq, lift_bind]
  exact copy_K m K c s off off' o hin hin' ho hoff hoff' hoo q fd

theorem copy_V_run (K : Dev nD × KK → ℕ) (c : Dev nD) (s : Fin 2) {off off' : Fin 3 → ℕ} {o : Fin 1 → ℕ} {hin hin' ho}
    (hoff : off = ![s.val * 4096, (me c).val, 0]) (hoff' : off' = ![s.val, 0, 0]) (hoo : o = ![s.val]) (q : PosShare TreeShare) (fd : Vec F S2x4096x128 .f32)
    {hsrc hdst hsem} {β : Type} {Q : β → sProp 𝕄} {kont : PUnit → PR F β} :
    iprop(records m K ∗ pts c main_arg2 (srcV c s) q (m ((c : Thread nD τ).loc main_arg2)) ∗ pts c cc0_scratch3 (slotR s).set fullShare fd
        ∗ dutyTok ER (kcell (c, kV s)) 0 0)
      ⊢ iprop((cred (tallyAt (kcell (c, kV s)) () NK) -∗ RUN c (kont ⟨⟩) Q)
          -∗ RUN c ((Prog.lift (.enqueueDma (srcOf aV off hin) (.here (dstOf vM off' hin')) (.dma (sem2 cc0_scratch5 o ho)) hsrc hdst hsem) : PR F _) >>= kont) Q) := by
  simp only [RUN_eq, lift_bind]
  exact copy_V m K c s off off' o hin hin' ho hoff hoff' hoo q fd

theorem send_X_run (K : Dev nD × KK → ℕ) (c : Dev nD) {n : Dev nD} (hn : n = xp c) (O : Tal) (fd : Vec F S32x256 .f32)
    {hsc hsrc hdst hsem} {β : Type} {Q : β → sProp 𝕄} {kont : PUnit → PR F β} :
    iprop(records m K ∗ pts c cc0_scratch6 Finset.univ fullShare (PF m c) ∗ pts (xp c) cc0_scratch7 Finset.univ fullShare fd
        ∗ ow (F := F) c (O + OR c) ∗ dutyTok ER (kcell (c, kSx)) 0 0 ∗ dutyTok ER (kcell (xp c, kRx)) 0 0)
      ⊢ iprop(((cred (tallyAt (kcell (c, kSx)) () NX) ∗ ow c O) -∗ RUN c (kont ⟨⟩) Q)
          -∗ RUN c ((Prog.lift (.enqueueDma pM (.remote (Dev.tc n : Thread nD τ) rM (.dma (cc0_scratch9 : DmaSems sig S_).sem) hsc) (.dma (cc0_scratch10 : DmaSems sig S_).sem) hsrc hdst hsem) : PR F _) >>= kont) Q) := by
  simp only [RUN_eq, lift_bind]
  exact send_X m K c n hn O fd

end Cert.Run

end
-- ==== Proof.Run.Loops.lean ====
/- The steps of the loops over the heads: a device's signal to each other device of its half, its row sent to
   each of them, and the waits for the rows sent and received. A step whose head is the device's own does nothing. -/
module

public import proofs.«01_k».proof.Proof.Run.Rules

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ
variable (m : (ℓ : Loc nD τ sig) → Buf (Elt F) ℓ)

/-- A head for which nothing is to do stays as it is. -/
theorem loop_keep (T D : Fin 16 → sProp 𝕄) (j : Fin 16) (h : T j = D j) : loop T D (j.val + 1) = loop T D j.val := by
  refine bigSep_congr fun i _ => ?_
  by_cases hi : i = j
  · subst hi; rw [if_pos (Nat.lt_succ_self _), if_neg (Nat.lt_irrefl _)]; exact h.symm
  · have hne : i.val ≠ j.val := fun h => hi (Fin.ext h)
    exact if_congr ⟨fun h => by omega, fun h => by omega⟩ rfl rfl

/-! ## Signals -/

/-- For head `j`: the right to signal device `mate c j`, and the row of `c`'s exchange buffer it may then write. -/
def sigT (c : Dev nD) (j : Fin 16) : sProp 𝕄 :=
  if j = me c then iprop(emp)
  else iprop(dutyTok ER (kcell (mate c j, kBar)) 0 (me c) ∗ ∃ f, pts (F := F) c cc0_scratch8 (rowR j).set fullShare f)
def sigL (c : Dev nD) (n : ℕ) : sProp 𝕄 := iprop(loop (sigT (F := F) c) (fun _ => iprop(emp)) n ∗ ow c ((OG c 0 + OR c) + OB c n))

theorem sig_step (K : Dev nD × KK → ℕ) (c : Dev nD) (j : Fin 16) (a b : ℕ) (ha : a = j.val) (hb : b = j.val + 1)
    {C : Prop} {_ : Decidable C} (hC : C ↔ j ≠ me c) {n : C → Dev nD} (hn : ∀ h, n h = mate c j) {s : C → Sem sig} (hs : ∀ h, s h = (1 : Fin 2))
    {α : Type} {Q : α → sProp 𝕄} {k : PR F α} {R : sProp 𝕄}
    (h : iprop(records m K ∗ sigL (F := F) c b ∗ R) ⊢ RUN c k Q) :
    iprop(records m K ∗ sigL (F := F) c a ∗ R)
      ⊢ RUN c (dite C (fun h => (semSignalWord (n h) (s h) 1#32 : PR F PUnit) >>= fun _ => k) (fun _ => k)) Q := by
  subst ha hb
  unfold sigL at h ⊢
  rw [RUN_eq] at h ⊢
  by_cases hc : C
  · rw [dif_pos hc]
    have hj := hC.mp hc
    iintro ⟨#HR, ⟨HL, HO⟩, HF⟩
    ihave HL := (loop_step (sigT (F := F) c) (fun _ => iprop(emp)) j) $$ HL
    have hT : sigT (F := F) c j = iprop(dutyTok ER (kcell (mate c j, kBar)) 0 (me c) ∗ ∃ f, pts (F := F) c cc0_scratch8 (rowR j).set fullShare f) := if_neg hj
    rw [hT]
    icases HL with ⟨⟨Ht, Hp⟩, HL⟩
    simp only [semSignalWord, Prog.lift, Prog.bind_op, Prog.bind_ret]
    iapply (signal_k m K c (mate c j) (n hc) kBar (me c) (s hc) (hn hc) (congrArg SemLoc.reg (hs hc))
      (by show me c ∈ Finset.univ.erase (me (mate c j)); rw [me_mate]; exact Finset.mem_erase.mpr ⟨fun h => hj h.symm, Finset.mem_univ _⟩) rfl
      ((OG c 0 + OR c) + OB c j.val) ((OG c 0 + OR c) + OB c (j.val + 1)) (by rw [OB_step, if_pos hj, ← add_assoc])) $$ [HO Ht Hp]
    · isplitr; · iexact HR
      isplitl [HO]; · iexact HO
      isplitl [Ht]; · iexact Ht
      have hp : pay (F := F) m (mate c j) kBar (me c) = iprop(∃ f, pts (F := F) c cc0_scratch8 (rowR j).set fullShare f) := by
        show iprop(∃ f, pts (F := F) (mate (mate c j) (me c)) cc0_scratch8 (rowR (me (mate c j))).set fullShare f) = _
        rw [mate_mate, mate_me, me_mate]
      rw [hp]; iexact Hp
    iintro HO
    iapply h
    isplitr; · iexact HR
    isplitr [HF]
    · isplitl [HL]
      · iapply HL; iempintro
      iexact HO
    iexact HF
  · rw [dif_neg hc]
    have hj : j = me c := by_contra fun h' => hc (hC.mpr h')
    have e := loop_keep (sigT (F := F) c) (fun _ => iprop(emp)) j (if_pos hj)
    rw [OB_step, if_neg (fun h' => h' hj), add_zero, ← e]
    exact h

/-- Before the signals: also the one across the halves, which lends this device's receiving buffer. -/
def sig0 (c : Dev nD) : sProp 𝕄 :=
  iprop(loop (sigT (F := F) c) (fun _ => iprop(emp)) 0 ∗ ow c (O₀ c) ∗ dutyTok ER (kcell (xp c, kXr)) 0 0 ∗ ∃ f, pts (F := F) c cc0_scratch7 Finset.univ fullShare f)

theorem xr_step (K : Dev nD × KK → ℕ) (c : Dev nD) {n : Dev nD} (hn : n = xp c) {s : Sem sig} (hs : s = (0 : Fin 2))
    {α : Type} {Q : α → sProp 𝕄} {k : PR F α} {R : sProp 𝕄}
    (h : iprop(records m K ∗ sigL (F := F) c 0 ∗ R) ⊢ RUN c k Q) :
    iprop(records m K ∗ sig0 (F := F) c ∗ R) ⊢ RUN c ((semSignalWord n s 1#32 : PR F PUnit) >>= fun _ => k) Q := by
  unfold sig0
  unfold sigL at h
  rw [RUN_eq] at h ⊢
  iintro ⟨#HR, ⟨HL, HO, Ht, Hp⟩, HF⟩
  simp only [semSignalWord, Prog.lift, Prog.bind_op, Prog.bind_ret]
  iapply (signal_k m K c (xp c) n kXr 0 s hn (congrArg SemLoc.reg hs) (Finset.mem_singleton_self _) rfl (O₀ c) ((OG c 0 + OR c) + OB c 0) rfl) $$ [HO Ht Hp]
  · isplitr; · iexact HR
    isplitl [HO]; · iexact HO
    isplitl [Ht]; · iexact Ht
    have hp : pay (F := F) m (xp c) kXr 0 = iprop(∃ f, pts (F := F) c cc0_scratch7 Finset.univ fullShare f) := by
      show iprop(∃ f, pts (F := F) (xp (xp c)) cc0_scratch7 Finset.univ fullShare f) = _
      rw [xp_xp]
    rw [hp]; iexact Hp
  iintro HO
  iapply h
  isplitr; · iexact HR
  isplitr [HF]
  · isplitl [HL] <;> iassumption
  iexact HF

/-! ## Sends -/

/-- For head `j`: the two rights to complete the copy, a share of the row to send, and the row of `mate c j` it goes to. -/
def sendT (c : Dev nD) (j : Fin 16) : sProp 𝕄 :=
  if j = me c then iprop(emp)
  else iprop(dutyTok ER (kcell (c, kGs j)) 0 0 ∗ dutyTok ER (kcell (mate c j, kGr (me c))) 0 0
    ∗ pts c cc0_scratch8 (rowR (me c)).set (ShareLeaves.leaf 4 fullShare j) (GB m c) ∗ ∃ f, pts (F := F) (mate c j) cc0_scratch8 (rowR (me c)).set fullShare f)
def sendD (c : Dev nD) (j : Fin 16) : sProp 𝕄 := if j = me c then iprop(emp) else cred (tallyAt (kcell (c, kGs j)) () NG)
def sendL (c : Dev nD) (n : ℕ) : sProp 𝕄 := iprop(loop (sendT m c) (sendD (F := F) c) n ∗ ow c (OG c n))

theorem send_step (K : Dev nD × KK → ℕ) (c : Dev nD) (j : Fin 16) (a b : ℕ) (ha : a = j.val) (hb : b = j.val + 1)
    {C : Prop} {_ : Decidable C} (hC : C ↔ j ≠ me c) {n : C → Dev nD} (hn : ∀ h, n h = mate c j) {off : Fin 3 → ℕ} {o o' : Fin 1 → ℕ}
    {hin : C → ∀ a, off a + S1x32x128.size a ≤ S16x32x128.size a} {ho : ∀ a, o a + S1.size a ≤ S16.size a} {ho' : C → ∀ a, o' a + S1.size a ≤ S16.size a}
    (hoff : off = ![(me c).val, 0, 0]) (hoo : o = ![j.val]) (hoo' : o' = ![(me c).val])
    {hsc : ∀ h, (rowOf off (hin h)).view.ref.isScScratch = false} {hsrc : ∀ h, (rowOf off (hin h)).view.WordExact}
    {hdst : ∀ h, (DmaTarget.remote (p := .tc) (Dev.tc (n h) : Thread nD τ) (rowOf off (hin h)) (.dma (sem16 cc0_scratch11 o ho)) (hsc h)).view.WordExact}
    {hsem : ∀ h, DmaTarget.Typed .vmem (.dma (sem16 cc0_scratch12 o' (ho' h)))
      (DmaTarget.remote (p := .tc) (Dev.tc (n h) : Thread nD τ) (rowOf off (hin h)) (.dma (sem16 cc0_scratch11 o ho)) (hsc h))}
    {α : Type} {Q : α → sProp 𝕄} {k : PR F α} {R : sProp 𝕄}
    (h : iprop(records m K ∗ sendL m c b ∗ R) ⊢ RUN c k Q) :
    iprop(records m K ∗ sendL m c a ∗ R)
      ⊢ RUN c (dite C (fun h => (Prog.lift (.enqueueDma (rowOf off (hin h)) (.remote (Dev.tc (n h) : Thread nD τ) (rowOf off (hin h)) (.dma (sem16 cc0_scratch11 o ho)) (hsc h))
              (.dma (sem16 cc0_scratch12 o' (ho' h))) (hsrc h) (hdst h) (hsem h)) : PR F PUnit) >>= fun _ => k) (fun _ => k)) Q := by
  subst ha hb
  unfold sendL at h ⊢
  rw [RUN_eq] at h ⊢
  by_cases hc : C
  · rw [dif_pos hc]
    have hj := hC.mp hc
    iintro ⟨#HR, ⟨HL, HO⟩, HF⟩
    ihave HL := (loop_step (sendT m c) (sendD (F := F) c) j) $$ HL
    have hT : sendT m c j = iprop(dutyTok ER (kcell (c, kGs j)) 0 0 ∗ dutyTok ER (kcell (mate c j, kGr (me c))) 0 0
      ∗ pts c cc0_scratch8 (rowR (me c)).set (ShareLeaves.leaf 4 fullShare j) (GB m c) ∗ ∃ f, pts (F := F) (mate c j) cc0_scratch8 (rowR (me c)).set fullShare f) := if_neg hj
    have hD : sendD (F := F) c j = cred (tallyAt (kcell (c, kGs j)) () NG) := if_neg hj
    rw [hT, hD]
    icases HL with ⟨⟨Ht1, Ht2, Hs, ⟨%fd, Hd⟩⟩, HL⟩
    rw [lift_bind]
    iapply (send_row m K c (n hc) j hj (hn hc) off o o' (hin hc) ho (ho' hc) hoff hoo hoo' (OG c (j.val + 1)) fd) $$ [HO Ht1 Ht2 Hs Hd]
    · isplitr; · iexact HR
      isplitl [Hs]; · iexact Hs
      isplitl [Hd]; · iexact Hd
      isplitl [HO]
      · rw [OG_step, if_pos hj]; iexact HO
      isplitl [Ht1] <;> iassumption
    iintro ⟨Hc, HO⟩
    iapply h
    isplitr; · iexact HR
    isplitr [HF]
    · isplitl [HL Hc]
      · iapply HL; iexact Hc
      iexact HO
    iexact HF
  · rw [dif_neg hc]
    have hj : j = me c := by_contra fun h' => hc (hC.mpr h')
    have e := loop_keep (sendT m c) (sendD (F := F) c) j ((if_pos hj).trans (if_pos hj).symm)
    rw [OG_step, if_neg (fun h' => h' hj), add_zero, ← e]
    exact h

/-! ## Waits -/

/-- For head `j`: the credits of the two cells waited on. The device's own head has none, and its cells are closed. -/
def waitT (c : Dev nD) (j : Fin 16) : sProp 𝕄 :=
  if j = me c then iprop(semVal (kcell (c, kGs j)) 0 ∗ semVal (kcell (c, kGr j)) 0)
  else iprop(cred (tallyAt (kcell (c, kGs j)) () NG) ∗ cred (tallyAt (kcell (c, kGr j)) () NG) ∗ atPos ER (kcell (c, kGs j)) 0 ∅ 0 ∗ atPos ER (kcell (c, kGr j)) 0 ∅ 0)
/-- What the waits give back: the share of the row sent, the row received, and the two cells closed. -/
def waitD (c : Dev nD) (j : Fin 16) : sProp 𝕄 :=
  if j = me c then iprop(semVal (kcell (c, kGs j)) 0 ∗ semVal (kcell (c, kGr j)) 0)
  else iprop(pts c cc0_scratch8 (rowR (me c)).set (ShareLeaves.leaf 4 fullShare j) (GB m c) ∗ pts c cc0_scratch8 (rowR j).set fullShare (GB m c)
    ∗ semVal (kcell (c, kGs j)) 0 ∗ semVal (kcell (c, kGr j)) 0)
def waitL (c : Dev nD) (n : ℕ) : sProp 𝕄 := iprop(loop (waitT (F := F) c) (waitD m c) n ∗ ow c (0 : Tal))

theorem wait_step (K : Dev nD × KK → ℕ) (c : Dev nD) (j : Fin 16) (a b : ℕ) (ha : a = j.val) (hb : b = j.val + 1)
    {C : Prop} {_ : Decidable C} (hC : C ↔ j ≠ me c) {off off' : Fin 3 → ℕ} {o o' : Fin 1 → ℕ}
    {hin : C → ∀ a, off a + S1x32x128.size a ≤ S16x32x128.size a} {hin' : ∀ a, off' a + S1x32x128.size a ≤ S16x32x128.size a}
    {ho : ∀ a, o a + S1.size a ≤ S16.size a} {ho' : ∀ a, o' a + S1.size a ≤ S16.size a} (hoo : o = ![j.val]) (hoo' : o' = ![j.val])
    {h1 h2 : ∀ h, (rowOf off (hin h)).view.WordExact} {h3 h4 : (rowOf off' hin').view.WordExact}
    {α : Type} {Q : α → sProp 𝕄} {k : PR F α} {R : sProp 𝕄}
    (h : iprop(records m K ∗ levAts L lv ∗ waitL m c b ∗ R) ⊢ RUN c k Q) :
    iprop(records m K ∗ levAts L lv ∗ waitL m c a ∗ R)
      ⊢ RUN c (dite C (fun h => (Prog.lift (.waitDma2 (sem16 cc0_scratch11 o ho) (rowOf off (hin h)) (rowOf off (hin h)) (h1 h) (h2 h)) : PR F PUnit) >>= fun _ =>
          (Prog.lift (.waitDma2 (sem16 cc0_scratch12 o' ho') (rowOf off' hin') (rowOf off' hin') h3 h4) : PR F PUnit) >>= fun _ => k) (fun _ => k)) Q := by
  subst ha hb hoo hoo'
  unfold waitL at h ⊢
  by_cases hc : C
  · rw [dif_pos hc]
    have hj := hC.mp hc
    iintro ⟨#HR, #Hlev, ⟨HL, HO⟩, HF⟩
    ihave HL := (loop_step (waitT (F := F) c) (waitD m c) j) $$ HL
    have hT : waitT (F := F) c j = iprop(cred (tallyAt (kcell (c, kGs j)) () NG) ∗ cred (tallyAt (kcell (c, kGr j)) () NG)
      ∗ atPos ER (kcell (c, kGs j)) 0 ∅ 0 ∗ atPos ER (kcell (c, kGr j)) 0 ∅ 0) := if_neg hj
    have hD : waitD m c j = iprop(pts c cc0_scratch8 (rowR (me c)).set (ShareLeaves.leaf 4 fullShare j) (GB m c) ∗ pts c cc0_scratch8 (rowR j).set fullShare (GB m c)
      ∗ semVal (kcell (c, kGs j)) 0 ∗ semVal (kcell (c, kGr j)) 0) := if_neg hj
    rw [hT, hD]
    icases HL with ⟨⟨Hc1, Hc2, Ha1, Ha2⟩, HL⟩
    have d1 : duts c (kGs j) = {0} := if_neg hj
    have d2 : duts c (kGr j) = {0} := if_neg hj
    iapply (waitD_run m K c (kGs j) (src := rowOf off (hin hc)) (dst := rowOf off (hin hc)) (gs_sem j ho) NG rfl (by rw [d1]; exact (Nat.one_mul _).symm) 0 On.zero) $$ [HO Hc1 Ha1]
    · isplitr; · iexact HR
      isplitr; · iexact Hlev
      isplitl [Hc1]; · iexact Hc1
      isplitl [HO] <;> iassumption
    have p1 : bigSep (duts c (kGs j)) (pay m c (kGs j)) = pts c cc0_scratch8 (rowR (me c)).set (ShareLeaves.leaf 4 fullShare j) (GB m c) := by
      rw [d1, bigSep_singleton]; rfl
    rw [p1]
    iintro ⟨HO, Hz1, Hp1⟩
    iapply (waitD_run m K c (kGr j) (src := rowOf off' hin') (dst := rowOf off' hin') (gr_sem j ho') NG rfl (by rw [d2]; exact (Nat.one_mul _).symm) 0 On.zero) $$ [HO Hc2 Ha2]
    · isplitr; · iexact HR
      isplitr; · iexact Hlev
      isplitl [Hc2]; · iexact Hc2
      isplitl [HO] <;> iassumption
    have p2 : bigSep (duts c (kGr j)) (pay m c (kGr j)) = pts c cc0_scratch8 (rowR j).set fullShare (GB m c) := by
      rw [d2, bigSep_singleton]; rfl
    rw [p2]
    iintro ⟨HO, Hz2, Hp2⟩
    iapply h
    isplitr; · iexact HR
    isplitr; · iexact Hlev
    isplitr [HF]
    · isplitr [HO]
      · iapply HL
        isplitl [Hp1]; · iexact Hp1
        isplitl [Hp2]; · iexact Hp2
        isplitl [Hz1] <;> iassumption
      iexact HO
    iexact HF
  · rw [dif_neg hc]
    have hj : j = me c := by_contra fun h' => hc (hC.mpr h')
    rw [← loop_keep (waitT (F := F) c) (waitD m c) j ((if_pos hj).trans (if_pos hj).symm)]
    exact h

end Cert.Run

end
-- ==== Proof.Run.Start.lean ====
/- The body's pieces at the first grid point up to the staging of keys and values: the four copies are started,
   the other devices signalled, the queries scaled and transposed. -/
module

public import proofs.«01_k».proof.Proof.Run.Loops

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ
variable (m : (ℓ : Loc nD τ sig) → Buf (Elt F) ℓ)

/-- What the four local copies take: a share of the rows they read, the slots they fill and the rights to complete them. -/
def copyT (c : Dev nD) : sProp 𝕄 :=
  iprop((∃ q, pts c main_arg1 (srcK c 0) q (m ((c : Thread nD τ).loc main_arg1))) ∗ (∃ q, pts c main_arg1 (srcK c 1) q (m ((c : Thread nD τ).loc main_arg1)))
    ∗ (∃ q, pts c main_arg2 (srcV c 0) q (m ((c : Thread nD τ).loc main_arg2))) ∗ (∃ q, pts c main_arg2 (srcV c 1) q (m ((c : Thread nD τ).loc main_arg2)))
    ∗ (∃ f, pts (F := F) c cc0_scratch2 (slotR 0).set fullShare f) ∗ (∃ f, pts (F := F) c cc0_scratch2 (slotR 1).set fullShare f)
    ∗ (∃ f, pts (F := F) c cc0_scratch3 (slotR 0).set fullShare f) ∗ (∃ f, pts (F := F) c cc0_scratch3 (slotR 1).set fullShare f)
    ∗ dutyTok ER (kcell (c, kK 0)) 0 0 ∗ dutyTok ER (kcell (c, kK 1)) 0 0 ∗ dutyTok ER (kcell (c, kV 0)) 0 0 ∗ dutyTok ER (kcell (c, kV 1)) 0 0)
/-- What they leave: one credit each. -/
def copyD (c : Dev nD) : sProp 𝕄 :=
  iprop(cred (tallyAt (kcell (c, kK 0)) () NK) ∗ cred (tallyAt (kcell (c, kK 1)) () NK) ∗ cred (tallyAt (kcell (c, kV 0)) () NK) ∗ cred (tallyAt (kcell (c, kV 1)) () NK))

theorem part1_run (K : Dev nD × KK → ℕ) (c : Dev nD) (v5 v11 : BitVec 32) (h1 : k0_cond1 i0 = 1#1) {Q : BitVec 32 → sProp 𝕄} :
    iprop(records m K ∗ copyT m c) ⊢ iprop((∀ x, copyD (F := F) c -∗ Q x) -∗ RUN c (here (k0_part1 (F := F) i0) c v5 v11 h1) Q) := by
  rw [k0_part1_eq_skeleton]
  unfold k0_part1_skel copyT copyD
  iintro ⟨#HR, ⟨%q0, HK0⟩, ⟨%q1, HK1⟩, ⟨%q2, HV0⟩, ⟨%q3, HV1⟩, ⟨%f0, Hk0⟩, ⟨%f1, Hk1⟩, ⟨%f2, Hv0⟩, ⟨%f3, Hv1⟩, Ht0, Ht1, Ht2, Ht3⟩ Hk
  iapply (copy_K_run m K c 0 (off1_eq c) rfl rfl q0 f0) $$ [HK0 Hk0 Ht0]
  · isplitr; · iexact HR
    isplitl [HK0]; · iexact HK0
    isplitl [Hk0] <;> iassumption
  iintro Hc0
  iapply (copy_V_run m K c 0 (off1_eq c) rfl rfl q2 f2) $$ [HV0 Hv0 Ht2]
  · isplitr; · iexact HR
    isplitl [HV0]; · iexact HV0
    isplitl [Hv0] <;> iassumption
  iintro Hc2
  iapply (copy_K_run m K c 1 (off2_eq c) rfl rfl q1 f1) $$ [HK1 Hk1 Ht1]
  · isplitr; · iexact HR
    isplitl [HK1]; · iexact HK1
    isplitl [Hk1] <;> iassumption
  iintro Hc1
  iapply (copy_V_run m K c 1 (off2_eq c) rfl rfl q3 f3) $$ [HV1 Hv1 Ht3]
  · isplitr; · iexact HR
    isplitl [HV1]; · iexact HV1
    isplitl [Hv1] <;> iassumption
  iintro Hc3
  iapply (ret_step c .rfl)
  iapply Hk
  isplitl [Hc0]; · iexact Hc0
  isplitl [Hc1]; · iexact Hc1
  isplitl [Hc2] <;> iassumption

theorem part2_seq (K : Dev nD × KK → ℕ) (c : Dev nD) (h1 v2 v8 v10 v110) {Q : BitVec 1 → sProp 𝕄} {R : sProp 𝕄}
    (h : ∀ x, iprop(records m K ∗ sigL (F := F) c 9 ∗ R) ⊢ Q x) :
    iprop(records m K ∗ sig0 (F := F) c ∗ R)
      ⊢ RUN c (here (k0_part2 (F := F) i0) c v2 v8 v10 (SemArray.scalar (sig.barrier 0 rfl)) h1 v110) Q := by
  rw [k0_part2_eq_skeleton]
  unfold k0_part2_skel
  refine xr_step m K c (dev_of _ (by clear h h1; revert c; decide)) xr_sem ?_
  refine sig_step m K c 0 0 1 rfl rfl (by clear h; revert c; decide) (fun _ => dev_of _ (by clear h h1; revert c; decide)) (fun _ => bar_sem) ?_
  refine sig_step m K c 1 1 2 rfl rfl (by clear h; revert c; decide) (fun _ => dev_of _ (by clear h h1; revert c; decide)) (fun _ => bar_sem) ?_
  refine sig_step m K c 2 2 3 rfl rfl (by clear h; revert c; decide) (fun _ => dev_of _ (by clear h h1; revert c; decide)) (fun _ => bar_sem) ?_
  refine sig_step m K c 3 3 4 rfl rfl (by clear h; revert c; decide) (fun _ => dev_of _ (by clear h h1; revert c; decide)) (fun _ => bar_sem) ?_
  refine sig_step m K c 4 4 5 rfl rfl (by clear h; revert c; decide) (fun _ => dev_of _ (by clear h h1; revert c; decide)) (fun _ => bar_sem) ?_
  refine sig_step m K c 5 5 6 rfl rfl (by clear h; revert c; decide) (fun _ => dev_of _ (by clear h h1; revert c; decide)) (fun _ => bar_sem) ?_
  refine sig_step m K c 6 6 7 rfl rfl (by clear h; revert c; decide) (fun _ => dev_of _ (by clear h h1; revert c; decide)) (fun _ => bar_sem) ?_
  refine sig_step m K c 7 7 8 rfl rfl (by clear h; revert c; decide) (fun _ => dev_of _ (by clear h h1; revert c; decide)) (fun _ => bar_sem) ?_
  refine sig_step m K c 8 8 9 rfl rfl (by clear h; revert c; decide) (fun _ => dev_of _ (by clear h h1; revert c; decide)) (fun _ => bar_sem) ?_
  exact ret_step c (h _)

/-- The signals, and the queries scaled and transposed. -/
theorem part3_seq (K : Dev nD × KK → ℕ) (c : Dev nD) (h1 v2 v10 v140) {Q : (Σ' (v170 : BitVec 32) (c2_i32_94 : BitVec 32), BitVec 32) → sProp 𝕄} {R : sProp 𝕄}
    (h : iprop(records m K ∗ sigL (F := F) c 16 ∗ pts c cc0_stg0_0 Finset.univ fullShare (Qs m c) ∗ pts c cc0_scratch0 Finset.univ fullShare (QT m c) ∗ R) ⊢ Q ⟨Dev.word c, 2#32, 16#32⟩) :
    iprop(records m K ∗ sigL (F := F) c 9 ∗ pts c cc0_stg0_0 Finset.univ fullShare (Qs m c) ∗ (∃ f, pts (F := F) c cc0_scratch0 Finset.univ fullShare f) ∗ R)
      ⊢ RUN c (here (k0_part3 (F := F) i0) c v2 v10 (SemArray.scalar (sig.barrier 0 rfl)) h1 v140) Q := by
  rw [k0_part3_eq_skeleton]
  unfold k0_part3_skel
  refine sig_step m K c 9 9 10 rfl rfl (by clear h; revert c; decide) (fun _ => dev_of _ (by clear h h1; revert c; decide)) (fun _ => bar_sem) ?_
  refine sig_step m K c 10 10 11 rfl rfl (by clear h; revert c; decide) (fun _ => dev_of _ (by clear h h1; revert c; decide)) (fun _ => bar_sem) ?_
  refine sig_step m K c 11 11 12 rfl rfl (by clear h; revert c; decide) (fun _ => dev_of _ (by clear h h1; revert c; decide)) (fun _ => bar_sem) ?_
  refine sig_step m K c 12 12 13 rfl rfl (by clear h; revert c; decide) (fun _ => dev_of _ (by clear h h1; revert c; decide)) (fun _ => bar_sem) ?_
  refine sig_step m K c 13 13 14 rfl rfl (by clear h; revert c; decide) (fun _ => dev_of _ (by clear h h1; revert c; decide)) (fun _ => bar_sem) ?_
  refine sig_step m K c 14 14 15 rfl rfl (by clear h; revert c; decide) (fun _ => dev_of _ (by clear h h1; revert c; decide)) (fun _ => bar_sem) ?_
  refine sig_step m K c 15 15 16 rfl rfl (by clear h; revert c; decide) (fun _ => dev_of _ (by clear h h1; revert c; decide)) (fun _ => bar_sem) ?_
  have e : qM.view.readAt (Elt F) (Rect.unit (s := S32x16x128) ![0, 0, 0] S32x16x128.size inb_S32x16x128_S32x16x128_0_0_0).toLoadRect (Qs m c) = Qs m c :=
    Memref.readAt_unit_zero (Elt F) cc0_stg0_0 (by decide) _ _
  iintro ⟨#HR, HL, HQ, ⟨%f, Hq⟩, HF⟩
  iapply (load_run c qM (S := Finset.univ) (Finset.subset_univ _)) $$ [HQ]
  · iexact HQ
  iintro HQ
  rw [e]
  iapply (load_run c qtM (S := Finset.univ) (Finset.subset_univ _)) $$ [Hq]
  · iexact Hq
  iintro Hq
  iapply (store_run c qtM (S := Finset.univ) (Finset.subset_univ _)) $$ [Hq]
  · iexact Hq
  iintro Hq
  have e' : (qtM.access (Rect.unit (s := S16x32x128) ![0, 0, 0] S16x32x128.size inb_S16x32x128_S16x32x128_0_0_0) : View sig .tc _ _ _).write (Elt F) f (k0_pay3 (Qs m c)) Finset.univ = QT m c :=
    Memref.write_access_unit_zero_univ (Elt F) cc0_scratch0 (by decide) _ _ _
  rw [e']
  iapply (ret_step c .rfl)
  iapply h
  isplitr; · iexact HR
  isplitl [HL]; · iexact HL
  isplitl [HQ]; · iexact HQ
  isplitl [Hq] <;> iassumption

theorem part2_run (K : Dev nD × KK → ℕ) (c : Dev nD) (h1 v2 v8 v10 v110) {Q : BitVec 1 → sProp 𝕄} :
    iprop(records m K ∗ sig0 (F := F) c)
      ⊢ iprop((∀ x, sigL (F := F) c 9 -∗ Q x) -∗ RUN c (here (k0_part2 (F := F) i0) c v2 v8 v10 (SemArray.scalar (sig.barrier 0 rfl)) h1 v110) Q) := by
  iintro ⟨HR, HS⟩ Hk
  iapply (part2_seq m K c h1 v2 v8 v10 v110 (R := iprop(∀ x, sigL (F := F) c 9 -∗ Q x)) (fun x => by
    iintro ⟨-, HS, Hk⟩; iapply Hk $$ HS))
  isplitl [HR]; · iexact HR
  isplitl [HS] <;> iassumption

theorem part3_run (K : Dev nD × KK → ℕ) (c : Dev nD) (h1 v2 v10 v140) {Q : (Σ' (v170 : BitVec 32) (c2_i32_94 : BitVec 32), BitVec 32) → sProp 𝕄} :
    iprop(records m K ∗ sigL (F := F) c 9 ∗ pts c cc0_stg0_0 Finset.univ fullShare (Qs m c) ∗ (∃ f, pts (F := F) c cc0_scratch0 Finset.univ fullShare f))
      ⊢ iprop(((ow (F := F) c (OG c 0 + OR c) ∗ pts c cc0_stg0_0 Finset.univ fullShare (Qs m c) ∗ pts c cc0_scratch0 Finset.univ fullShare (QT m c)) -∗ Q ⟨Dev.word c, 2#32, 16#32⟩)
        -∗ RUN c (here (k0_part3 (F := F) i0) c v2 v10 (SemArray.scalar (sig.barrier 0 rfl)) h1 v140) Q) := by
  iintro ⟨HR, HS, HQ, Hq⟩ Hk
  iapply (part3_seq m K c h1 v2 v10 v140 (R := iprop((ow (F := F) c (OG c 0 + OR c) ∗ pts c cc0_stg0_0 Finset.univ fullShare (Qs m c) ∗ pts c cc0_scratch0 Finset.univ fullShare (QT m c)) -∗ Q ⟨Dev.word c, 2#32, 16#32⟩)) (by
    unfold sigL
    rw [OB_end, add_zero]
    iintro ⟨-, ⟨-, HO⟩, HQ, Hq, Hk⟩
    iapply Hk
    isplitl [HO]; · iexact HO
    isplitl [HQ] <;> iassumption))
  isplitl [HR]; · iexact HR
  isplitl [HS]; · iexact HS
  isplitl [HQ]; · iexact HQ
  isplitl [Hq] <;> iassumption

theorem part4_run (c : Dev nD) (v170 c2 c16 : BitVec 32) {Q : (Σ' (v197 : FVec F S32x256 .f32) (v198 : IVec S256x8192 32) (v200 : IVec S256x8192 32) (v214 : IVec S256x8192 1), IVec S256x8192 32) → sProp 𝕄} :
    iprop(pts c cc0_stg1_0 Finset.univ fullShare (Bs m c) ∗ pts c cc0_stg2_0 Finset.univ fullShare (Ls m c))
      ⊢ iprop((pts c cc0_stg1_0 Finset.univ fullShare (Bs m c) -∗ pts c cc0_stg2_0 Finset.univ fullShare (Ls m c)
          -∗ Q ⟨k0_pay4 v170 c2 c16 (Bs m c) (Ls m c), iota .tc S256x8192 32 [1] iota_S256x8192_d1_w32, k0_pay5, k0_pay6, k0_pay7⟩)
        -∗ RUN c (here (k0_part4 (F := F) i0) v170 c2 c16) Q) := by
  rw [k0_part4_eq_skeleton]
  unfold k0_part4_skel
  have e1 : btM.view.readAt (Elt F) (Rect.unit (s := S32x256) ![0, 0] S32x256.size inb_S32x256_S32x256_0_0).toLoadRect (Bs m c) = Bs m c :=
    Memref.readAt_unit_zero (Elt F) cc0_stg1_0 (by decide) _ _
  have e2 : lnM.view.readAt (Elt F) (Rect.unit (s := S32x1) ![0, 0] S32x1.size inb_S32x1_S32x1_0_0).toLoadRect (Ls m c) = Ls m c :=
    Memref.readAt_unit_zero (Elt F) cc0_stg2_0 (by decide) _ _
  iintro ⟨HB, HLn⟩ Hk
  iapply (load_run c btM (S := Finset.univ) (Finset.subset_univ _)) $$ [HB]
  · iexact HB
  iintro HB
  iapply (load_run c lnM (S := Finset.univ) (Finset.subset_univ _)) $$ [HLn]
  · iexact HLn
  iintro HLn
  rw [e1, e2]
  iapply (ret_step c .rfl)
  iapply Hk $$ HB HLn

end Cert.Run

end
-- ==== Proof.Run.Point0.lean ====
/- The body at the first grid point: keys and values of the first block arrive, and the running sums of the block are stored. -/
module

public import proofs.«01_k».proof.Proof.Run.Start

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ
variable (m : (ℓ : Loc nD τ sig) → Buf (Elt F) ℓ)

theorem sub_slot_k (s : Fin 2) (off : Fin 3 → ℕ) (h : off = ![s.val, 0, 0]) (hin) :
    kM.view.setOn (Rect.unit (s := S2x4096x128) off S1x4096x128.size hin).toLoadRect.set ⊆ (slotR s).set := by
  subst h; intro i hi; obtain ⟨k, hk, rfl⟩ := Finset.mem_map.mp hi; exact hk
theorem sub_slot_v (s : Fin 2) (off : Fin 3 → ℕ) (h : off = ![s.val, 0, 0]) (hin) :
    vM.view.setOn (Rect.unit (s := S2x4096x128) off S1x4096x128.size hin).toLoadRect.set ⊆ (slotR s).set := by
  subst h; intro i hi; obtain ⟨k, hk, rfl⟩ := Finset.mem_map.mp hi; exact hk

/-- What the wait for slot `s` of keys and values takes and gives. -/
def slotW (c : Dev nD) (s : Fin 2) : sProp 𝕄 :=
  iprop(cred (tallyAt (kcell (c, kK s)) () NK) ∗ atPos ER (kcell (c, kK s)) 0 ∅ 0 ∗ cred (tallyAt (kcell (c, kV s)) () NK) ∗ atPos ER (kcell (c, kV s)) 0 ∅ 0)
def slotZ (c : Dev nD) (s : Fin 2) : sProp 𝕄 := iprop(semVal (kcell (c, kK s)) 0 ∗ semVal (kcell (c, kV s)) 0)
def slotD (c : Dev nD) (s : Fin 2) : sProp 𝕄 :=
  iprop(pts c cc0_scratch2 (slotR s).set fullShare (KB m c) ∗ pts c cc0_scratch3 (slotR s).set fullShare (VB m c))

theorem slot_step (K : Dev nD × KK → ℕ) (c : Dev nD) (s : Fin 2) (O : Tal) (hO : On O fun k => 0 < lvK k)
    {off : Fin 3 → ℕ} {o : Fin 1 → ℕ} {hin ho} (hoo : o = ![s.val]) {srcK srcV : Memref sig .tc .hbm S4096x128 .f32}
    {h1 h2 h3 h4} {α : Type} {Q : α → sProp 𝕄} {k : PR F α} :
    iprop(records m K ∗ levAts L lv ∗ slotW (F := F) c s ∗ ow (F := F) c O)
      ⊢ iprop(((ow c O ∗ slotZ (F := F) c s ∗ slotD m c s) -∗ RUN c k Q)
        -∗ RUN c ((Prog.lift (.waitDma2 (sem2 cc0_scratch4 o ho) srcK (dstOf kM off hin) h1 h2) : PR F PUnit) >>= fun _ =>
            (Prog.lift (.waitDma2 (sem2 cc0_scratch5 o ho) srcV (dstOf vM off hin) h3 h4) : PR F PUnit) >>= fun _ => k) Q) := by
  subst hoo
  have pk : bigSep (duts c (kK s)) (pay m c (kK s)) = pts c cc0_scratch2 (slotR s).set fullShare (KB m c) := by
    rw [duts_kK, bigSep_singleton, pay_kK]
  have pv : bigSep (duts c (kV s)) (pay m c (kV s)) = pts c cc0_scratch3 (slotR s).set fullShare (VB m c) := by
    rw [duts_kV, bigSep_singleton, pay_kV]
  have lk : lvK (kK s) = 0 := by fin_cases s <;> rfl
  have lv' : lvK (kV s) = 0 := by fin_cases s <;> rfl
  unfold slotW slotZ slotD
  iintro ⟨#HR, #HL, ⟨Hc, Ha, Hc', Ha'⟩, HO⟩ Hk
  iapply (waitD_run m K c (kK s) (src := srcK) (dst := dstOf kM off hin) (k_sem s ho) NK rfl (by rw [duts_kK, amt_kK, Finset.card_singleton, Nat.one_mul]) O (by rw [lk]; exact hO)) $$ [Hc Ha HO]
  · isplitr; · iexact HR
    isplitr; · iexact HL
    isplitl [Hc]; · iexact Hc
    isplitl [HO] <;> iassumption
  rw [pk]
  iintro ⟨HO, Hz, Hp⟩
  iapply (waitD_run m K c (kV s) (src := srcV) (dst := dstOf vM off hin) (v_sem s ho) NK rfl (by rw [duts_kV, amt_kV, Finset.card_singleton, Nat.one_mul]) O (by rw [lv']; exact hO)) $$ [Hc' Ha' HO]
  · isplitr; · iexact HR
    isplitr; · iexact HL
    isplitl [Hc']; · iexact Hc'
    isplitl [HO] <;> iassumption
  rw [pv]
  iintro ⟨HO, Hz', Hp'⟩
  iapply Hk
  isplitl [HO]; · iexact HO
  isplitl [Hz Hz']; · isplitl [Hz] <;> iassumption
  isplitl [Hp] <;> iassumption

/-- The new sums of a block, the first of the three columns stored. -/
theorem part14_run (c : Dev nD) (i : grid0.Coords) (s : Fin 2) (h6 : k0_off6 i = ![s.val, 0, 0]) (P : Vec F S32x256 .f32) (a v10 v16 : BitVec 32)
    {Q : (Σ' (v61 : FVec F S32x1 .f32), FVec F S32x1 .f32) → sProp 𝕄} :
    iprop(pts c cc0_scratch3 (slotR s).set fullShare (VB m c) ∗ pts c cc0_scratch0 Finset.univ fullShare (QT m c) ∗ pts c cc0_scratch1 Finset.univ fullShare (LC m c)
        ∗ pts c cc0_scratch6 Finset.univ fullShare P)
      ⊢ iprop(((pts c cc0_scratch3 (slotR s).set fullShare (VB m c) ∗ pts c cc0_scratch0 Finset.univ fullShare (QT m c) ∗ pts c cc0_scratch1 Finset.univ fullShare (LC m c)
        ∗ pts c cc0_scratch6 Finset.univ fullShare (stepO m c i P)) -∗ Q ⟨k0_pay40 (k0_pay35 (rdK m c i)) (rdQ m c) (rdC m c i) (rdM P) (rdL P), k0_pay42 (k0_pay35 (rdK m c i)) (rdQ m c) (rdC m c i) (rdM P)⟩)
        -∗ RUN c (here (k0_part14 (F := F) i) a c v10 v16 (k0_pay35 (rdK m c i))) Q) := by
  rw [k0_part14_eq_skeleton]
  unfold k0_part14_skel stepO rdV rdQ rdC rdM rdL rdO
  iintro ⟨HV, HQ, HC, HP⟩ Hk
  iapply (load_run c vM (sub_slot_v s _ h6 _)) $$ [HV]
  · iexact HV
  iintro HV
  iapply (load_run c qtM (S := Finset.univ) (Finset.subset_univ _)) $$ [HQ]
  · iexact HQ
  iintro HQ
  iapply (load_run c lcM (S := Finset.univ) (Finset.subset_univ _)) $$ [HC]
  · iexact HC
  iintro HC
  iapply (load_run c pM (S := Finset.univ) (Finset.subset_univ _)) $$ [HP]
  · iexact HP
  iintro HP
  iapply (load_run c pM (S := Finset.univ) (Finset.subset_univ _)) $$ [HP]
  · iexact HP
  iintro HP
  iapply (load_run c pM (S := Finset.univ) (Finset.subset_univ _)) $$ [HP]
  · iexact HP
  iintro HP
  iapply (load_run c pM (S := Finset.univ) (Finset.subset_univ _)) $$ [HP]
  · iexact HP
  iintro HP
  iapply (store_run c pM (S := Finset.univ) (Finset.subset_univ _)) $$ [HP]
  · iexact HP
  iintro HP
  iapply (load_run c pM (S := Finset.univ) (Finset.subset_univ _)) $$ [HP]
  · iexact HP
  iintro HP
  iapply (ret_step c .rfl)
  iapply Hk
  isplitl [HV]; · iexact HV
  isplitl [HQ]; · iexact HQ
  isplitl [HC] <;> iassumption

/-- What the first piece of the body takes at the first point: the copies' and signals' rights, the staged inputs, the scratch buffers. -/
def in0 (c : Dev nD) : sProp 𝕄 :=
  iprop(copyT m c ∗ sig0 (F := F) c
    ∗ pts c cc0_stg0_0 Finset.univ fullShare (Qs m c) ∗ pts c cc0_stg1_0 Finset.univ fullShare (Bs m c) ∗ pts c cc0_stg2_0 Finset.univ fullShare (Ls m c)
    ∗ (∃ f, pts (F := F) c cc0_scratch0 Finset.univ fullShare f) ∗ (∃ f, pts (F := F) c cc0_scratch1 Finset.univ fullShare f) ∗ (∃ f, pts (F := F) c cc0_scratch6 Finset.univ fullShare f)
    ∗ atPos ER (kcell (c, kK 0)) 0 ∅ 0 ∗ atPos ER (kcell (c, kV 0)) 0 ∅ 0)
/-- What it leaves, the running sums being `P`. -/
def mid0 (c : Dev nD) (P : Vec F S32x256 .f32) : sProp 𝕄 :=
  iprop(ow (F := F) c (OG c 0 + OR c)
    ∗ pts c cc0_stg0_0 Finset.univ fullShare (Qs m c) ∗ pts c cc0_stg1_0 Finset.univ fullShare (Bs m c) ∗ pts c cc0_stg2_0 Finset.univ fullShare (Ls m c)
    ∗ pts c cc0_scratch0 Finset.univ fullShare (QT m c) ∗ pts c cc0_scratch1 Finset.univ fullShare (LC m c) ∗ pts c cc0_scratch6 Finset.univ fullShare P
    ∗ slotZ (F := F) c 0 ∗ slotD m c 0 ∗ cred (tallyAt (kcell (c, kK 1)) () NK) ∗ cred (tallyAt (kcell (c, kV 1)) () NK))

theorem part13_run0 (K : Dev nD × KK → ℕ) (c : Dev nD)
    {Q : (Σ' (arg0 : BitVec 32) (d0 : Dev nD) (v2 : BitVec 32) (v5 : BitVec 32) (v8 : BitVec 32) (v10 : BitVec 32) (v11 : BitVec 32) (v12 : Sems sig S_) (v16 : BitVec 32), FVec F S4096x128 .f32) → sProp 𝕄} :
    iprop(records m K ∗ levAts L lv ∗ in0 m c)
      ⊢ iprop((∀ a v2 v5 v8 v10 v11 v16, mid0 m c P0 -∗ Q ⟨a, c, v2, v5, v8, v10, v11, SemArray.scalar (sig.barrier 0 rfl), v16, k0_pay35 (rdK m c i0)⟩)
        -∗ RUN c (here (k0_part13 (F := F) i0)) Q) := by
  rw [k0_part13_eq_skeleton]
  unfold k0_part13_skel in0 rdK
  iintro ⟨#HR, #HL, Hcp, Hsg, HQ, HB, HLn, Hq, ⟨%f1, Hlc⟩, ⟨%f2, HP⟩, Ha, Ha'⟩ Hk
  iapply (dev_run c)
  rw [dif_pos cond1_i0]
  iapply (bind_run c)
  iapply (part1_run m K c) $$ [Hcp]
  · isplitr; · iexact HR
    iexact Hcp
  iintro %x Hcr
  unfold copyD
  icases Hcr with ⟨Hc0, Hc1, Hc2, Hc3⟩
  iapply (bind_run c)
  iapply (part2_run m K c cond1_i0) $$ [Hsg]
  · isplitr; · iexact HR
    iexact Hsg
  iintro %y Hsg
  iapply (bind_run c)
  iapply (part3_run m K c cond1_i0) $$ [Hsg HQ Hq]
  · isplitr; · iexact HR
    isplitl [Hsg]; · iexact Hsg
    isplitl [HQ] <;> iassumption
  iintro ⟨HO, HQ, Hq⟩
  iapply (bind_run c)
  iapply (part4_run m c) $$ [HB HLn]
  · isplitl [HB] <;> iassumption
  iintro HB HLn
  iapply (load_run c lcM (S := Finset.univ) (Finset.subset_univ _)) $$ [Hlc]
  · iexact Hlc
  iintro Hlc
  iapply (store_run c lcM (S := Finset.univ) (Finset.subset_univ _)) $$ [Hlc]
  · iexact Hlc
  iintro Hlc
  have e1 : (lcM.access (Rect.unit (s := S32x8192) ![0, 0] S32x8192.size inb_S32x8192_S32x8192_0_0) : View sig .tc _ _ _).write (Elt F) f1
      (k0_pay32 (k0_pay4 (Dev.word c) 2#32 16#32 (Bs m c) (Ls m c)) (iota .tc S256x8192 32 [1] iota_S256x8192_d1_w32) k0_pay5 k0_pay6 k0_pay7) Finset.univ = LC m c :=
    Memref.write_access_unit_zero_univ (Elt F) cc0_scratch1 (by decide) _ _ _
  rw [e1]
  iapply (load_run c pM (S := Finset.univ) (Finset.subset_univ _)) $$ [HP]
  · iexact HP
  iintro HP
  iapply (store_run c pM (S := Finset.univ) (Finset.subset_univ _)) $$ [HP]
  · iexact HP
  iintro HP
  have e2 : (pM.access (Rect.unit (s := S32x256) ![0, 0] S32x256.size inb_S32x256_S32x256_0_0) : View sig .tc _ _ _).write (Elt F) f2 (k0_pay33 (F := F)) Finset.univ = k0_pay33 (F := F) :=
    Memref.write_access_unit_zero_univ (Elt F) cc0_scratch6 (by decide) _ _ _
  rw [e2]
  iapply (load_run c pM (S := Finset.univ) (Finset.subset_univ _)) $$ [HP]
  · iexact HP
  iintro HP
  iapply (store_run c pM (S := Finset.univ) (Finset.subset_univ _)) $$ [HP]
  · iexact HP
  iintro HP
  iapply (slot_step m K c 0 _ ((On_OGR c).mono fun _ h => by omega) off3_i0) $$ [Hc0 Ha Hc2 Ha' HO]
  · unfold slotW
    isplitr; · iexact HR
    isplitr; · iexact HL
    isplitr [HO]
    · isplitl [Hc0]; · iexact Hc0
      isplitl [Ha]; · iexact Ha
      isplitl [Hc2] <;> iassumption
    · iexact HO
  unfold slotD
  iintro ⟨HO, Hz, HK, HV⟩
  iapply (load_run c kM (sub_slot_k 0 _ off6_i0 _)) $$ [HK]
  · iexact HK
  iintro HK
  iapply (ret_step c .rfl)
  iapply Hk
  unfold mid0 slotD
  isplitl [HO]; · iexact HO
  isplitl [HQ]; · iexact HQ
  isplitl [HB]; · iexact HB
  isplitl [HLn]; · iexact HLn
  isplitl [Hq]; · iexact Hq
  isplitl [Hlc]; · iexact Hlc
  isplitl [HP]; · iexact HP
  isplitl [Hz]; · iexact Hz
  isplitl [HK HV]; · isplitl [HK] <;> iassumption
  isplitl [Hc1] <;> iassumption

/-- The body at the first point. -/
theorem body0_run (K : Dev nD × KK → ℕ) (c : Dev nD) {Q : PUnit → sProp 𝕄} :
    iprop(records m K ∗ levAts L lv ∗ in0 m c)
      ⊢ iprop((mid0 m c (P1 m c) -∗ Q ⟨⟩) -∗ RUN c (here (cc0__fused_body (F := F) i0)) Q) := by
  rw [cc0__fused_body_eq_skeleton]
  unfold cc0__fused_body_skel
  iintro ⟨#HR, #HL, Hin⟩ Hk
  iapply (bind_run c)
  iapply (part13_run0 m K c) $$ [Hin]
  · isplitr; · iexact HR
    isplitr; · iexact HL
    iexact Hin
  iintro %a %v2 %v5 %v8 %v10 %v11 %v16 Hm
  unfold mid0 slotD
  icases Hm with ⟨HO, HQ, HB, HLn, Hq, Hlc, HP, Hz, ⟨HK, HV⟩, Hc1, Hc3⟩
  iapply (bind_run c)
  iapply (part14_run m c i0 0 off6_i0 P0 a v10 v16) $$ [HV Hq Hlc HP]
  · isplitl [HV]; · iexact HV
    isplitl [Hq]; · iexact Hq
    isplitl [Hlc] <;> iassumption
  iintro ⟨HV, Hq, Hlc, HP⟩
  iapply (store_run c pM (S := Finset.univ) (Finset.subset_univ _)) $$ [HP]
  · iexact HP
  iintro HP
  iapply (load_run c pM (S := Finset.univ) (Finset.subset_univ _)) $$ [HP]
  · iexact HP
  iintro HP
  iapply (store_run c pM (S := Finset.univ) (Finset.subset_univ _)) $$ [HP]
  · iexact HP
  iintro HP
  rw [dif_neg cond18_i0, dif_neg cond19_i0]
  iapply (ret_step c .rfl)
  iapply Hk
  isplitl [HO]; · iexact HO
  isplitl [HQ]; · iexact HQ
  isplitl [HB]; · iexact HB
  isplitl [HLn]; · iexact HLn
  isplitl [Hq]; · iexact Hq
  isplitl [Hlc]; · iexact Hlc
  isplitl [HP]; · unfold P1 stepP stepM; iexact HP
  isplitl [Hz]; · iexact Hz
  isplitl [HK HV]; · isplitl [HK] <;> iassumption
  isplitl [Hc1] <;> iassumption

end Cert.Run

end
-- ==== Proof.Run.Exchange.lean ====
/- The exchange between the halves at the second grid point. -/
module

public import proofs.«01_k».proof.Proof.Run.Point0

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ
variable (m : (ℓ : Loc nD τ sig) → Buf (Elt F) ℓ)

/-- What the exchange of the running sums takes: the ready signal's and barrier's cells, the copy's rights, the cells of both its ends. -/
def exT (c : Dev nD) : sProp 𝕄 :=
  iprop((cred (tallyAt (kcell (c, kXr)) () 1) ∗ atPos ER (kcell (c, kXr)) 0 ∅ 0) ∗ (cred (tallyAt (kcell (c, kBar)) () 15) ∗ atPos ER (kcell (c, kBar)) 0 ∅ 0)
    ∗ (dutyTok ER (kcell (c, kSx)) 0 0 ∗ dutyTok ER (kcell (xp c, kRx)) 0 0)
    ∗ atPos ER (kcell (c, kSx)) 0 ∅ 0 ∗ (cred (tallyAt (kcell (c, kRx)) () NX) ∗ atPos ER (kcell (c, kRx)) 0 ∅ 0))
def exZ (c : Dev nD) : sProp 𝕄 := iprop(semVal (kcell (c, kXr)) 0 ∗ semVal (kcell (c, kBar)) 0 ∗ semVal (kcell (c, kSx)) 0 ∗ semVal (kcell (c, kRx)) 0)
/-- The rows of the other devices' exchange buffers the barrier hands over. -/
def rowsT (c : Dev nD) : sProp 𝕄 := bigSep (Finset.univ.erase (me c)) fun d => iprop(∃ f, pts (F := F) (mate c d) cc0_scratch8 (rowR (me c)).set fullShare f)

theorem part5_run (K : Dev nD × KK → ℕ) (c : Dev nD) (v5 v8 v11 : BitVec 32) (h19 : k0_cond19 i1 = 1#1)
    {Q : (Σ' (v108 : FVec F S32x1 .f32) (v110 : FVec F S32x128 .f32), FVec F S32x128 .f32) → sProp 𝕄} :
    iprop(records m K ∗ levAts L lv ∗ exT (F := F) c ∗ ow (F := F) c (OG c 0 + OR c) ∗ pts c cc0_scratch6 Finset.univ fullShare (PF m c))
      ⊢ iprop(((exZ (F := F) c ∗ rowsT (F := F) c ∗ ow (F := F) c (OG c 0) ∗ pts c cc0_scratch6 Finset.univ fullShare (PF m c) ∗ pts c cc0_scratch7 Finset.univ fullShare (PF m (xp c)))
          -∗ Q ⟨k0_pay11 (rdM (PF m c)) (rdL (PF m c)) (rdM (PF m (xp c))) (rdL (PF m (xp c))), k0_pay12 (rdO (PF m c)) (rdM (PF m c)) (rdM (PF m (xp c))), k0_pay13 (rdM (PF m c)) (rdO (PF m (xp c))) (rdM (PF m (xp c)))⟩)
        -∗ RUN c (here (k0_part5 (F := F) i1) c v5 v8 v11 (SemArray.scalar (sig.barrier 0 rfl)) h19) Q) := by
  rw [k0_part5_eq_skeleton]
  unfold k0_part5_skel exT exZ rdM rdL rdO rowsT
  have px : bigSep (duts c kXr) (pay m c kXr) = iprop(∃ f, pts (F := F) (xp c) cc0_scratch7 Finset.univ fullShare f) := by
    rw [show duts c kXr = {0} from rfl, bigSep_singleton]; rfl
  have pb : bigSep (duts c kBar) (pay m c kBar) = bigSep (Finset.univ.erase (me c)) fun d => iprop(∃ f, pts (F := F) (mate c d) cc0_scratch8 (rowR (me c)).set fullShare f) := rfl
  have ps : bigSep (duts c kSx) (pay m c kSx) = pts c cc0_scratch6 Finset.univ fullShare (PF m c) := by
    rw [show duts c kSx = {0} from rfl, bigSep_singleton]; rfl
  have pr : bigSep (duts c kRx) (pay m c kRx) = pts c cc0_scratch7 Finset.univ fullShare (PF m (xp c)) := by
    rw [show duts c kRx = {0} from rfl, bigSep_singleton]; rfl
  iintro ⟨#HR, #HL, ⟨⟨Hcx, Hax⟩, ⟨Hcb, Hab⟩, ⟨Hts, Htr⟩, Has, ⟨Hcr, Har⟩⟩, HO, HP⟩ Hk
  iapply (waitS_run m K c kXr (congrArg SemLoc.reg xr_sem) 1 rfl rfl _ ((On_OGR c).mono fun k h => by have : lvK kXr = 1 := rfl; omega)) $$ [Hcx Hax HO]
  · isplitr; · iexact HR
    isplitr; · iexact HL
    isplitl [Hcx]; · iexact Hcx
    isplitl [HO] <;> iassumption
  rw [px]
  iintro ⟨HO, Hzx, ⟨%fx, Hx⟩⟩
  iapply (send_X_run m K c (dev_of _ (by clear px pb ps pr; revert c; decide)) _ fx) $$ [HP Hx HO Hts Htr]
  · isplitr; · iexact HR
    isplitl [HP]; · iexact HP
    isplitl [Hx]; · iexact Hx
    isplitl [HO]; · iexact HO
    isplitl [Hts] <;> iassumption
  iintro ⟨Hcs, HO⟩
  iapply (waitS_run m K c kBar (congrArg SemLoc.reg bar_sem) 15 rfl (by show 15 = (Finset.univ.erase (me c)).card * 1; rw [Finset.card_erase_of_mem (Finset.mem_univ _)]; rfl) _ ((On_OG c 0).mono fun k h => by have : lvK kBar = 2 := rfl; omega)) $$ [Hcb Hab HO]
  · isplitr; · iexact HR
    isplitr; · iexact HL
    isplitl [Hcb]; · iexact Hcb
    isplitl [HO] <;> iassumption
  rw [pb]
  iintro ⟨HO, Hzb, Hrows⟩
  iapply (waitD_run m K c kSx (src := rM) (dst := pM) (congrArg SemLoc.dma sx_sem) NX rfl (by show NX = 1 * NX; omega) _ ((On_OG c 0).mono fun k h => by have : lvK kSx = 0 := rfl; omega)) $$ [Hcs Has HO]
  · isplitr; · iexact HR
    isplitr; · iexact HL
    isplitl [Hcs]; · iexact Hcs
    isplitl [HO] <;> iassumption
  rw [ps]
  iintro ⟨HO, Hzs, HP⟩
  iapply (waitD_run m K c kRx (src := pM) (dst := rM) (congrArg SemLoc.dma rx_sem) NX rfl (by show NX = 1 * NX; omega) _ ((On_OG c 0).mono fun k h => by have : lvK kRx = 3 := rfl; omega)) $$ [Hcr Har HO]
  · isplitr; · iexact HR
    isplitr; · iexact HL
    isplitl [Hcr]; · iexact Hcr
    isplitl [HO] <;> iassumption
  rw [pr]
  iintro ⟨HO, Hzr, HX⟩
  iapply (load_run c pM (S := Finset.univ) (Finset.subset_univ _)) $$ [HP]
  · iexact HP
  iintro HP
  iapply (load_run c pM (S := Finset.univ) (Finset.subset_univ _)) $$ [HP]
  · iexact HP
  iintro HP
  iapply (load_run c pM (S := Finset.univ) (Finset.subset_univ _)) $$ [HP]
  · iexact HP
  iintro HP
  iapply (load_run c rM (S := Finset.univ) (Finset.subset_univ _)) $$ [HX]
  · iexact HX
  iintro HX
  iapply (load_run c rM (S := Finset.univ) (Finset.subset_univ _)) $$ [HX]
  · iexact HX
  iintro HX
  iapply (load_run c rM (S := Finset.univ) (Finset.subset_univ _)) $$ [HX]
  · iexact HX
  iintro HX
  have hX : ∀ (r : LoadRect S32x256) (f : Vec F S32x256 .f32), rM.view.readAt (Elt F) r f = pM.view.readAt (Elt F) r f := fun _ _ => rfl
  rw [hX, hX, hX]
  iapply (ret_step c .rfl)
  iapply Hk
  isplitl [Hzx Hzb Hzs Hzr]
  · isplitl [Hzx]; · iexact Hzx
    isplitl [Hzb]; · iexact Hzb
    isplitl [Hzs] <;> iassumption
  isplitl [Hrows]; · iexact Hrows
  isplitl [HO]; · iexact HO
  isplitl [HP] <;> iassumption

/-! ## The heads sent around a half -/

/-- The rights to complete the copy to `mate c j`. -/
def tokT (c : Dev nD) (j : Fin 16) : sProp 𝕄 :=
  if j = me c then iprop(emp) else iprop(dutyTok ER (kcell (c, kGs j)) 0 0 ∗ dutyTok ER (kcell (mate c j, kGr (me c))) 0 0)
/-- The cells of head `j` that a device waits on: its credit on arrival, and its position at both. -/
def posT (c : Dev nD) (j : Fin 16) : sProp 𝕄 :=
  if j = me c then iprop(semVal (kcell (c, kGs j)) 0 ∗ semVal (kcell (c, kGr j)) 0)
  else iprop(cred (tallyAt (kcell (c, kGr j)) () NG) ∗ atPos ER (kcell (c, kGs j)) 0 ∅ 0 ∗ atPos ER (kcell (c, kGr j)) 0 ∅ 0)

/-- One member of a family. -/
theorem at_one {X : sProp 𝕄} (i : Fin 16) : (bigSep Finset.univ fun j : Fin 16 => if j = i then X else iprop(emp)) = iprop(X ∗ emp) := by
  rw [bigSep_erase (Finset.mem_univ i), if_pos rfl,
    bigSep_congr (s := Finset.univ.erase i) (Ψ := fun _ => iprop(emp)) fun j hj => if_neg (Finset.ne_of_mem_erase hj)]
  exact congrArg (fun Z : sProp 𝕄 => iprop(X ∗ Z)) (bigSep_emp_const _)
/-- All but one member of a family. -/
theorem but_one {Φ : Fin 16 → sProp 𝕄} (i : Fin 16) : (bigSep Finset.univ fun j : Fin 16 => if j = i then iprop(emp) else Φ j) = iprop(emp ∗ bigSep (Finset.univ.erase i) Φ) := by
  rw [bigSep_erase (Finset.mem_univ i), if_pos rfl, bigSep_congr (s := Finset.univ.erase i) (Ψ := Φ) fun j hj => if_neg (Finset.ne_of_mem_erase hj)]
  rfl

theorem send_intro (c : Dev nD) :
    iprop(bigSep Finset.univ (tokT (F := F) c) ∗ rowsT (F := F) c ∗ pts c cc0_scratch8 (rowR (me c)).set fullShare (GB m c))
      ⊢ iprop(loop (sendT m c) (sendD (F := F) c) 0 ∗ pts c cc0_scratch8 (rowR (me c)).set (ShareLeaves.leaf 4 fullShare (me c)) (GB m c)) := by
  rw [loop_zero]
  have e : iprop(bigSep Finset.univ (tokT (F := F) c) ∗ (bigSep Finset.univ fun j : Fin 16 => if j = me c then iprop(emp) else iprop(∃ f, pts (F := F) (mate c j) cc0_scratch8 (rowR (me c)).set fullShare f))
      ∗ (bigSep Finset.univ fun j : Fin 16 => pts c cc0_scratch8 (rowR (me c)).set (ShareLeaves.leaf 4 fullShare j) (GB m c)))
    ⊢ iprop(bigSep Finset.univ (sendT m c) ∗ (bigSep Finset.univ fun j : Fin 16 => if j = me c then (pts c cc0_scratch8 (rowR (me c)).set (ShareLeaves.leaf 4 fullShare (me c)) (GB m c)) else iprop(emp))) := by
    rw [← bigSep_sep', ← bigSep_sep', ← bigSep_sep']
    refine bigSep_mono fun j _ => ?_
    show (_ : sProp 𝕄) ⊢ (_ : sProp 𝕄)
    unfold tokT sendT
    by_cases h : j = me c
    · subst h; rw [if_pos rfl, if_pos rfl, if_pos rfl, if_pos rfl]
      iintro ⟨-, -, H⟩
      isplitr; · iempintro
      iexact H
    · rw [if_neg h, if_neg h, if_neg h, if_neg h]
      iintro ⟨⟨H1, H2⟩, H3, H4⟩
      isplitl
      · isplitl [H1]; · iexact H1
        isplitl [H2]; · iexact H2
        isplitl [H4] <;> iassumption
      · iempintro
  rw [but_one, at_one] at e
  have hl : pts c cc0_scratch8 (rowR (me c)).set fullShare (GB m c) = (bigSep Finset.univ fun j : Fin 16 => pts c cc0_scratch8 (rowR (me c)).set (ShareLeaves.leaf 4 fullShare j) (GB m c) : sProp 𝕄) :=
    ShareLeaves.pointsTo_leaves _ _ 4 fullShare
  rw [hl]
  iintro ⟨H1, H2, H3⟩
  ihave H := e $$ [H1 H2 H3]
  · isplitl [H1]; · iexact H1
    isplitl [H2]
    · isplitr; · iempintro
      unfold rowsT; iexact H2
    · iexact H3
  icases H with ⟨H1, H2, -⟩
  isplitl [H1] <;> iassumption

/-- All sends made: the waits begin. -/
theorem wait_intro (c : Dev nD) :
    iprop(sendL m c 16 ∗ bigSep Finset.univ (posT (F := F) c)) ⊢ waitL m c 0 := by
  unfold sendL waitL
  rw [loop_end, loop_zero, OG_end]
  have e : iprop(bigSep Finset.univ (sendD (F := F) c) ∗ bigSep Finset.univ (posT (F := F) c)) ⊢ bigSep Finset.univ (waitT (F := F) c) := by
    rw [← bigSep_sep']
    refine bigSep_mono fun j _ => ?_
    show (_ : sProp 𝕄) ⊢ (_ : sProp 𝕄)
    unfold sendD posT waitT
    by_cases h : j = me c
    · rw [if_pos h, if_pos h, if_pos h]; iintro ⟨-, H⟩; iexact H
    · rw [if_neg h, if_neg h, if_neg h]
  iintro ⟨⟨H1, HO⟩, H2⟩
  isplitr [HO]
  · iapply e; isplitl [H1] <;> iassumption
  iexact HO

def gathZ (c : Dev nD) : sProp 𝕄 := iprop((bigSep Finset.univ fun j : Fin 16 => semVal (kcell (c, kGs j)) 0) ∗ bigSep Finset.univ fun j : Fin 16 => semVal (kcell (c, kGr j)) 0)

/-- All waits made: the device holds its whole exchange buffer. -/
theorem wait_elim (c : Dev nD) :
    iprop(waitL m c 16 ∗ pts c cc0_scratch8 (rowR (me c)).set (ShareLeaves.leaf 4 fullShare (me c)) (GB m c))
      ⊢ iprop(ow (F := F) c 0 ∗ pts c cc0_scratch8 Finset.univ fullShare (GB m c) ∗ gathZ (F := F) c) := by
  unfold waitL gathZ
  rw [loop_end]
  have e : iprop(bigSep Finset.univ (waitD m c) ∗ (bigSep Finset.univ fun j : Fin 16 => if j = me c then (pts c cc0_scratch8 (rowR (me c)).set (ShareLeaves.leaf 4 fullShare (me c)) (GB m c)) else iprop(emp)))
    ⊢ iprop((bigSep Finset.univ fun j : Fin 16 => pts c cc0_scratch8 (rowR (me c)).set (ShareLeaves.leaf 4 fullShare j) (GB m c))
      ∗ (bigSep Finset.univ fun j : Fin 16 => if j = me c then iprop(emp) else pts c cc0_scratch8 (rowR j).set fullShare (GB m c))
      ∗ (bigSep Finset.univ fun j : Fin 16 => semVal (kcell (c, kGs j)) 0) ∗ bigSep Finset.univ fun j : Fin 16 => semVal (kcell (c, kGr j)) 0) := by
    rw [← bigSep_sep', ← bigSep_sep', ← bigSep_sep', ← bigSep_sep']
    refine bigSep_mono fun j _ => ?_
    show (_ : sProp 𝕄) ⊢ (_ : sProp 𝕄)
    unfold waitD
    by_cases h : j = me c
    · subst h; rw [if_pos rfl, if_pos rfl, if_pos rfl]
      iintro ⟨⟨H1, H2⟩, H3⟩
      isplitl [H3]; · iexact H3
      isplitr; · iempintro
      isplitl [H1] <;> iassumption
    · rw [if_neg h, if_neg h, if_neg h]
      iintro ⟨⟨H1, H2, H3, H4⟩, -⟩
      isplitl [H1]; · iexact H1
      isplitl [H2]; · iexact H2
      isplitl [H3] <;> iassumption
  rw [but_one, at_one] at e
  have hl : (bigSep Finset.univ fun j : Fin 16 => pts c cc0_scratch8 (rowR (me c)).set (ShareLeaves.leaf 4 fullShare j) (GB m c) : sProp 𝕄) = pts c cc0_scratch8 (rowR (me c)).set fullShare (GB m c) :=
    (ShareLeaves.pointsTo_leaves _ _ 4 fullShare).symm
  have hw : pts c cc0_scratch8 Finset.univ fullShare (GB m c)
      = iprop(pts c cc0_scratch8 (rowR (me c)).set fullShare (GB m c) ∗ bigSep (Finset.univ.erase (me c)) fun j => pts c cc0_scratch8 (rowR j).set fullShare (GB m c)) := by
    have h1 := pointsTo_biUnion (Ix := Unit) (Name := ℕ) (U := UU) (Lvl := ℕ) (ℓ := (c : Thread nD τ).loc cc0_scratch8) (q := fullShare) (f := GB m c) (Finset.univ : Finset (Fin 16)) (fun j => (rowR j).set)
      (fun t ht t' ht' hne => rows_disjoint (Finset.mem_coe.mpr ht) (Finset.mem_coe.mpr ht') hne)
    rw [rows_cover] at h1
    refine h1.trans ?_
    rw [bigSep_erase (Finset.mem_univ (me c))]
    rfl
  rw [hl] at e
  rw [hw]
  iintro ⟨⟨H1, HO⟩, H2⟩
  ihave H := e $$ [H1 H2]
  · isplitl [H1]; · iexact H1
    isplitl [H2]; · iexact H2
    iempintro
  icases H with ⟨H1, ⟨-, H2⟩, H3, H4⟩
  isplitl [HO]; · iexact HO
  isplitl [H1 H2]; · isplitl [H1] <;> iassumption
  isplitl [H3] <;> iassumption

theorem rowload_run (c : Dev nD) (j : Fin 16) {off : Fin 3 → ℕ} (h : off = ![j.val, 0, 0]) {hin} {hl : gM.view.LoadsAt (Rect.unit (s := S16x32x128) off S1x32x128.size hin).toLoadRect}
    (f : Vec F S16x32x128 .bf16) {β : Type} {k : Vec F S1x32x128 .bf16 → PR F β} {Q : β → sProp 𝕄} :
    pts c cc0_scratch8 (rowR j).set fullShare f
      ⊢ iprop((∀ v, pts c cc0_scratch8 (rowR j).set fullShare f -∗ RUN c (k v) Q) -∗ RUN c ((Prog.lift (.load gM (Rect.unit (s := S16x32x128) off S1x32x128.size hin).toLoadRect hl) : PR F _) >>= k) Q) := by
  subst h
  iintro H Hk
  iapply (load_run c gM (S := (rowR j).set) (by intro i hi; obtain ⟨k, hk, rfl⟩ := Finset.mem_map.mp hi; exact hk)) $$ [H]
  · iexact H
  iapply Hk

theorem rowstore_run (c : Dev nD) {off : Fin 3 → ℕ} (h : off = ![(me c).val, 0, 0]) {hin} {hx : (gM.access (Rect.unit (s := S16x32x128) off S1x32x128.size hin)).Stores Finset.univ} {hm}
    (f : Vec F S16x32x128 .bf16) {β : Type} {k : PUnit → PR F β} {Q : β → sProp 𝕄} :
    pts c cc0_scratch8 (rowR (me c)).set fullShare f
      ⊢ iprop((pts c cc0_scratch8 (rowR (me c)).set fullShare (GB m c) -∗ RUN c (k ⟨⟩) Q)
        -∗ RUN c ((Prog.lift (.store gM (Rect.unit (s := S16x32x128) off S1x32x128.size hin) (hd m c) Finset.univ hx hm) : PR F _) >>= k) Q) := by
  subst h
  have e : pts c cc0_scratch8 (rowR (me c)).set fullShare ((gM.access (rowR (me c)) : View sig .tc _ _ _).write (Elt F) f (hd m c) Finset.univ)
      = (pts c cc0_scratch8 (rowR (me c)).set fullShare (GB m c) : sProp 𝕄) :=
    pointsTo_congr (Ix := Unit) (Name := ℕ) (U := UU) (Lvl := ℕ) fun i hi => store_row m c f i hi
  iintro H Hk
  iapply (store_run c gM (r := rowR (me c)) (S := (rowR (me c)).set) (f := f) (le_of_eq (View.set_slice_whole cc0_scratch8 (rowR (me c))))) $$ [H]
  · iexact H
  iintro H
  ihave H := (Entails.of_eq e) $$ H
  iapply Hk $$ H

theorem turn (K : Dev nD × KK → ℕ) (c : Dev nD) (R : sProp 𝕄) :
    iprop(records m K ∗ sendL m c 16 ∗ (levAts L lv ∗ bigSep Finset.univ (posT (F := F) c) ∗ R)) ⊢ iprop(records m K ∗ levAts L lv ∗ waitL m c 0 ∗ R) := by
  iintro ⟨HR, HS, HL, HP, HF⟩
  isplitl [HR]; · iexact HR
  isplitl [HL]; · iexact HL
  isplitr [HF]
  · iapply (wait_intro m c); isplitl [HS] <;> iassumption
  iexact HF

/-- A device's own head stored in its row, ready to be sent. -/
theorem row_seq (K : Dev nD × KK → ℕ) (c : Dev nD) {off : Fin 3 → ℕ} (ho : off = ![(me c).val, 0, 0]) {hin} {hl : gM.view.LoadsAt (Rect.unit (s := S16x32x128) off S1x32x128.size hin).toLoadRect}
    {hx : (gM.access (Rect.unit (s := S16x32x128) off S1x32x128.size hin)).Stores Finset.univ} {hm} {β : Type} {k : PR F β} {Q : β → sProp 𝕄} {R : sProp 𝕄}
    (h : iprop(records m K ∗ sendL m c 0 ∗ R) ⊢ RUN c k Q) :
    iprop(records m K ∗ (∃ f, pts (F := F) c cc0_scratch8 (rowR (me c)).set fullShare f) ∗ bigSep Finset.univ (tokT (F := F) c) ∗ rowsT (F := F) c ∗ ow (F := F) c (OG c 0)
        ∗ (pts c cc0_scratch8 (rowR (me c)).set (ShareLeaves.leaf 4 fullShare (me c)) (GB m c) -∗ R))
      ⊢ RUN c ((Prog.lift (.load gM (Rect.unit (s := S16x32x128) off S1x32x128.size hin).toLoadRect hl) : PR F _) >>= fun _ =>
        (Prog.lift (.store gM (Rect.unit (s := S16x32x128) off S1x32x128.size hin) (hd m c) Finset.univ hx hm) : PR F _) >>= fun _ => k) Q := by
  iintro ⟨#HR, ⟨%f, Hg⟩, Ht, Hr, HO, HF⟩
  iapply (rowload_run c (me c) (ho) f) $$ [Hg]
  · iexact Hg
  iintro %v Hg
  iapply (rowstore_run m c (ho) f) $$ [Hg]
  · iexact Hg
  iintro Hg
  ihave HS := (send_intro m c) $$ [Ht Hr Hg]
  · isplitl [Ht]; · iexact Ht
    isplitl [Hr] <;> iassumption
  icases HS with ⟨HS, Hleaf⟩
  ihave HF := HF $$ Hleaf
  iapply h
  unfold sendL
  isplitr; · iexact HR
  isplitr [HF]
  · isplitl [HS] <;> iassumption
  iexact HF

theorem sends6_seq (K : Dev nD × KK → ℕ) (c : Dev nD) (v2 v10 : BitVec 32) (h19 : k0_cond19 i1 = 1#1) {Q : BitVec 32 → sProp 𝕄} {R : sProp 𝕄}
    (h : ∀ x, iprop(records m K ∗ sendL m c 8 ∗ R) ⊢ Q x) :
    iprop(records m K ∗ (∃ f, pts (F := F) c cc0_scratch8 (rowR (me c)).set fullShare f) ∗ bigSep Finset.univ (tokT (F := F) c) ∗ rowsT (F := F) c ∗ ow (F := F) c (OG c 0)
        ∗ (pts c cc0_scratch8 (rowR (me c)).set (ShareLeaves.leaf 4 fullShare (me c)) (GB m c) -∗ R))
      ⊢ RUN c (here (k0_part6 (F := F) i1) c v2 v10 h19 (k0_pay11 (rdM (PF m c)) (rdL (PF m c)) (rdM (PF m (xp c))) (rdL (PF m (xp c)))) (k0_pay12 (rdO (PF m c)) (rdM (PF m c)) (rdM (PF m (xp c)))) (k0_pay13 (rdM (PF m c)) (rdO (PF m (xp c))) (rdM (PF m (xp c))))) Q := by
  rw [k0_part6_eq_skeleton]
  unfold k0_part6_skel
  refine row_seq m K c (off12_eq c) ?_
  refine send_step m K c 0 0 1 rfl rfl (by clear h; revert c; decide) (fun _ => dev_of _ (by clear h; revert c; decide)) (by clear h; revert c; decide) rfl (by clear h; revert c; decide) ?_
  refine send_step m K c 1 1 2 rfl rfl (by clear h; revert c; decide) (fun _ => dev_of _ (by clear h; revert c; decide)) (by clear h; revert c; decide) rfl (by clear h; revert c; decide) ?_
  refine send_step m K c 2 2 3 rfl rfl (by clear h; revert c; decide) (fun _ => dev_of _ (by clear h; revert c; decide)) (by clear h; revert c; decide) rfl (by clear h; revert c; decide) ?_
  refine send_step m K c 3 3 4 rfl rfl (by clear h; revert c; decide) (fun _ => dev_of _ (by clear h; revert c; decide)) (by clear h; revert c; decide) rfl (by clear h; revert c; decide) ?_
  refine send_step m K c 4 4 5 rfl rfl (by clear h; revert c; decide) (fun _ => dev_of _ (by clear h; revert c; decide)) (by clear h; revert c; decide) rfl (by clear h; revert c; decide) ?_
  refine send_step m K c 5 5 6 rfl rfl (by clear h; revert c; decide) (fun _ => dev_of _ (by clear h; revert c; decide)) (by clear h; revert c; decide) rfl (by clear h; revert c; decide) ?_
  refine send_step m K c 6 6 7 rfl rfl (by clear h; revert c; decide) (fun _ => dev_of _ (by clear h; revert c; decide)) (by clear h; revert c; decide) rfl (by clear h; revert c; decide) ?_
  refine send_step m K c 7 7 8 rfl rfl (by clear h; revert c; decide) (fun _ => dev_of _ (by clear h; revert c; decide)) (by clear h; revert c; decide) rfl (by clear h; revert c; decide) ?_
  exact ret_step c (h _)

theorem sends7_seq (K : Dev nD × KK → ℕ) (c : Dev nD) (v2 v10 : BitVec 32) (h19 : k0_cond19 i1 = 1#1) (x) {Q : BitVec 32 → sProp 𝕄} {R : sProp 𝕄}
    (h : ∀ x, iprop(records m K ∗ levAts L lv ∗ waitL m c 2 ∗ R) ⊢ Q x) :
    iprop(records m K ∗ sendL m c 8 ∗ (levAts L lv ∗ bigSep Finset.univ (posT (F := F) c) ∗ R))
      ⊢ RUN c (here (k0_part7 (F := F) i1) c v2 v10 h19 x) Q := by
  rw [k0_part7_eq_skeleton]
  unfold k0_part7_skel
  refine send_step m K c 8 8 9 rfl rfl (by clear h; revert c; decide) (fun _ => dev_of _ (by clear h; revert c; decide)) (by clear h; revert c; decide) rfl (by clear h; revert c; decide) ?_
  refine send_step m K c 9 9 10 rfl rfl (by clear h; revert c; decide) (fun _ => dev_of _ (by clear h; revert c; decide)) (by clear h; revert c; decide) rfl (by clear h; revert c; decide) ?_
  refine send_step m K c 10 10 11 rfl rfl (by clear h; revert c; decide) (fun _ => dev_of _ (by clear h; revert c; decide)) (by clear h; revert c; decide) rfl (by clear h; revert c; decide) ?_
  refine send_step m K c 11 11 12 rfl rfl (by clear h; revert c; decide) (fun _ => dev_of _ (by clear h; revert c; decide)) (by clear h; revert c; decide) rfl (by clear h; revert c; decide) ?_
  refine send_step m K c 12 12 13 rfl rfl (by clear h; revert c; decide) (fun _ => dev_of _ (by clear h; revert c; decide)) (by clear h; revert c; decide) rfl (by clear h; revert c; decide) ?_
  refine send_step m K c 13 13 14 rfl rfl (by clear h; revert c; decide) (fun _ => dev_of _ (by clear h; revert c; decide)) (by clear h; revert c; decide) rfl (by clear h; revert c; decide) ?_
  refine send_step m K c 14 14 15 rfl rfl (by clear h; revert c; decide) (fun _ => dev_of _ (by clear h; revert c; decide)) (by clear h; revert c; decide) rfl (by clear h; revert c; decide) ?_
  refine send_step m K c 15 15 16 rfl rfl (by clear h; revert c; decide) (fun _ => dev_of _ (by clear h; revert c; decide)) (by clear h; revert c; decide) rfl (by clear h; revert c; decide) ?_
  refine (turn m K c R).trans ?_
  refine wait_step m K c 0 0 1 rfl rfl (by clear h; revert c; decide) rfl rfl ?_
  refine wait_step m K c 1 1 2 rfl rfl (by clear h; revert c; decide) rfl rfl ?_
  exact ret_step c (h _)

theorem waits8_seq (K : Dev nD × KK → ℕ) (c : Dev nD) (v2 v10 : BitVec 32) (h19 : k0_cond19 i1 = 1#1) (x) {Q : BitVec 32 → sProp 𝕄} {R : sProp 𝕄}
    (h : ∀ x, iprop(records m K ∗ levAts L lv ∗ waitL m c 12 ∗ R) ⊢ Q x) :
    iprop(records m K ∗ levAts L lv ∗ waitL m c 2 ∗ R)
      ⊢ RUN c (here (k0_part8 (F := F) i1) c v2 v10 h19 x) Q := by
  rw [k0_part8_eq_skeleton]
  unfold k0_part8_skel
  refine wait_step m K c 2 2 3 rfl rfl (by clear h; revert c; decide) rfl rfl ?_
  refine wait_step m K c 3 3 4 rfl rfl (by clear h; revert c; decide) rfl rfl ?_
  refine wait_step m K c 4 4 5 rfl rfl (by clear h; revert c; decide) rfl rfl ?_
  refine wait_step m K c 5 5 6 rfl rfl (by clear h; revert c; decide) rfl rfl ?_
  refine wait_step m K c 6 6 7 rfl rfl (by clear h; revert c; decide) rfl rfl ?_
  refine wait_step m K c 7 7 8 rfl rfl (by clear h; revert c; decide) rfl rfl ?_
  refine wait_step m K c 8 8 9 rfl rfl (by clear h; revert c; decide) rfl rfl ?_
  refine wait_step m K c 9 9 10 rfl rfl (by clear h; revert c; decide) rfl rfl ?_
  refine wait_step m K c 10 10 11 rfl rfl (by clear h; revert c; decide) rfl rfl ?_
  refine wait_step m K c 11 11 12 rfl rfl (by clear h; revert c; decide) rfl rfl ?_
  exact ret_step c (h _)

end Cert.Run

end
-- ==== Proof.Run.Rows.lean ====
/- The heads of a half, converted and stored as the rows of the result. -/
module

public import proofs.«01_k».proof.Proof.Run.Exchange

@[expose] public section

noncomputable section

namespace Cert.Run

open Cert.KernelIdeal Cert.KernelIdeal.Gen
open Idealize.ShloMosaic Idealize.ShloMosaic.TcCoe
open Idealize.SL Idealize.SL.RA Idealize.SL.BI
open Idealize.ShloMosaic.ValueIdx
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ
variable (m : (ℓ : Loc nD τ sig) → Buf (Elt F) ℓ)

/-- The result's first `n` heads are stored. -/
def outL (c : Dev nD) (n : ℕ) : sProp 𝕄 := iprop(∃ f : Vec F S32x1x16x128 .f32, ⌜∀ i : S32x1x16x128.Idx, (i 2).val < n → f i = OUT m c i⌝ ∗ pts c cc0_stg3_0 Finset.univ fullShare f)
def outS (c : Dev nD) (n : ℕ) : sProp 𝕄 := iprop(pts c cc0_scratch8 Finset.univ fullShare (GB m c) ∗ outL m c n)

abbrev outR (j : Fin 16) (h : ∀ a, (![0, 0, j.val, 0] : Fin 4 → ℕ) a + S32x1x1x128.size a ≤ S32x1x16x128.size a) : Rect S32x1x16x128 :=
  Rect.unit (s := S32x1x16x128) ![0, 0, j.val, 0] S32x1x1x128.size h

theorem out_emb (j : Fin 16) (h) (k : S32x1x1x128.Idx) : (outR j h).emb k = ix4 (k 0) (0 : Fin 1) j (k 3) := by
  funext a
  have h1 : (k 1).val < 1 := (k 1).isLt
  have h2 : (k 2).val < 1 := (k 2).isLt
  refine Fin.ext ?_
  fin_cases a
  · show 0 + 1 * (k 0).val = (k 0).val; omega
  · show 0 + 1 * (k 1).val = 0; omega
  · show j.val + 1 * (k 2).val = j.val; omega
  · show 0 + 1 * (k 3).val = (k 3).val; omega

/-- The head read for row `j`. -/
abbrev rdG (c : Dev nD) (j : Fin 16) : Vec F S1x32x128 .bf16 := gM.view.readAt (Elt F) (rowR j).toLoadRect (GB m c)

theorem out_write (c : Dev nD) (j : Fin 16) (h) (f : Vec F S32x1x16x128 .f32) (hf : ∀ i : S32x1x16x128.Idx, (i 2).val < j.val → f i = OUT m c i)
    (i : S32x1x16x128.Idx) (hi : (i 2).val < j.val + 1) :
    (oM.access (outR j h) : View sig .tc _ _ _).write (Elt F) f (k0_pay15 (rdG m c j)) Finset.univ i = OUT m c i := by
  by_cases hj : (i 2).val = j.val
  · have e : i = (oM.access (outR j h) : View sig .tc _ _ _).emb (ix4 (i 0) (0 : Fin 1) (0 : Fin 1) (i 3) : S32x1x1x128.Idx) := by
      refine Eq.trans ?_ (out_emb j h (ix4 (i 0) (0 : Fin 1) (0 : Fin 1) (i 3))).symm
      funext a
      have h1 : (i 1).val < 1 := (i 1).isLt
      fin_cases a
      · rfl
      · exact Fin.ext (by show (i 1).val = 0; omega)
      · exact Fin.ext hj
      · rfl
    have e2 : i 2 = j := Fin.ext hj
    conv_lhs => rw [e]
    refine (View.write_emb_of_mem (v := (oM.access (outR j h) : View sig .tc _ _ _)) f _ (Finset.mem_univ _)).trans ?_
    show _ = k0_pay15 (gM.view.readAt (Elt F) (rowR (i 2)).toLoadRect (GB m c)) (ix4 (i 0) (0 : Fin 1) (0 : Fin 1) (i 3))
    rw [e2]
    rfl
  · rw [View.write_of_not_mem]
    · exact hf i (by omega)
    · intro hm
      obtain ⟨k, -, rfl⟩ := Finset.mem_map.mp hm
      exact hj (congrArg (fun z : S32x1x16x128.Idx => (z 2).val) (out_emb j h k))

theorem head_load (c : Dev nD) (j : Fin 16) {off : Fin 3 → ℕ} (ho : off = ![j.val, 0, 0]) {hin} {hl : gM.view.LoadsAt (Rect.unit (s := S16x32x128) off S1x32x128.size hin).toLoadRect} {n : ℕ}
    {β : Type} {k : Vec F S1x32x128 .bf16 → PR F β} {Q : β → sProp 𝕄} {R : sProp 𝕄} (h : iprop(outS m c n ∗ R) ⊢ RUN c (k (rdG m c j)) Q) :
    iprop(outS m c n ∗ R) ⊢ RUN c ((Prog.lift (.load gM (Rect.unit (s := S16x32x128) off S1x32x128.size hin).toLoadRect hl) : PR F _) >>= k) Q := by
  subst ho
  unfold outS at h ⊢
  iintro ⟨⟨HG, HO⟩, HF⟩
  iapply (load_run c gM (S := Finset.univ) (Finset.subset_univ _)) $$ [HG]
  · iexact HG
  iintro HG
  iapply h
  isplitr [HF]
  · isplitl [HG] <;> iassumption
  iexact HF

theorem out_load (c : Dev nD) {r : LoadRect S32x1x16x128} {hl : oM.view.LoadsAt r} (n : ℕ)
    {β : Type} {k : PR F β} {Q : β → sProp 𝕄} {R : sProp 𝕄} (h : iprop(outS m c n ∗ R) ⊢ RUN c k Q) :
    iprop(outS m c n ∗ R) ⊢ RUN c ((Prog.lift (.load oM r hl) : PR F _) >>= fun _ => k) Q := by
  unfold outS outL at h ⊢
  iintro ⟨⟨HG, ⟨%f, %hf, HO⟩⟩, HF⟩
  iapply (load_run c oM (S := Finset.univ) (Finset.subset_univ _)) $$ [HO]
  · iexact HO
  iintro HO
  iapply h
  isplitr [HF]
  · isplitl [HG]; · iexact HG
    iexists f
    isplitr; · ipureintro; exact hf
    iexact HO
  iexact HF

theorem out_store (c : Dev nD) (j : Fin 16) (a b : ℕ) (ha : a = j.val) (hb : b = j.val + 1) {off : Fin 4 → ℕ} (ho : off = ![0, 0, j.val, 0]) {hin}
    {w : Vec F S32x1x1x128 .f32} (hw : w = k0_pay15 (rdG m c j)) {hx : (oM.access (Rect.unit (s := S32x1x16x128) off S32x1x1x128.size hin)).Stores Finset.univ} {hm}
    {β : Type} {k : PR F β} {Q : β → sProp 𝕄} {R : sProp 𝕄} (h : iprop(outS m c b ∗ R) ⊢ RUN c k Q) :
    iprop(outS m c a ∗ R) ⊢ RUN c ((Prog.lift (.store oM (Rect.unit (s := S32x1x16x128) off S32x1x1x128.size hin) w Finset.univ hx hm) : PR F _) >>= fun _ => k) Q := by
  subst ho ha hb hw
  unfold outS outL at h ⊢
  iintro ⟨⟨HG, ⟨%f, %hf, HO⟩⟩, HF⟩
  iapply (store_run c oM (S := Finset.univ) (Finset.subset_univ _)) $$ [HO]
  · iexact HO
  iintro HO
  iapply h
  isplitr [HF]
  · isplitl [HG]; · iexact HG
    iexists _
    isplitr
    swap
    · iexact HO
    · ipureintro; exact fun i hi => out_write m c j hin f hf i hi
  iexact HF

/-- The waits are over and the rows are to be stored. -/
theorem turn_out (K : Dev nD × KK → ℕ) (c : Dev nD) (R : sProp 𝕄) :
    iprop(records m K ∗ levAts L lv ∗ waitL m c 16 ∗ (pts c cc0_scratch8 (rowR (me c)).set (ShareLeaves.leaf 4 fullShare (me c)) (GB m c) ∗ outL m c 0 ∗ R))
      ⊢ iprop(outS m c 0 ∗ (ow (F := F) c 0 ∗ gathZ (F := F) c ∗ R)) := by
  unfold outS
  iintro ⟨-, -, HW, Hl, HO, HF⟩
  ihave H := (wait_elim m c) $$ [HW Hl]
  · isplitl [HW] <;> iassumption
  icases H with ⟨Ho, HG, HZ⟩
  isplitl [HG HO]
  · isplitl [HG] <;> iassumption
  isplitl [Ho]; · iexact Ho
  isplitl [HZ] <;> iassumption

theorem rows9_seq (K : Dev nD × KK → ℕ) (c : Dev nD) (v2 v10 : BitVec 32) (h19 : k0_cond19 i1 = 1#1) (x) {Q : FVec F S32x128 .f32 → sProp 𝕄} {R : sProp 𝕄}
    (h : iprop(outS m c 2 ∗ (ow (F := F) c 0 ∗ gathZ (F := F) c ∗ R)) ⊢ Q (k0_pay17 (rdG m c 2))) :
    iprop(records m K ∗ levAts L lv ∗ waitL m c 12 ∗ (pts c cc0_scratch8 (rowR (me c)).set (ShareLeaves.leaf 4 fullShare (me c)) (GB m c) ∗ outL m c 0 ∗ R))
      ⊢ RUN c (here (k0_part9 (F := F) i1) c v2 v10 h19 x) Q := by
  rw [k0_part9_eq_skeleton]
  unfold k0_part9_skel
  refine wait_step m K c 12 12 13 rfl rfl (by clear h; revert c; decide) rfl rfl ?_
  refine wait_step m K c 13 13 14 rfl rfl (by clear h; revert c; decide) rfl rfl ?_
  refine wait_step m K c 14 14 15 rfl rfl (by clear h; revert c; decide) rfl rfl ?_
  refine wait_step m K c 15 15 16 rfl rfl (by clear h; revert c; decide) rfl rfl ?_
  refine (turn_out m K c R).trans ?_
  refine head_load m c 0 rfl ?_
  refine out_load m c 0 ?_
  refine out_store m c 0 0 1 rfl rfl rfl rfl ?_
  refine head_load m c 1 rfl ?_
  refine out_load m c 1 ?_
  refine out_store m c 1 1 2 rfl rfl rfl rfl ?_
  refine head_load m c 2 rfl ?_
  exact ret_step c h

theorem rows10_seq (c : Dev nD) {Q : FVec F S32x1x1x128 .f32 → sProp 𝕄} {R : sProp 𝕄}
    (h : iprop(outS m c 6 ∗ R) ⊢ Q (k0_pay22 (rdG m c 6))) :
    iprop(outS m c 2 ∗ R) ⊢ RUN c (here (k0_part10 (F := F) i1) (k0_pay17 (rdG m c 2))) Q := by
  rw [k0_part10_eq_skeleton]
  unfold k0_part10_skel
  refine out_load m c 2 ?_
  refine out_store m c 2 2 3 rfl rfl rfl rfl ?_
  refine head_load m c 3 rfl ?_
  refine out_load m c 3 ?_
  refine out_store m c 3 3 4 rfl rfl rfl rfl ?_
  refine head_load m c 4 rfl ?_
  refine out_load m c 4 ?_
  refine out_store m c 4 4 5 rfl rfl rfl rfl ?_
  refine head_load m c 5 rfl ?_
  refine out_load m c 5 ?_
  refine out_store m c 5 5 6 rfl rfl rfl rfl ?_
  refine head_load m c 6 rfl ?_
  refine out_load m c 6 ?_
  exact ret_step c h

theorem rows11_seq (c : Dev nD) {Q : PUnit → sProp 𝕄} {R : sProp 𝕄} (h : iprop(outS m c 11 ∗ R) ⊢ Q ⟨⟩) :
    iprop(outS m c 6 ∗ R) ⊢ RUN c (here (k0_part11 (F := F) i1) (k0_pay22 (rdG m c 6))) Q := by
  rw [k0_part11_eq_skeleton]
  unfold k0_part11_skel
  refine out_store m c 6 6 7 rfl rfl rfl rfl ?_
  refine head_load m c 7 rfl ?_
  refine out_load m c 7 ?_
  refine out_store m c 7 7 8 rfl rfl rfl rfl ?_
  refine head_load m c 8 rfl ?_
  refine out_load m c 8 ?_
  refine out_store m c 8 8 9 rfl rfl rfl rfl ?_
  refine head_load m c 9 rfl ?_
  refine out_load m c 9 ?_
  refine out_store m c 9 9 10 rfl rfl rfl rfl ?_
  refine head_load m c 10 rfl ?_
  refine out_load m c 10 ?_
  refine out_store m c 10 10 11 rfl rfl rfl rfl ?_
  exact ret_step c h

theorem rows12_seq (c : Dev nD) {Q : FVec F S32x128 .f32 → sProp 𝕄} {R : sProp 𝕄} (h : iprop(outS m c 15 ∗ R) ⊢ Q (k0_pay31 (rdG m c 15))) :
    iprop(outS m c 11 ∗ R) ⊢ RUN c (here (k0_part12 (F := F) i1)) Q := by
  rw [k0_part12_eq_skeleton]
  unfold k0_part12_skel
  refine head_load m c 11 rfl ?_
  refine out_load m c 11 ?_
  refine out_store m c 11 11 12 rfl rfl rfl rfl ?_
  refine head_load m c 12 rfl ?_
  refine out_load m c 12 ?_
  refine out_store m c 12 12 13 rfl rfl rfl rfl ?_
  refine head_load m c 13 rfl ?_
  refine out_load m c 13 ?_
  refine out_store m c 13 13 14 rfl rfl rfl rfl ?_
  refine head_load m c 14 rfl ?_
  refine out_load m c 14 ?_
  refine out_store m c 14 14 15 rfl rfl rfl rfl ?_
  refine head_load m c 15 rfl ?_
  exact ret_step c h

end Cert.Run

end
-- ==== Proof.Run.Point1.lean ====
/- The body at the second grid point. -/
module

public import proofs.«01_k».proof.Proof.Run.Rows

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ
variable (m : (ℓ : Loc nD τ sig) → Buf (Elt F) ℓ)

theorem seq_trans {P P' P'' : sProp 𝕄} (h : P ⊢ P') (h' : P' ⊢ P'') : P ⊢ P'' := h.trans h'
theorem bind_seq (c : Dev nD) {α β : Type} {p : PR F α} {k : α → PR F β} {Q : β → sProp 𝕄} {P : sProp 𝕄} (h : P ⊢ RUN c p (fun a => RUN c (k a) Q)) :
    P ⊢ RUN c (p >>= k) Q := h.trans (bind_run c)

theorem part13_run1 (K : Dev nD × KK → ℕ) (c : Dev nD)
    {Q : (Σ' (arg0 : BitVec 32) (d0 : Dev nD) (v2 : BitVec 32) (v5 : BitVec 32) (v8 : BitVec 32) (v10 : BitVec 32) (v11 : BitVec 32) (v12 : Sems sig S_) (v16 : BitVec 32), FVec F S4096x128 .f32) → sProp 𝕄} :
    iprop(records m K ∗ levAts L lv ∗ slotW (F := F) c 1 ∗ ow (F := F) c (OG c 0 + OR c))
      ⊢ iprop((∀ a v2 v5 v8 v10 v11 v16, (ow (F := F) c (OG c 0 + OR c) ∗ slotZ (F := F) c 1 ∗ slotD m c 1) -∗ Q ⟨a, c, v2, v5, v8, v10, v11, SemArray.scalar (sig.barrier 0 rfl), v16, k0_pay35 (rdK m c i1)⟩)
        -∗ RUN c (here (k0_part13 (F := F) i1)) Q) := by
  rw [k0_part13_eq_skeleton]
  unfold k0_part13_skel rdK
  iintro ⟨#HR, #HL, HW, HO⟩ Hk
  iapply (dev_run c)
  rw [dif_neg cond1_i1]
  iapply (slot_step m K c 1 _ ((On_OGR c).mono fun _ h => by omega) off3_i1) $$ [HW HO]
  · isplitr; · iexact HR
    isplitr; · iexact HL
    isplitl [HW] <;> iassumption
  unfold slotD
  iintro ⟨HO, Hz, HK, HV⟩
  iapply (load_run c kM (sub_slot_k 1 _ off6_i1 _)) $$ [HK]
  · iexact HK
  iintro HK
  iapply (ret_step c .rfl)
  iapply Hk
  isplitl [HO]; · iexact HO
  isplitl [Hz]; · iexact Hz
  isplitl [HK] <;> iassumption

/-- What the body takes at the second point. -/
def in1 (c : Dev nD) : sProp 𝕄 :=
  iprop(slotW (F := F) c 1 ∗ ow (F := F) c (OG c 0 + OR c)
    ∗ pts c cc0_scratch0 Finset.univ fullShare (QT m c) ∗ pts c cc0_scratch1 Finset.univ fullShare (LC m c) ∗ pts c cc0_scratch6 Finset.univ fullShare (P1 m c)
    ∗ exT (F := F) c ∗ bigSep Finset.univ (tokT (F := F) c) ∗ bigSep Finset.univ (posT (F := F) c)
    ∗ (∃ f, pts (F := F) c cc0_scratch8 (rowR (me c)).set fullShare f) ∗ (∃ f, pts (F := F) c cc0_stg3_0 Finset.univ fullShare f))
/-- What it leaves. -/
def out1 (c : Dev nD) : sProp 𝕄 :=
  iprop(ow (F := F) c 0 ∗ slotZ (F := F) c 1 ∗ slotD m c 1
    ∗ pts c cc0_scratch0 Finset.univ fullShare (QT m c) ∗ pts c cc0_scratch1 Finset.univ fullShare (LC m c) ∗ pts c cc0_scratch6 Finset.univ fullShare (PF m c)
    ∗ exZ (F := F) c ∗ gathZ (F := F) c ∗ pts c cc0_scratch7 Finset.univ fullShare (PF m (xp c))
    ∗ pts c cc0_scratch8 Finset.univ fullShare (GB m c) ∗ pts c cc0_stg3_0 Finset.univ fullShare (OUT m c))

/-- The exchange, the sends and the rows of the result. -/
theorem tail_seq (K : Dev nD × KK → ℕ) (c : Dev nD) (v2 v5 v8 v10 v11 : BitVec 32) (h19 : k0_cond19 i1 = 1#1) {k : PR F PUnit} {Q : PUnit → sProp 𝕄} {R : sProp 𝕄}
    (hk : iprop(outS m c 16 ∗ (ow (F := F) c 0 ∗ gathZ (F := F) c ∗ (exZ (F := F) c ∗ pts c cc0_scratch6 Finset.univ fullShare (PF m c) ∗ pts c cc0_scratch7 Finset.univ fullShare (PF m (xp c)) ∗ R)))
      ⊢ RUN c k Q) {hx} {hl hl'} :
    iprop(records m K ∗ levAts L lv ∗ exT (F := F) c ∗ ow (F := F) c (OG c 0 + OR c) ∗ pts c cc0_scratch6 Finset.univ fullShare (PF m c)
        ∗ bigSep Finset.univ (tokT (F := F) c) ∗ bigSep Finset.univ (posT (F := F) c) ∗ (∃ f, pts (F := F) c cc0_scratch8 (rowR (me c)).set fullShare f) ∗ outL m c 0 ∗ R)
      ⊢ RUN c (here (k0_part5 (F := F) i1) c v5 v8 v11 (SemArray.scalar (sig.barrier 0 rfl)) h19 >>= fun x =>
          here (k0_part6 (F := F) i1) c v2 v10 h19 x.1 x.2.1 x.2.2 >>= fun y =>
          here (k0_part7 (F := F) i1) c v2 v10 h19 y >>= fun y =>
          here (k0_part8 (F := F) i1) c v2 v10 h19 y >>= fun y =>
          here (k0_part9 (F := F) i1) c v2 v10 h19 y >>= fun y =>
          here (k0_part10 (F := F) i1) y >>= fun y =>
          here (k0_part11 (F := F) i1) y >>= fun _ =>
          here (k0_part12 (F := F) i1) >>= fun y =>
          (Prog.lift (.load oM (Rect.unit (s := S32x1x16x128) ![0, 0, 15, 0] S32x1x1x128.size inb_S32x1x16x128_S32x1x1x128_0_0_15_0).toLoadRect hl) : PR F _) >>= fun _ =>
          (Prog.lift (.store oM (Rect.unit (s := S32x1x16x128) ![0, 0, 15, 0] S32x1x1x128.size inb_S32x1x16x128_S32x1x1x128_0_0_15_0) (k0_pay2 y) Finset.univ hx hl') : PR F _) >>= fun _ => k) Q := by
  iintro ⟨#HR, #HL, HX, HO, HP, HT, Hp, Hg, Hout, HF⟩
  iapply (bind_run c)
  iapply (part5_run m K c v5 v8 v11 h19) $$ [HX HO HP]
  · isplitr; · iexact HR
    isplitr; · iexact HL
    isplitl [HX]; · iexact HX
    isplitl [HO] <;> iassumption
  iintro ⟨Hz, Hrows, HO, HP, HX⟩
  iapply (bind_run c)
  dsimp only
  iapply (sends6_seq m K c v2 v10 h19 (R := iprop(pts c cc0_scratch8 (rowR (me c)).set (ShareLeaves.leaf 4 fullShare (me c)) (GB m c)
      ∗ (levAts L lv ∗ bigSep Finset.univ (posT (F := F) c) ∗ outL m c 0 ∗ (exZ (F := F) c ∗ pts c cc0_scratch6 Finset.univ fullShare (PF m c) ∗ pts c cc0_scratch7 Finset.univ fullShare (PF m (xp c)) ∗ R)))) ?_)
  · intro x
    refine bind_seq c ?_
    refine seq_trans ?_ (sends7_seq m K c v2 v10 h19 x (R := iprop(pts c cc0_scratch8 (rowR (me c)).set (ShareLeaves.leaf 4 fullShare (me c)) (GB m c)
      ∗ outL m c 0 ∗ (exZ (F := F) c ∗ pts c cc0_scratch6 Finset.univ fullShare (PF m c) ∗ pts c cc0_scratch7 Finset.univ fullShare (PF m (xp c)) ∗ R))) fun x => ?_)
    · iintro ⟨HR, HS, Hl, HL, Hp, HO, HF⟩
      isplitl [HR]; · iexact HR
      isplitl [HS]; · iexact HS
      isplitl [HL]; · iexact HL
      isplitl [Hp]; · iexact Hp
      isplitl [Hl]; · iexact Hl
      isplitl [HO] <;> iassumption
    refine bind_seq c ?_
    refine waits8_seq m K c v2 v10 h19 x fun x => ?_
    refine bind_seq c ?_
    refine rows9_seq m K c v2 v10 h19 x ?_
    refine bind_seq c ?_
    refine rows10_seq m c ?_
    refine bind_seq c ?_
    refine rows11_seq m c ?_
    refine bind_seq c ?_
    refine rows12_seq m c ?_
    refine out_load m c 15 ?_
    refine out_store m c 15 15 16 rfl rfl rfl rfl ?_
    exact hk
  isplitr; · iexact HR
  isplitl [Hg]; · iexact Hg
  isplitl [HT]; · iexact HT
  isplitl [Hrows]; · iexact Hrows
  isplitl [HO]; · iexact HO
  iintro Hl
  isplitl [Hl]; · iexact Hl
  isplitr; · iexact HL
  isplitl [Hp]; · iexact Hp
  isplitl [Hout]; · iexact Hout
  isplitl [Hz]; · iexact Hz
  isplitl [HP]; · iexact HP
  isplitl [HX] <;> iassumption

/-- The body at the second point. -/
theorem body1_run (K : Dev nD × KK → ℕ) (c : Dev nD) {Q : PUnit → sProp 𝕄} :
    iprop(records m K ∗ levAts L lv ∗ in1 m c)
      ⊢ iprop((out1 m c -∗ Q ⟨⟩) -∗ RUN c (here (cc0__fused_body (F := F) i1)) Q) := by
  rw [cc0__fused_body_eq_skeleton]
  unfold cc0__fused_body_skel in1 out1
  iintro ⟨#HR, #HL, HW, HO, Hq, Hlc, HP, HX, HT, Hp, Hg, ⟨%f, Hout⟩⟩ Hk
  iapply (bind_run c)
  iapply (part13_run1 m K c) $$ [HW HO]
  · isplitr; · iexact HR
    isplitr; · iexact HL
    isplitl [HW] <;> iassumption
  iintro %a %v2 %v5 %v8 %v10 %v11 %v16 Hm
  unfold slotD
  icases Hm with ⟨HO, Hz, HK, HV⟩
  iapply (bind_run c)
  iapply (part14_run m c i1 1 off6_i1 (P1 m c) a v10 v16) $$ [HV Hq Hlc HP]
  · isplitl [HV]; · iexact HV
    isplitl [Hq]; · iexact Hq
    isplitl [Hlc] <;> iassumption
  iintro ⟨HV, Hq, Hlc, HP⟩
  iapply (store_run c pM (S := Finset.univ) (Finset.subset_univ _)) $$ [HP]
  · iexact HP
  iintro HP
  iapply (load_run c pM (S := Finset.univ) (Finset.subset_univ _)) $$ [HP]
  · iexact HP
  iintro HP
  iapply (store_run c pM (S := Finset.univ) (Finset.subset_univ _)) $$ [HP]
  · iexact HP
  iintro HP
  rw [dif_neg cond18_i1, dif_pos cond19_i1]
  iapply (tail_seq m K c v2 v5 v8 v10 v11 cond19_i1 (R := iprop((out1 m c -∗ Q ⟨⟩) ∗ slotZ (F := F) c 1 ∗ slotD m c 1 ∗ pts c cc0_scratch0 Finset.univ fullShare (QT m c) ∗ pts c cc0_scratch1 Finset.univ fullShare (LC m c))) ?_)
  · show _ ⊢ RUN c (pure PUnit.unit : PR F PUnit) Q
    refine ret_step c ?_
    unfold out1 outS outL slotD
    iintro ⟨⟨HG, ⟨%fo, %hfo, Hout⟩⟩, HO, Hgz, Hez, HP, HX, Hk, Hz, ⟨HK, HV⟩, Hq, Hlc⟩
    have e : fo = OUT m c := funext fun i => hfo i (i 2).isLt
    subst e
    iapply Hk
    isplitl [HO]; · iexact HO
    isplitl [Hz]; · iexact Hz
    isplitl [HK HV]; · isplitl [HK] <;> iassumption
    isplitl [Hq]; · iexact Hq
    isplitl [Hlc]; · iexact Hlc
    isplitl [HP]; · iexact HP
    isplitl [Hez]; · iexact Hez
    isplitl [Hgz]; · iexact Hgz
    isplitl [HX]; · iexact HX
    isplitl [HG] <;> iassumption
  isplitr; · iexact HR
  isplitr; · iexact HL
  isplitl [HX]; · iexact HX
  isplitl [HO]; · iexact HO
  isplitl [HP]; · unfold PF stepP stepM; iexact HP
  isplitl [HT]; · iexact HT
  isplitl [Hp]; · iexact Hp
  isplitl [Hg]; · iexact Hg
  isplitl [Hout]
  · unfold outL
    iexists f
    isplitr; · ipureintro; exact fun i hi => absurd hi (Nat.not_lt_zero _)
    iexact Hout
  unfold out1 slotD
  isplitl [Hk]; · iexact Hk
  isplitl [Hz]; · iexact Hz
  isplitl [HK HV]; · isplitl [HK] <;> iassumption
  isplitl [Hq] <;> iassumption

end Cert.Run

end
-- ==== Proof.Run.Begin.lean ====
/- What a device holds before the first grid point, between the two, and after the last; how the
   ghost state of the launch and the buffers make the first, and how the last gives the buffers back. -/
module

public import proofs.«01_k».proof.Proof.Run.Ghost
public import proofs.«01_k».proof.Proof.Run.Point1

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ
variable (m : (ℓ : Loc nD τ sig) → Buf (Elt F) ℓ)

theorem halves {ℓ : Loc nD τ sig} {I : Finset (Idx ℓ)} {q : PosShare TreeShare} {f : Buf (Elt F) ℓ} :
    (ℓ ↦[I]{q} f : sProp 𝕄) ⊢ iprop((ℓ ↦[I]{q.left} f) ∗ ℓ ↦[I]{q.right} f) :=
  (pointsTo_share (by rw [PosShare.left_op_right]; exact Part.mem_some _)).1

theorem part_of {ℓ : Loc nD τ sig} {I S : Finset (Idx ℓ)} (h : I ⊆ S) {q : PosShare TreeShare} {f : Buf (Elt F) ℓ} :
    (ℓ ↦[S]{q} f : sProp 𝕄) ⊢ ℓ ↦[I]{q} f := by
  iintro H
  ihave H := (pointsTo_split_subset h).1 $$ H
  icases H with ⟨H, -⟩
  iexact H

/-- A staging buffer by its two slots. -/
theorem slots_split (c : Dev nD) (f : Vec F S2x4096x128 .f32) :
    (pts c cc0_scratch2 Finset.univ fullShare f : sProp 𝕄) ⊢ iprop((∃ f, pts (F := F) c cc0_scratch2 (slotR 0).set fullShare f) ∗ ∃ f, pts (F := F) c cc0_scratch2 (slotR 1).set fullShare f) := by
  iintro H
  ihave H := (pointsTo_split_subset (Finset.subset_univ (slotR 0).set)).1 $$ H
  icases H with ⟨H0, H1⟩
  isplitl [H0]
  · iexists f; iexact H0
  · iexists f
    ihave H1 := (Entails.of_eq (congrArg (fun S => (pts c cc0_scratch2 S fullShare f : sProp 𝕄)) slots_sdiff)) $$ H1
    iexact H1
theorem slots_split' (c : Dev nD) (f : Vec F S2x4096x128 .f32) :
    (pts c cc0_scratch3 Finset.univ fullShare f : sProp 𝕄) ⊢ iprop((∃ f, pts (F := F) c cc0_scratch3 (slotR 0).set fullShare f) ∗ ∃ f, pts (F := F) c cc0_scratch3 (slotR 1).set fullShare f) := by
  iintro H
  ihave H := (pointsTo_split_subset (Finset.subset_univ (slotR 0).set)).1 $$ H
  icases H with ⟨H0, H1⟩
  isplitl [H0]
  · iexists f; iexact H0
  · iexists f
    ihave H1 := (Entails.of_eq (congrArg (fun S => (pts c cc0_scratch3 S fullShare f : sProp 𝕄)) slots_sdiff)) $$ H1
    iexact H1
theorem slots_join (c : Dev nD) (b : Ref sig .tc) (S T : Finset b.ty.Idx) (hS : Finset.univ \ S = T) (f g : b.ty.Contents (Elt F)) :
    iprop(pts c b S fullShare f ∗ pts c b T fullShare g) ⊢ (∃ f, pts c b Finset.univ fullShare f : sProp 𝕄) := by
  subst hS
  iintro ⟨H0, H1⟩
  ihave H := (pointsTo_join_subset (ℓ := (c : Thread nD τ).loc b) (I := S) (S := Finset.univ) (g := f) (f := g) (q := fullShare) (Finset.subset_univ S)) $$ [H0 H1]
  · isplitl [H0] <;> iassumption
  iexists _
  iexact H

/-! ## The three states -/

/-- The left half-shares of the two arrays left in memory. -/
def args (c : Dev nD) (q : PosShare TreeShare) : sProp 𝕄 :=
  iprop(pts c main_arg1 Finset.univ q (m ((c : Thread nD τ).loc main_arg1)) ∗ pts c main_arg2 Finset.univ q (m ((c : Thread nD τ).loc main_arg2)))
def start (c : Dev nD) : sProp 𝕄 := iprop(G' m c ∗ creds (F := F) c ∗ levAts L lv ∗ args m c fullShare.left)
def bufs (c : Dev nD) : sProp 𝕄 :=
  iprop((∃ f, pts (F := F) c cc0_scratch0 Finset.univ fullShare f) ∗ (∃ f, pts (F := F) c cc0_scratch1 Finset.univ fullShare f)
    ∗ (∃ f, pts (F := F) c cc0_scratch2 Finset.univ fullShare f) ∗ (∃ f, pts (F := F) c cc0_scratch3 Finset.univ fullShare f)
    ∗ (∃ f, pts (F := F) c cc0_scratch6 Finset.univ fullShare f) ∗ (∃ f, pts (F := F) c cc0_scratch7 Finset.univ fullShare f)
    ∗ (∃ f, pts (F := F) c cc0_scratch8 Finset.univ fullShare f))
/-- What the exchange needs, kept through the first point. -/
def keep (c : Dev nD) : sProp 𝕄 :=
  iprop(exT (F := F) c ∗ bigSep Finset.univ (tokT (F := F) c) ∗ bigSep Finset.univ (posT (F := F) c)
    ∗ (∃ f, pts (F := F) c cc0_scratch8 (rowR (me c)).set fullShare f) ∗ atPos ER (kcell (c, kK 1)) 0 ∅ 0 ∗ atPos ER (kcell (c, kV 1)) 0 ∅ 0)
def Φ₀ (c : Dev nD) : sProp 𝕄 := iprop(start m c ∗ bufs (F := F) c)
def Φ₁ (c : Dev nD) : sProp 𝕄 :=
  iprop((∃ K, records m K) ∗ levAts L lv ∗ keep (F := F) c
    ∗ pts c cc0_scratch0 Finset.univ fullShare (QT m c) ∗ pts c cc0_scratch1 Finset.univ fullShare (LC m c) ∗ pts c cc0_scratch6 Finset.univ fullShare (P1 m c)
    ∗ slotZ (F := F) c 0 ∗ slotD m c 0 ∗ cred (tallyAt (kcell (c, kK 1)) () NK) ∗ cred (tallyAt (kcell (c, kV 1)) () NK))
def Φ₂ (c : Dev nD) : sProp 𝕄 :=
  iprop(semVal (kcell (c, kBar)) 0 ∗ (bigSep Finset.univ fun k : OK => semVal (kcell (c, .inr k)) 0) ∗ bufs (F := F) c)

/-! ## Into the first point -/

theorem sigs_intro (c : Dev nD) (f : Vec F S16x32x128 .bf16) :
    iprop((bigSep Finset.univ fun j : Fin 16 => tokA (F := F) (mate c j, kBar) (me c)) ∗ pts c cc0_scratch8 Finset.univ fullShare f)
      ⊢ iprop(bigSep Finset.univ (sigT (F := F) c) ∗ ∃ f, pts (F := F) c cc0_scratch8 (rowR (me c)).set fullShare f) := by
  have hrow : (pts c cc0_scratch8 Finset.univ fullShare f : sProp 𝕄) = bigSep Finset.univ fun j : Fin 16 => pts c cc0_scratch8 (rowR j).set fullShare f := by
    refine (congrArg (fun S => (pts c cc0_scratch8 S fullShare f : sProp 𝕄)) rows_cover.symm).trans ?_
    exact pointsTo_biUnion _ _ fun t _ t' _ h => rows_disjoint (Finset.mem_coe.mpr (Finset.mem_univ t)) (Finset.mem_coe.mpr (Finset.mem_univ t')) h
  rw [hrow, ← bigSep_sep']
  have e : (bigSep Finset.univ fun j : Fin 16 => iprop(tokA (F := F) (mate c j, kBar) (me c) ∗ pts c cc0_scratch8 (rowR j).set fullShare f))
      ⊢ bigSep Finset.univ fun j : Fin 16 => iprop(sigT (F := F) c j ∗ if j = me c then iprop(∃ f, pts (F := F) c cc0_scratch8 (rowR (me c)).set fullShare f) else iprop(emp)) := by
    refine bigSep_mono fun j _ => ?_
    show (_ : sProp 𝕄) ⊢ (_ : sProp 𝕄)
    unfold sigT
    by_cases hj : j = me c
    · rw [if_pos hj, if_pos hj]
      iintro ⟨-, H⟩
      isplitr; · iempintro
      iexists f
      rw [← hj]
      iexact H
    · rw [if_neg hj, if_neg hj]
      iintro ⟨Ht, H⟩
      isplitl
      · isplitl [Ht]; · iexact Ht
        iexists f; iexact H
      · iempintro
  refine e.trans ?_
  rw [bigSep_sep', at_one]
  iintro ⟨H1, H2, -⟩
  isplitl [H1] <;> iassumption

theorem toks_intro (c : Dev nD) :
    iprop((bigSep Finset.univ fun j : Fin 16 => tokA (F := F) (c, kGs j) 0) ∗ bigSep Finset.univ fun j : Fin 16 => tokA (F := F) (mate c j, kGr (me c)) 0)
      ⊢ bigSep Finset.univ (tokT (F := F) c) := by
  rw [← bigSep_sep']
  refine bigSep_mono fun j _ => ?_
  show (_ : sProp 𝕄) ⊢ (_ : sProp 𝕄)
  unfold tokT
  by_cases hj : j = me c
  · rw [if_pos hj]; iintro -; iempintro
  · rw [if_neg hj]

/-- The cells of the device's own head are never used: they are closed at once. -/
theorem pos_intro (K : Dev nD × KK → ℕ) (c : Dev nD) :
    iprop(records m K ∗ (bigSep Finset.univ fun j : Fin 16 => atPos ER (kcell (c, kGs j)) 0 ∅ 0) ∗ (bigSep Finset.univ fun j : Fin 16 => atPos ER (kcell (c, kGr j)) 0 ∅ 0)
        ∗ bigSep Finset.univ fun j : Fin 16 => cred (tallyAt (kcell (c, kGr j)) () (due c (kGr j))))
      ⊢ (|={Set.univ}=> bigSep Finset.univ (posT (F := F) c) : sProp 𝕄) := by
  rw [← bigSep_sep', ← bigSep_sep']
  refine (with_persistent (Ψ := fun j => iprop(|={Set.univ}=> posT (F := F) c j)) fun j _ => ?_).trans (bigSep_fupd _ _)
  show (_ : sProp 𝕄) ⊢ (_ : sProp 𝕄)
  unfold posT
  by_cases hj : j = me c
  · have hs : ∀ r, 0 ≤ r → (Rd (F := F) m).duties (kcell (c, kGs j)) r = ∅ := fun r _ => by
      rcases Nat.eq_zero_or_pos r with rfl | hr
      · rw [duties_k]; exact if_pos hj
      · exact duties_later m _ r hr
    have hr' : ∀ r, 0 ≤ r → (Rd (F := F) m).duties (kcell (c, kGr j)) r = ∅ := fun r _ => by
      rcases Nat.eq_zero_or_pos r with rfl | hr
      · rw [duties_k]; exact if_pos hj
      · exact duties_later m _ r hr
    rw [if_pos hj]
    iintro ⟨#HR, Hs, Hr, -⟩
    imod (Rounds.cell_close ER (Rd m) (Set.mem_univ (K (c, kGs j))) (fun h => h) hs) $$ [Hs] with Hs
    · isplitr; · iapply (rec_inv m K c (kGs j)); iexact HR
      iexact Hs
    imod (Rounds.cell_close ER (Rd m) (Set.mem_univ (K (c, kGr j))) (fun h => h) hr') $$ [Hr] with Hr
    · isplitr; · iapply (rec_inv m K c (kGr j)); iexact HR
      iexact Hr
    imodintro
    isplitl [Hs] <;> iassumption
  · rw [if_neg hj, show due c (kGr j) = NG from if_neg hj]
    iintro ⟨-, Hs, Hr, Hc⟩
    imodintro
    isplitl [Hc]; · iexact Hc
    isplitl [Hs] <;> iassumption

/-- The signals' part of what the first point needs, but for what is owed. -/
def sigP (c : Dev nD) : sProp 𝕄 :=
  iprop(bigSep Finset.univ (sigT (F := F) c) ∗ dutyTok ER (kcell (xp c, kXr)) 0 0 ∗ ∃ f, pts (F := F) c cc0_scratch7 Finset.univ fullShare f)

theorem begin_intro (K : Dev nD × KK → ℕ) (c : Dev nD) :
    iprop(records m K ∗ linear (F := F) c ∗ creds (F := F) c ∗ args m c fullShare.left ∗ bufs (F := F) c)
      ⊢ (|={Set.univ}=> iprop(copyT m c ∗ sigP (F := F) c ∗ (∃ f, pts (F := F) c cc0_scratch0 Finset.univ fullShare f) ∗ (∃ f, pts (F := F) c cc0_scratch1 Finset.univ fullShare f)
          ∗ (∃ f, pts (F := F) c cc0_scratch6 Finset.univ fullShare f) ∗ atPos ER (kcell (c, kK 0)) 0 ∅ 0 ∗ atPos ER (kcell (c, kV 0)) 0 ∅ 0 ∗ keep (F := F) c) : sProp 𝕄) := by
  unfold linear creds payToks args bufs
  rw [bigSep_KK (fun k : KK => (atPos ER (kcell (c, k)) 0 ∅ 0 : sProp 𝕄)), bigSep_KK (fun k : KK => (cred (tallyAt (kcell (c, k)) () (due c k)) : sProp 𝕄)),
    bigSep_OK, bigSep_OK]
  iintro ⟨#HR, ⟨⟨HaB, ⟨Ha0, Ha1, Ha2, Ha3, Ha4, Ha5, Ha6⟩, Has, Har⟩, ⟨Ht0, Ht1, Ht2, Ht3, Ht4, Ht5, Ht6⟩, Hts, Htr, Htb⟩,
    ⟨HcB, ⟨-, -, -, -, -, Hc5, Hc6⟩, -, Hcr⟩, ⟨HK, HV⟩, Hb0, Hb1, ⟨%f2, Hb2⟩, ⟨%f3, Hb3⟩, Hb6, Hb7, ⟨%f8, Hb8⟩⟩
  imod (pos_intro m K c) $$ [Has Har Hcr] with Hpos
  · isplitr; · iexact HR
    isplitl [Has]; · iexact Has
    isplitl [Har]; · iexact Har
    iexact Hcr
  imodintro
  ihave HK := (halves (F := F)) $$ HK
  icases HK with ⟨HK0, HK1⟩
  ihave HV := (halves (F := F)) $$ HV
  icases HV with ⟨HV0, HV1⟩
  ihave Hb2 := (slots_split c f2) $$ Hb2
  icases Hb2 with ⟨Hb20, Hb21⟩
  ihave Hb3 := (slots_split' c f3) $$ Hb3
  icases Hb3 with ⟨Hb30, Hb31⟩
  ihave Hs := (sigs_intro c f8) $$ [Htb Hb8]
  · isplitl [Htb]; · iexact Htb
    iexact Hb8
  icases Hs with ⟨Hsig, Hrow⟩
  unfold copyT sigP keep exT
  isplitl [HK0 HK1 HV0 HV1 Hb20 Hb21 Hb30 Hb31 Ht0 Ht1 Ht2 Ht3]
  · isplitl [HK0]; · iexists _; iapply (part_of (Finset.subset_univ (srcK c 0))); iexact HK0
    isplitl [HK1]; · iexists _; iapply (part_of (Finset.subset_univ (srcK c 1))); iexact HK1
    isplitl [HV0]; · iexists _; iapply (part_of (Finset.subset_univ (srcV c 0))); iexact HV0
    isplitl [HV1]; · iexists _; iapply (part_of (Finset.subset_univ (srcV c 1))); iexact HV1
    isplitl [Hb20]; · iexact Hb20
    isplitl [Hb21]; · iexact Hb21
    isplitl [Hb30]; · iexact Hb30
    isplitl [Hb31]; · iexact Hb31
    isplitl [Ht0]; · iexact Ht0
    isplitl [Ht1]; · iexact Ht1
    isplitl [Ht2]; · iexact Ht2
    iexact Ht3
  isplitl [Hsig Ht6 Hb7]
  · isplitl [Hsig]; · iexact Hsig
    isplitl [Ht6]; · iexact Ht6
    iexact Hb7
  isplitl [Hb0]; · iexact Hb0
  isplitl [Hb1]; · iexact Hb1
  isplitl [Hb6]; · iexact Hb6
  isplitl [Ha0]; · iexact Ha0
  isplitl [Ha2]; · iexact Ha2
  isplitl [HaB HcB Ha4 Ha5 Ha6 Hc5 Hc6 Ht4 Ht5]
  · isplitl [Hc6 Ha6]
    · isplitl [Hc6]; · iexact Hc6
      iexact Ha6
    isplitl [HcB HaB]
    · isplitl [HcB]; · iexact HcB
      iexact HaB
    isplitl [Ht4 Ht5]
    · isplitl [Ht4]; · iexact Ht4
      iexact Ht5
    isplitl [Ha4]; · iexact Ha4
    isplitl [Hc5]; · iexact Hc5
    iexact Ha5
  isplitl [Hts Htr]
  · iapply (toks_intro (F := F) c)
    isplitl [Hts]; · iexact Hts
    iexact Htr
  isplitl [Hpos]; · iexact Hpos
  isplitl [Hrow]; · iexact Hrow
  isplitl [Ha1]; · iexact Ha1
  iexact Ha3

/-! ## Out of the last point -/

theorem end_intro (c : Dev nD) :
    iprop(slotZ (F := F) c 0 ∗ slotZ (F := F) c 1 ∗ slotD m c 0 ∗ slotD m c 1 ∗ pts c cc0_scratch0 Finset.univ fullShare (QT m c)
        ∗ pts c cc0_scratch1 Finset.univ fullShare (LC m c) ∗ pts c cc0_scratch6 Finset.univ fullShare (PF m c) ∗ exZ (F := F) c ∗ gathZ (F := F) c
        ∗ pts c cc0_scratch7 Finset.univ fullShare (PF m (xp c)) ∗ pts c cc0_scratch8 Finset.univ fullShare (GB m c)) ⊢ Φ₂ (F := F) c := by
  unfold slotZ slotD exZ gathZ Φ₂ bufs
  rw [bigSep_OK]
  iintro ⟨⟨Hz0, Hz2⟩, ⟨Hz1, Hz3⟩, ⟨Hk0, Hv0⟩, ⟨Hk1, Hv1⟩, H0, H1, H6, ⟨Hzx, HzB, Hzs, Hzr⟩, ⟨Hgs, Hgr⟩, H7, H8⟩
  isplitl [HzB]; · iexact HzB
  isplitl [Hz0 Hz1 Hz2 Hz3 Hzx Hzs Hzr Hgs Hgr]
  · isplitl [Hz0 Hz1 Hz2 Hz3 Hzx Hzs Hzr]
    · isplitl [Hz0]; · iexact Hz0
      isplitl [Hz1]; · iexact Hz1
      isplitl [Hz2]; · iexact Hz2
      isplitl [Hz3]; · iexact Hz3
      isplitl [Hzs]; · iexact Hzs
      isplitl [Hzr]; · iexact Hzr
      iexact Hzx
    isplitl [Hgs] <;> iassumption
  isplitl [H0]; · iexists _; iexact H0
  isplitl [H1]; · iexists _; iexact H1
  isplitl [Hk0 Hk1]
  · iapply (slots_join c cc0_scratch2 _ _ slots_sdiff (KB m c) (KB m c))
    isplitl [Hk0] <;> iassumption
  isplitl [Hv0 Hv1]
  · iapply (slots_join c cc0_scratch3 _ _ slots_sdiff (VB m c) (VB m c))
    isplitl [Hv0] <;> iassumption
  isplitl [H6]; · iexists _; iexact H6
  isplitl [H7]; · iexists _; iexact H7
  iexists _; iexact H8

end Cert.Run

end
-- ==== Proof.Run.Launch.lean ====
/- The pipeline around the body: the data of the windows, the body at both points, and the run of the
   program over any float values. -/
module

public import proofs.«01_k».proof.Proof.Run.Begin
public import Idealize.ShloMosaic.Lib.Quiescent
public import Idealize.ShloMosaic.Lib.Pipeline.CollectiveSegs

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ
variable (m : (ℓ : Loc nD τ sig) → Buf (Elt F) ℓ)

/-- The windows' data: the three inputs stay, the output is the last point's. -/
def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => OUT m c
  Φ t := match t with
    | ⟨0, _⟩ => Φ₀ m c
    | ⟨1, _⟩ => Φ₁ m c
    | ⟨_ + 2, _⟩ => Φ₂ (F := F) c
  q _ := fullShare
  owed t := match t with
    | ⟨0, _⟩ => O₀ c
    | ⟨1, _⟩ => OG c 0 + OR c
    | ⟨_ + 2, _⟩ => 0

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl

theorem own_eq (c : Dev nD) (b : Ref sig .tc) (X : b.ty.Contents (Elt F)) :
    (owns (c : Thread nD τ) (Memref.whole b) fullShare X : sProp 𝕄) = iprop(∃ f, ⌜f = X⌝ ∗ pts c b Finset.univ fullShare f) := by
  unfold owns; simp only [Memref.view_whole, View.read_whole, View.set_whole]
theorem own_intro (c : Dev nD) (b : Ref sig .tc) (X : b.ty.Contents (Elt F)) :
    pts c b Finset.univ fullShare X ⊢ (owns (c : Thread nD τ) (Memref.whole b) fullShare X : sProp 𝕄) := by
  rw [own_eq]; iintro H; iexists X; isplitr; · ipureintro; rfl
  iexact H
theorem own_elim (c : Dev nD) (b : Ref sig .tc) (X : b.ty.Contents (Elt F)) :
    (owns (c : Thread nD τ) (Memref.whole b) fullShare X : sProp 𝕄) ⊢ pts c b Finset.univ fullShare X := by
  rw [own_eq]; iintro ⟨%f, %h, H⟩; rw [← h]; iexact H
theorem own_Q (c : Dev nD) : (owns (c : Thread nD τ) (Memref.whole cc0_stg0_0) fullShare (iblk m c 0 t0_0) : sProp 𝕄) ⊢ pts c cc0_stg0_0 Finset.univ fullShare (Qs m c) :=
  own_elim c cc0_stg0_0 (Qs m c)
theorem own_B (c : Dev nD) : (owns (c : Thread nD τ) (Memref.whole cc0_stg1_0) fullShare (iblk m c 1 t0_0) : sProp 𝕄) ⊢ pts c cc0_stg1_0 Finset.univ fullShare (Bs m c) :=
  own_elim c cc0_stg1_0 (Bs m c)
theorem own_L (c : Dev nD) : (owns (c : Thread nD τ) (Memref.whole cc0_stg2_0) fullShare (iblk m c 2 t0_0) : sProp 𝕄) ⊢ pts c cc0_stg2_0 Finset.univ fullShare (Ls m c) :=
  own_elim c cc0_stg2_0 (Ls m c)
theorem ow_intro (c : Dev nD) (t : Fin (cfg0.N + 1)) : ow (F := F) c ((dats m 0 c).owed t) ⊢ ((dats m 0 c).owesAt () t : sProp 𝕄) := by
  unfold Dat.owesAt Pipeline.owesWithin ow
  iintro ⟨%W, H⟩
  iexists W
  isplitr; · ipureintro; exact fun _ _ => Or.inl trivial
  iexact H
theorem ow_elim (c : Dev nD) (t : Fin (cfg0.N + 1)) : ((dats m 0 c).owesAt () t : sProp 𝕄) ⊢ ow (F := F) c ((dats m 0 c).owed t) := by
  unfold Dat.owesAt Pipeline.owesWithin ow
  iintro ⟨%W, -, H⟩
  iexists W
  iexact H

theorem run_wp (c : Dev nD) {α : Type} {p : PR F α} {Q : α → sProp 𝕄} : RUN c p Q ⊢ wp frame (wpE (defs₀ (F := F)) 𝒱₀ (c : Thread nD τ) none) Set.univ p Q :=
  Entails.of_eq (RUN_eq c p Q)

theorem point0 (c : Dev nD) :
    iprop(Φ₀ m c ∗ (dats m 0 c).owesAt () t0_0.castSucc
        ∗ (∃ d, owns (c : Thread nD τ) (Memref.whole cc0_stg0_0) fullShare ((dats m 0 c).before 0 t0_0 d))
        ∗ (∃ d, owns (c : Thread nD τ) (Memref.whole cc0_stg1_0) fullShare ((dats m 0 c).before 1 t0_0 d))
        ∗ (∃ d, owns (c : Thread nD τ) (Memref.whole cc0_stg2_0) fullShare ((dats m 0 c).before 2 t0_0 d))
        ∗ (∃ d, owns (c : Thread nD τ) (Memref.whole cc0_stg3_0) fullShare ((dats m 0 c).before 3 t0_0 d)))
      ⊢ WP c (here (cc0__fused_body (F := F) i0)) fun _ =>
        iprop(Φ₁ m c ∗ (dats m 0 c).owesAt () t0_0.succ
          ∗ owns (c : Thread nD τ) (Memref.whole cc0_stg0_0) fullShare (Qs m c)
          ∗ owns (c : Thread nD τ) (Memref.whole cc0_stg1_0) fullShare (Bs m c)
          ∗ owns (c : Thread nD τ) (Memref.whole cc0_stg2_0) fullShare (Ls m c)
          ∗ (∃ d, owns (c : Thread nD τ) (Memref.whole cc0_stg3_0) fullShare ((dats m 0 c).before 3 t0_0 d))) := by
  unfold Φ₀ start G'
  iintro ⟨⟨⟨⟨%K, #HR, Hlin⟩, Hcr, #HL, Harg⟩, Hb⟩, HO, ⟨%d0, Hs0⟩, ⟨%d1, Hs1⟩, ⟨%d2, Hs2⟩, Hs3⟩
  rw [before_0, before_1, before_2]
  ihave Hs0 := (own_Q m c) $$ Hs0
  ihave Hs1 := (own_B m c) $$ Hs1
  ihave Hs2 := (own_L m c) $$ Hs2
  ihave HO := (ow_elim m c t0_0.castSucc) $$ HO
  imod (begin_intro m K c) $$ [Hlin Hcr Harg Hb] with ⟨Hcp, Hsig, H0, H1, H6, Ha0, Ha2, Hkeep⟩
  · isplitr; · iexact HR
    isplitl [Hlin]; · iexact Hlin
    isplitl [Hcr]; · iexact Hcr
    isplitl [Harg]; · iexact Harg
    iexact Hb
  iapply (run_wp c)
  iapply (body0_run m K c) $$ [Hcp Hsig H0 H1 H6 Ha0 Ha2 HO Hs0 Hs1 Hs2]
  · isplitr; · iexact HR
    isplitr; · iexact HL
    unfold in0 sig0 sigP
    isplitl [Hcp]; · iexact Hcp
    isplitl [Hsig HO]
    · icases Hsig with ⟨Hg, Ht, Hx⟩
      rw [loop_zero]
      isplitl [Hg]; · iexact Hg
      isplitl [HO]; · iexact HO
      isplitl [Ht]; · iexact Ht
      iexact Hx
    isplitl [Hs0]; · iexact Hs0
    isplitl [Hs1]; · iexact Hs1
    isplitl [Hs2]; · iexact Hs2
    isplitl [H0]; · iexact H0
    isplitl [H1]; · iexact H1
    isplitl [H6]; · iexact H6
    isplitl [Ha0]; · iexact Ha0
    iexact Ha2
  unfold mid0 Φ₁
  iintro ⟨HO, Hs0, Hs1, Hs2, H0, H1, H6, Hz, Hd, Hc0, Hc1⟩
  isplitl [Hkeep H0 H1 H6 Hz Hd Hc0 Hc1]
  · isplitr; · iexists K; iexact HR
    isplitr; · iexact HL
    isplitl [Hkeep]; · iexact Hkeep
    isplitl [H0]; · iexact H0
    isplitl [H1]; · iexact H1
    isplitl [H6]; · iexact H6
    isplitl [Hz]; · iexact Hz
    isplitl [Hd]; · iexact Hd
    isplitl [Hc0]; · iexact Hc0
    iexact Hc1
  isplitl [HO]; · iapply (ow_intro m c t0_0.succ); iexact HO
  isplitl [Hs0]; · iapply (own_intro c cc0_stg0_0); iexact Hs0
  isplitl [Hs1]; · iapply (own_intro c cc0_stg1_0); iexact Hs1
  isplitl [Hs2]; · iapply (own_intro c cc0_stg2_0); iexact Hs2
  iexact Hs3

theorem point1 (c : Dev nD) :
    iprop(Φ₁ m c ∗ (dats m 0 c).owesAt () t0_1.castSucc
        ∗ (∃ d, owns (c : Thread nD τ) (Memref.whole cc0_stg0_0) fullShare ((dats m 0 c).before 0 t0_1 d))
        ∗ (∃ d, owns (c : Thread nD τ) (Memref.whole cc0_stg1_0) fullShare ((dats m 0 c).before 1 t0_1 d))
        ∗ (∃ d, owns (c : Thread nD τ) (Memref.whole cc0_stg2_0) fullShare ((dats m 0 c).before 2 t0_1 d))
        ∗ (∃ d, owns (c : Thread nD τ) (Memref.whole cc0_stg3_0) fullShare ((dats m 0 c).before 3 t0_1 d)))
      ⊢ WP c (here (cc0__fused_body (F := F) i1)) fun _ =>
        iprop(Φ₂ (F := F) c ∗ (dats m 0 c).owesAt () t0_1.succ
          ∗ owns (c : Thread nD τ) (Memref.whole cc0_stg0_0) fullShare (iblk m c 0 t0_1)
          ∗ owns (c : Thread nD τ) (Memref.whole cc0_stg1_0) fullShare (iblk m c 1 t0_1)
          ∗ owns (c : Thread nD τ) (Memref.whole cc0_stg2_0) fullShare (iblk m c 2 t0_1)
          ∗ owns (c : Thread nD τ) (Memref.whole cc0_stg3_0) fullShare (OUT m c)) := by
  unfold Φ₁ keep
  iintro ⟨⟨⟨%K, #HR⟩, #HL, ⟨Hex, Htok, Hpos, Hrow, Ha1, Ha3⟩, H0, H1, H6, Hz0, Hd0, Hc0, Hc1⟩, HO, ⟨%d0, Hs0⟩, ⟨%d1, Hs1⟩, ⟨%d2, Hs2⟩, ⟨%d3, Hs3⟩⟩
  rw [before_0, before_1, before_2]
  ihave HO := (ow_elim m c t0_1.castSucc) $$ HO
  ihave Hs3 := (own_elim c cc0_stg3_0 _) $$ Hs3
  iapply (run_wp c)
  iapply (body1_run m K c) $$ [Hex Htok Hpos Hrow Ha1 Ha3 H0 H1 H6 Hc0 Hc1 HO Hs3]
  · isplitr; · iexact HR
    isplitr; · iexact HL
    unfold in1 slotW
    isplitl [Ha1 Ha3 Hc0 Hc1]
    · isplitl [Hc0]; · iexact Hc0
      isplitl [Ha1]; · iexact Ha1
      isplitl [Hc1]; · iexact Hc1
      iexact Ha3
    isplitl [HO]; · iexact HO
    isplitl [H0]; · iexact H0
    isplitl [H1]; · iexact H1
    isplitl [H6]; · iexact H6
    isplitl [Hex]; · iexact Hex
    isplitl [Htok]; · iexact Htok
    isplitl [Hpos]; · iexact Hpos
    isplitl [Hrow]; · iexact Hrow
    iexists _; iexact Hs3
  unfold out1
  iintro ⟨HO, Hz1, Hd1, H0, H1, H6, Hex, Hg, H7, H8, Hs3⟩
  isplitl [Hz0 Hd0 Hz1 Hd1 H0 H1 H6 Hex Hg H7 H8]
  · iapply (end_intro m c)
    isplitl [Hz0]; · iexact Hz0
    isplitl [Hz1]; · iexact Hz1
    isplitl [Hd0]; · iexact Hd0
    isplitl [Hd1]; · iexact Hd1
    isplitl [H0]; · iexact H0
    isplitl [H1]; · iexact H1
    isplitl [H6]; · iexact H6
    isplitl [Hex]; · iexact Hex
    isplitl [Hg]; · iexact Hg
    isplitl [H7]; · iexact H7
    iexact H8
  isplitl [HO]; · iapply (ow_intro m c t0_1.succ); iexact HO
  isplitl [Hs0]; · iexact Hs0
  isplitl [Hs1]; · iexact Hs1
  isplitl [Hs2]; · iexact Hs2
  iapply (own_intro c cc0_stg3_0); iexact Hs3

set_option maxHeartbeats 2000000 in
theorem body_ob (c : Dev nD) : Pipeline.BodyObligationLoose (dats m 0 c) (defs₀ (F := F)) 𝒱₀ () Set.univ := fun t => by
  rcases fin_N0 t with rfl | rfl
  · rw [bigSep_W0, bigSep_W0]
    exact point0 m c
  · rw [bigSep_W0, bigSep_W0]
    exact point1 m c

/-! ## The launch -/

theorem ownSemFacts : Pipeline.OwnSemFacts cfg0.spec osem := by decide
theorem share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ args m c fullShare.right) := by
  rw [Pipeline.unscopedRestP_none]
  iintro ⟨HA, Hlev, Hcr, -, HG⟩
  ihave HA := (Entails.of_eq (unscopedRest0_eq c _)) $$ HA
  icases HA with ⟨HK, HV⟩
  ihave HK := (halves (F := F)) $$ HK
  icases HK with ⟨HK0, HK1⟩
  ihave HV := (halves (F := F)) $$ HV
  icases HV with ⟨HV0, HV1⟩
  ihave Hc := (creds_intro (F := F) c) $$ Hcr
  imodintro
  unfold start args
  isplitl [HG Hc Hlev HK0 HV0]
  · isplitl [HG]; · iexact HG
    isplitl [Hc]; · iexact Hc
    isplitl [Hlev]; · iexact Hlev
    isplitl [HK0] <;> iassumption
  · isplitl [HK1] <;> iassumption

theorem bufs_eq (c : Dev nD) : (Pipeline.scopedRest cfg0.spec c : sProp 𝕄) = bufs (F := F) c := scopedRest0_eq c

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, bufs_eq]
  unfold Φ₀
  iintro ⟨Hs, -, Hr⟩
  isplitl [Hs] <;> iassumption

theorem phi_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₂ (F := F) c from rfl, bufs_eq, bar_eq]
  exact .rfl

theorem owed_lv (c : Dev nD) (t : Fin (cfg0.N + 1)) : On ((dats m 0 c).owed t) (fun k => 0 < lvK k) := by
  obtain ⟨n, hn⟩ := t
  match n, hn with
  | 0, _ => exact (On_O₀ c).mono fun k h => by omega
  | 1, _ => exact (On_OGR c).mono fun k h => by omega
  | n + 2, _ => exact On.zero

theorem waits (c : Dev nD) : (levAts L lv : sProp 𝕄) ⊢ Pipeline.cellsWaits cfgs (dats m) () 0 c :=
  Pipeline.cellsWaits_intro cfgs (dats m) () 0 c fun w s t =>
    mayWait c _ 0 (by fin_cases w <;> fin_cases s <;> exact Nat.le_of_eq rfl) _ (owed_lv m c _)

/-- The final arrays of the windows. -/
def finalA (c : Dev nD) (w : Fin cfg0.W) : Buf (Elt F) ((cfg0.win w).arr.view.loc (c : Thread nD τ)) := (dats m 0 c).arrAt w cfg0.N

/-- What the run leaves. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1) ∧ r.2.mem ((c : Thread nD τ).loc main_arg2) = m ((c : Thread nD τ).loc main_arg2)

theorem read_args (c : Dev nD) (s' : Phys nD τ sig (Elt F)) :
    iprop(args m c fullShare.right ∗ SI s')
      ⊢ (iprop(⌜s'.mem.mem ((c : Thread nD τ).loc main_arg1) = m ((c : Thread nD τ).loc main_arg1) ∧ s'.mem.mem ((c : Thread nD τ).loc main_arg2) = m ((c : Thread nD τ).loc main_arg2)⌝ ∗ SI s') : sProp 𝕄) := by
  unfold args
  iintro ⟨⟨H1, H2⟩, HSI⟩
  icombine HSI H1 gives %h1
  icombine HSI H2 gives %h2
  isplitr
  · ipureintro; exact ⟨Buf.eq_of_forall_mem_univ h1, Buf.eq_of_forall_mem_univ h2⟩
  · iexact HSI

set_option maxRecDepth 8000 in
/-- From any memory with zero counters the program on the thirty-two devices terminates, whatever the float
    values; the windows' arrays end as the data say, the keys and values unchanged, and every counter zero. -/
theorem run_main (ρ : Dev nD → PrngReg) :
    θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_ob m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun c => args m c fullShare.right)
    (hX := start_intro m ρ) (hin := phi_in m) (hout := phi_out m)
    (QY := fun c s => (∀ sm : SemLoc sig, sm.isScoped .tc = false → s.sem ((c.tc : Thread nD τ), sm) = 0)
      ∧ s.mem ((c : Thread nD τ).loc main_arg1) = m ((c : Thread nD τ).loc main_arg1) ∧ s.mem ((c : Thread nD τ).loc main_arg2) = m ((c : Thread nD τ).loc main_arg2))
    (hY := fun c s' => by
      iintro ⟨Hu, Hz, HSI⟩
      ihave H := (read_args m c s') $$ [Hz HSI]
      · isplitl [Hz] <;> iassumption
      icases H with ⟨%h, HSI⟩
      imod (Pipeline.unscopedSems0_read (X := unscopedSems0 c) (c := c) fupd_intro s') $$ [Hu HSI] with ⟨%h', HSI⟩
      · isplitl [Hu] <;> iassumption
      imodintro
      isplitr
      · ipureintro; exact ⟨h', h⟩
      · iexact HSI)
    (hQ := fun _ h hs => ⟨fun c => ⟨(h c).1, (h c).2.2.2⟩, sem_eq_zero hs fun c => (h c).2.2.1⟩)

/-- The inputs' arrays end unchanged. -/
theorem finalA_in (c : Dev nD) (w : Fin cfg0.W) (hw : (cfg0.win w).isOut = false) : finalA m c w = m ((cfg0.win w).arr.view.loc (c : Thread nD τ)) :=
  (dats m 0 c).arrAt_in w hw _

end Cert.Run

end
-- ==== Proof.Frames.lean ====
/- The frames: from any memory with zero counters the kernel and its idealization terminate with their
   arguments unchanged and every counter zero again, and so does the reference; the window's array of the
   result ends as the kernel's own term says. -/
module

public import proofs.«01_k».proof.Defs
public import proofs.«01_k».proof.Proof.Run.Launch
public import proofs.«01_k».proof.Proof.Gen.Kernel
public import proofs.«01_k».proof.Proof.Gen.ReferenceIdeal.Run
public import Idealize.ShloMosaic.Lib.Pipeline.Value

@[expose] public section

noncomputable section

namespace Cert.Run

open Cert.KernelIdeal Cert.KernelIdeal.Gen
open Idealize.ShloMosaic Idealize.ShloMosaic.TcCoe
open Idealize.SL Idealize.SL.Sem
open Idealize.ShloMosaic.Pipeline (Dat Cfg Window)

/-- At bits a named constant is the constant as written. -/
instance namedBits : Named Bits where
  named _ _ φ b := FloatOps.ofBits φ b

variable {F : FTy → Type} [FloatOps F] [Named F]
variable (m : (ℓ : Loc nD τ sig) → Buf (Elt F) ℓ)

/-- The arguments end unchanged on device `c`. -/
theorem args_kept {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans (finalA_in m c 0 rfl), (h c).2.1, (h c).2.2,
    ((h c).1 1).trans (finalA_in m c 1 rfl), ((h c).1 2).trans (finalA_in m c 2 rfl)⟩

/-- The run with the values dropped, for any float values. -/
theorem frame_any (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_kept m h.1, h.2⟩) (run_main m ρ)

theorem frame_ideal : Cert.quiescent_KernelIdeal := fun m ρ _ => frame_any (F := Ideal) m ρ

/-- At bits the two printed programs run the same bodies: they differ in how one constant is written. -/
theorem bodies_same : Cert.Kernel.defs₀ (F := Bits) = Cert.KernelIdeal.defs₀ (F := Bits) := by
  unfold Cert.Kernel.defs₀ Cert.KernelIdeal.defs₀
  congr 1
  funext l
  match l with
  | ⟨0, _⟩ => funext a; obtain ⟨t, s⟩ := a; rfl

theorem defs_same : Cert.Kernel.defs (F := Bits) = Cert.KernelIdeal.defs (F := Bits) :=
  congrArg (fun d => Pipeline.defs (Cert.KernelIdeal.pcfgs (F := Bits)) d) bodies_same

theorem main_same : Cert.Kernel.main (F := Bits) = Cert.KernelIdeal.main (F := Bits) := rfl

theorem frame_kernel : Cert.quiescent_Kernel := fun m ρ _ => by
  rw [defs_same, main_same]
  exact frame_any (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement _ _ _ _ _ rfl

end Cert.Run

end
-- ==== Proof.Value.Pre.lean ====
/- What the precondition says: the queries and keys are finite, the page table names pages there are, and every
   sequence has a page. -/
module

public import proofs.«01_k».proof.Pre_tame_KernelIdeal
public import proofs.«01_k».proof.Pre_tame_ReferenceIdeal
public import Idealize.ShloMosaic.Lib.ReduceAll
public import Idealize.ShloMosaic.Lib.ValueIdx

@[expose] public section

noncomputable section

/-! ## The side conditions of the two prints -/

theorem Cert.Pre_tame_KernelIdeal.facts : Cert.Pre_tame_KernelIdeal.Facts where
  bcast_S_S32x16x128 := by decide
  reducesTo_S32x16x128_S_d0_1_2 := by decide
  h_S_ := by decide
  bcast_S_S8192x16x128 := by decide
  reducesTo_S8192x16x128_S_d0_1_2 := by decide
  bcast_S_S32x256 := by decide
  reducesTo_S32x256_S_d0_1 := by decide
  bcast_S_S32x1 := by decide
  reducesTo_S32x1_S_d0_1 := by decide

theorem Cert.Pre_tame_ReferenceIdeal.facts : Cert.Pre_tame_ReferenceIdeal.Facts where
  bcast_S_S32x16x128 := by decide
  reducesTo_S32x16x128_S_d0_1_2 := by decide
  h_S_ := by decide
  bcast_S_S16384x16x128 := by decide
  reducesTo_S16384x16x128_S_d0_1_2 := by decide
  bcast_S_S32x256 := by decide
  reducesTo_S32x256_S_d0_1 := by decide
  bcast_S_S32x1 := by decide
  reducesTo_S32x1_S_d0_1 := by decide

namespace Cert.Run

open Idealize.ShloMosaic Idealize.ShloMosaic.ValueIdx
open Cert.Pre_tame_KernelIdeal

/-- A number below infinity in absolute value is a real number. -/
theorem real_of_abs {x : EReal} (h : (FloatOps.cmpf (F := Ideal) (φ := .f32) .olt (FloatOps.hostAbsf (F := Ideal) (φ := .f32) x)
    (Ideal.ofBits .f32 0x7F800000#32)) = 1#1) : ∃ r : ℝ, x = (r : EReal) := by
  have ht : Ideal.ofBits .f32 0x7F800000#32 = ⊤ := by simp [Ideal.ofBits, Ideal.ieee]
  rw [ht] at h
  have hlt : max x (-x) < (⊤ : EReal) := by
    by_contra hn
    have : FloatOps.cmpf (F := Ideal) (φ := .f32) .olt (FloatOps.hostAbsf (F := Ideal) (φ := .f32) x) (⊤ : EReal) = 0#1 := by
      show BitVec.ofBool (decide (max x (-x) < (⊤ : EReal))) = 0#1
      rw [decide_eq_false hn]; rfl
    rw [this] at h
    exact absurd h (by decide)
  have h1 : x ≠ ⊤ := fun e => by rw [e] at hlt; simp at hlt
  have h2 : x ≠ ⊥ := fun e => by rw [e] at hlt; simp at hlt
  exact ⟨_, (EReal.coe_toReal h1 h2).symm⟩

instance : Subsingleton S_.Idx := ⟨fun a b => funext fun i => i.elim0⟩

/-- The precondition, entry by entry. -/
structure Tame (a0 : FVec Ideal S32x16x128 .f32) (a1 : FVec Ideal S8192x16x128 .f32) (a3 : IVec S32x256 32) (a4 : IVec S32x1 32) : Prop where
  q : ∀ i, ∃ r : ℝ, a0 i = (r : EReal)
  k : ∀ i, ∃ r : ℝ, a1 i = (r : EReal)
  bt : ∀ i, (a3 i).toNat < 512
  len : ∀ i, 1 ≤ (a4 i).toInt

theorem tame_of_fn (a0 : FVec Ideal S32x16x128 .f32) (a1 a2 : FVec Ideal S8192x16x128 .f32) (a3 : IVec S32x256 32) (a4 : IVec S32x1 32)
    [Cert.Pre_tame_KernelIdeal.Facts] (i0 : S_.Idx) (h : fn (F := Ideal) a0 a1 a2 a3 a4 i0 = 1#1) : Tame a0 a1 a3 a4 := by
  unfold fn fn_part1 at h
  dsimp only at h
  obtain ⟨h, h4⟩ := IntOp.andi_eq_one.mp h
  obtain ⟨h, h3⟩ := IntOp.andi_eq_one.mp h
  obtain ⟨h1, h2⟩ := IntOp.andi_eq_one.mp h
  refine ⟨fun i => ?_, fun i => ?_, fun i => ?_, fun i => ?_⟩
  · exact real_of_abs (Host.reduce_andi_all _ _ _ _ _ h1 i)
  · exact real_of_abs (Host.reduce_andi_all _ _ _ _ _ h2 i)
  · obtain ⟨ha, hb⟩ := IntOp.andi_eq_one.mp (Host.reduce_andi_all _ _ _ _ _ h3 i)
    have ha : (0#32 : BitVec 32).toInt ≤ (a3 i).toInt := IntOp.cmpi_sge.mp ha
    have hb : (a3 i).toInt < (512#32 : BitVec 32).toInt := IntOp.cmpi_slt.mp hb
    rw [show (0#32 : BitVec 32).toInt = 0 from rfl] at ha
    rw [show (512#32 : BitVec 32).toInt = 512 from rfl] at hb
    rw [BitVec.toInt_eq_toNat_cond] at ha hb
    split at ha <;> omega
  · have ha : (1#32 : BitVec 32).toInt ≤ (a4 i).toInt := IntOp.cmpi_sge.mp (Host.reduce_andi_all _ _ _ _ _ h4 i)
    exact ha

end Cert.Run
end
-- ==== Proof.Value.Online.lean ====
/- The running softmax over the extended reals: a triple (maximum, sum of weights, weighted sum of the values)
   that stands for a set of blocks of tokens, the step that adds a block, the step that joins two disjoint
   sets, and the quotient at the end, which does not depend on the shift the weights were taken at. -/
module

public import Idealize.ShloMosaic.Lib.ValueIdx

@[expose] public section

namespace Cert.Online

open Idealize.ShloMosaic
open scoped BigOperators

/-- The logarithm of a count, `⊥` at zero. -/
noncomputable def lg (n : ℕ) : EReal := if 0 < n then ((Real.log n : ℝ) : EReal) else ⊥

/-- The weight of a token counted `n` times with score `s`, at the shift `μ`. -/
noncomputable def wt (n : ℕ) (s μ : ℝ) : ℝ := n * Real.exp (s - μ)

theorem wt_nonneg (n : ℕ) (s μ : ℝ) : 0 ≤ wt n s μ := mul_nonneg (Nat.cast_nonneg n) (Real.exp_pos _).le

/-- Adding the logarithm of the count to the score multiplies the exponential by the count. -/
theorem exp_lg (n : ℕ) (s μ : ℝ) : Ideal.exp ((s : EReal) + lg n - (μ : EReal)) = ((wt n s μ : ℝ) : EReal) := by
  unfold lg wt
  split
  · rename_i h
    have hn : (0 : ℝ) < n := Nat.cast_pos.mpr h
    rw [← EReal.coe_add, ← EReal.coe_sub, Ideal.exp_coe, show s + Real.log n - μ = Real.log n + (s - μ) by ring,
      Real.exp_add, Real.exp_log hn]
  · rename_i h
    have hn : n = 0 := by omega
    subst hn
    rw [EReal.add_bot, sub_eq_add_neg, EReal.bot_add]
    rw [Ideal.exp_bot, Nat.cast_zero, zero_mul, EReal.coe_zero]

theorem exp_sub (μ ν : ℝ) : Ideal.exp ((μ : EReal) - (ν : EReal)) = ((Real.exp (μ - ν) : ℝ) : EReal) := by
  rw [← EReal.coe_sub, Ideal.exp_coe]

/-- Moving the shift multiplies the weight. -/
theorem wt_shift (n : ℕ) (s μ ν : ℝ) : wt n s μ * Real.exp (μ - ν) = wt n s ν := by
  unfold wt
  rw [mul_assoc, ← Real.exp_add]
  congr 2; ring

theorem sum_coe {ι : Type*} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A nonnegative real factor distributes over a sum of extended reals. -/
theorem sum_mul_coe {ι : Type*} (S : Finset ι) (f : ι → EReal) (c : ℝ) (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha,
      EReal.right_distrib_of_nonneg_of_ne_top (EReal.coe_nonneg.mpr hc) (EReal.coe_ne_top c), ih]

/-- The largest of a real and of a family none of which is `⊤` is a real. -/
theorem max_fold_real {ι : Type*} (S : Finset ι) (f : ι → EReal) (hf : ∀ i ∈ S, f i ≠ ⊤) (b : EReal) (hb : b ≠ ⊤) :
    S.fold max b f ≠ ⊤ := by
  classical
  induction S using Finset.induction_on with
  | empty => simpa using hb
  | insert a S ha ih =>
    rw [Finset.fold_insert ha]
    have h1 := hf a (Finset.mem_insert_self _ _)
    have h2 := ih fun i hi => hf i (Finset.mem_insert_of_mem hi)
    rcases max_choice (f a) (S.fold max b f) with h | h <;> rw [h] <;> assumption

theorem le_fold_max {ι : Type*} (S : Finset ι) (f : ι → EReal) (b : EReal) {i : ι} (hi : i ∈ S) : f i ≤ S.fold max b f := by
  rw [Finset.le_fold_max]; exact Or.inr ⟨i, hi, le_refl _⟩

section
variable {β τ : Type*} [Fintype τ] [DecidableEq β]
variable (n : β → τ → ℕ) (s : β → τ → ℝ) (v : β → τ → EReal)

/-- The triple stands for the blocks `S`: the maximum is some real shift, the other two are the sums at it. -/
def Acc (S : Finset β) (m l o : EReal) : Prop :=
  ∃ μ : ℝ, m = (μ : EReal) ∧ l = ((∑ b ∈ S, ∑ t, wt (n b t) (s b t) μ : ℝ) : EReal)
    ∧ o = ∑ b ∈ S, ∑ t, ((wt (n b t) (s b t) μ : ℝ) : EReal) * v b t

theorem Acc.start (μ : ℝ) : Acc n s v ∅ (μ : EReal) 0 0 := ⟨μ, rfl, by simp, by simp⟩

/-- The two sums at another shift. -/
theorem shift_l (S : Finset β) (μ ν : ℝ) :
    ((∑ b ∈ S, ∑ t, wt (n b t) (s b t) μ : ℝ) : EReal) * ((Real.exp (μ - ν) : ℝ) : EReal)
      = ((∑ b ∈ S, ∑ t, wt (n b t) (s b t) ν : ℝ) : EReal) := by
  rw [← EReal.coe_mul, Finset.sum_mul]
  congr 1
  refine Finset.sum_congr rfl fun b _ => ?_
  rw [Finset.sum_mul]
  exact Finset.sum_congr rfl fun t _ => wt_shift _ _ _ _

theorem shift_o (S : Finset β) (μ ν : ℝ) :
    (∑ b ∈ S, ∑ t, ((wt (n b t) (s b t) μ : ℝ) : EReal) * v b t) * ((Real.exp (μ - ν) : ℝ) : EReal)
      = ∑ b ∈ S, ∑ t, ((wt (n b t) (s b t) ν : ℝ) : EReal) * v b t := by
  rw [sum_mul_coe _ _ _ (Real.exp_pos _).le]
  refine Finset.sum_congr rfl fun b _ => ?_
  rw [sum_mul_coe _ _ _ (Real.exp_pos _).le]
  refine Finset.sum_congr rfl fun t _ => ?_
  rw [mul_assoc, mul_comm (v b t), ← mul_assoc, ← EReal.coe_mul, wt_shift]

/-- One block of tokens is added. -/
theorem Acc.step {S : Finset β} {m l o : EReal} (h : Acc n s v S m l o) {b : β} (hb : b ∉ S)
    {m' l' o' : EReal} (c : τ → EReal) (hc : ∀ t, c t = (s b t : EReal) + lg (n b t))
    (hm : m' = max m (Finset.univ.fold max ⊥ c))
    (hl : l' = l * Ideal.exp (m - m') + ∑ t, Ideal.exp (c t - m'))
    (ho : o' = o * Ideal.exp (m - m') + ∑ t, Ideal.exp (c t - m') * v b t) :
    Acc n s v (insert b S) m' l' o' := by
  obtain ⟨μ, rfl, rfl, rfl⟩ := h
  have hct : ∀ t ∈ Finset.univ, c t ≠ ⊤ := fun t _ => by
    rw [hc]; unfold lg; split
    · rw [← EReal.coe_add]; exact EReal.coe_ne_top _
    · rw [EReal.add_bot]; exact bot_ne_top
  have hreal : ∃ ν : ℝ, m' = (ν : EReal) := by
    have h1 : m' ≠ ⊤ := by
      rw [hm]
      rcases max_choice (μ : EReal) (Finset.univ.fold max ⊥ c) with h | h <;> rw [h]
      · exact EReal.coe_ne_top _
      · exact max_fold_real _ _ hct _ bot_ne_top
    have h2 : m' ≠ ⊥ := by
      have : (μ : EReal) ≤ m' := hm ▸ le_max_left _ _
      exact fun h => absurd (h ▸ this) (not_le.mpr (EReal.bot_lt_coe μ))
    exact ⟨m'.toReal, (EReal.coe_toReal h1 h2).symm⟩
  obtain ⟨ν, hν⟩ := hreal
  rw [hν, exp_sub, shift_l] at hl
  rw [hν, exp_sub, shift_o] at ho
  refine ⟨ν, hν, ?_, ?_⟩
  · rw [hl, Finset.sum_insert hb, add_comm (∑ t, wt (n b t) (s b t) ν), EReal.coe_add, ← sum_coe Finset.univ]
    exact congrArg _ (Finset.sum_congr rfl fun t _ => by rw [hc, exp_lg])
  · rw [ho, Finset.sum_insert hb, add_comm (∑ t, _ * v b t)]
    exact congrArg _ (Finset.sum_congr rfl fun t _ => by rw [hc, exp_lg])

/-- Two disjoint sets of blocks are joined. -/
theorem Acc.join {S T : Finset β} {m₁ l₁ o₁ m₂ l₂ o₂ : EReal} (h₁ : Acc n s v S m₁ l₁ o₁) (h₂ : Acc n s v T m₂ l₂ o₂)
    (hd : Disjoint S T) :
    Acc n s v (S ∪ T) (max m₁ m₂) (l₁ * Ideal.exp (m₁ - max m₁ m₂) + l₂ * Ideal.exp (m₂ - max m₁ m₂))
      (o₁ * Ideal.exp (m₁ - max m₁ m₂) + o₂ * Ideal.exp (m₂ - max m₁ m₂)) := by
  obtain ⟨μ, rfl, rfl, rfl⟩ := h₁
  obtain ⟨ν, rfl, rfl, rfl⟩ := h₂
  refine ⟨max μ ν, (EReal.coe_strictMono.monotone.map_max).symm, ?_, ?_⟩
  · rw [← EReal.coe_strictMono.monotone.map_max, exp_sub, exp_sub, shift_l, shift_l, Finset.sum_union hd, EReal.coe_add]
  · rw [← EReal.coe_strictMono.monotone.map_max, exp_sub, exp_sub, shift_o, shift_o, Finset.sum_union hd]

end

/-! ## The quotient -/

/-- The weighted mean of the values, at the shift `μ`. -/
noncomputable def mean {ι : Type*} [Fintype ι] (n : ι → ℕ) (s : ι → ℝ) (v : ι → EReal) (μ : ℝ) : EReal :=
  Ideal.div (∑ i, ((wt (n i) (s i) μ : ℝ) : EReal) * v i) ((∑ i, wt (n i) (s i) μ : ℝ) : EReal)

theorem sum_wt_pos {ι : Type*} [Fintype ι] (n : ι → ℕ) (s : ι → ℝ) (μ : ℝ) (h : ∃ i, 0 < n i) : 0 < ∑ i, wt (n i) (s i) μ := by
  obtain ⟨i, hi⟩ := h
  refine Finset.sum_pos' (fun j _ => wt_nonneg _ _ _) ⟨i, Finset.mem_univ i, ?_⟩
  exact mul_pos (Nat.cast_pos.mpr hi) (Real.exp_pos _)

/-- It does not depend on the shift. -/
theorem mean_shift {ι : Type*} [Fintype ι] (n : ι → ℕ) (s : ι → ℝ) (v : ι → EReal) (h : ∃ i, 0 < n i) (μ ν : ℝ) :
    mean n s v μ = mean n s v ν := by
  have hμ := sum_wt_pos n s μ h
  have hν := sum_wt_pos n s ν h
  unfold mean
  rw [Ideal.div_coe hμ.ne', Ideal.div_coe hν.ne', sum_mul_coe _ _ _ (by positivity), sum_mul_coe _ _ _ (by positivity)]
  refine Finset.sum_congr rfl fun i _ => ?_
  rw [mul_right_comm, mul_right_comm _ (v i), ← EReal.coe_mul, ← EReal.coe_mul]
  congr 2
  have e : ∑ j, wt (n j) (s j) ν = (∑ j, wt (n j) (s j) μ) * Real.exp (μ - ν) := by
    rw [Finset.sum_mul]; exact Finset.sum_congr rfl fun j _ => (wt_shift _ _ _ _).symm
  rw [e, ← wt_shift (n i) (s i) μ ν]
  have := (Real.exp_pos (μ - ν)).ne'
  field_simp

/-- A triple that stands for every block divides to the mean. -/
theorem Acc.mean {β τ : Type*} [Fintype β] [Fintype τ] [DecidableEq β] {n : β → τ → ℕ} {s : β → τ → ℝ} {v : β → τ → EReal}
    {m l o : EReal} (h : Acc n s v Finset.univ m l o) (hn : ∃ b t, 0 < n b t) (μ : ℝ) :
    Ideal.div o l = Online.mean (fun i : β × τ => n i.1 i.2) (fun i => s i.1 i.2) (fun i => v i.1 i.2) μ := by
  obtain ⟨ν, -, rfl, rfl⟩ := h
  obtain ⟨b, t, hbt⟩ := hn
  rw [mean_shift _ _ _ ⟨(b, t), hbt⟩ μ ν]
  unfold Online.mean
  rw [Fintype.sum_prod_type, Fintype.sum_prod_type]

/-! ## Tokens by page and by block -/

/-- A sum over `A * B` numbers, cut into `A` runs of `B`. -/
theorem sum_cut {M : Type*} [AddCommMonoid M] (A B : ℕ) (f : ℕ → M) :
    ∑ i : Fin A × Fin B, f (i.1.val * B + i.2.val) = ∑ k : Fin (A * B), f k.val := by
  rw [← Equiv.sum_comp finProdFinEquiv]
  exact Finset.sum_congr rfl fun i _ => congrArg f (by rw [finProdFinEquiv_apply_val]; ring)

/-- A sum over the slots in use, regrouped by the page each slot names. -/
theorem sum_pages {M : Type*} [AddCommMonoid M] {J P : Type*} [Fintype J] [Fintype P] [DecidableEq P] (ok : J → Prop) [DecidablePred ok]
    (b : J → P) (f : P → M) :
    ∑ j, (if ok j then f (b j) else 0) = ∑ p, (Finset.univ.filter fun j => ok j ∧ b j = p).card • f p := by
  rw [← Finset.sum_filter, ← Finset.sum_fiberwise' (Finset.univ.filter ok) b f]
  refine Finset.sum_congr rfl fun p _ => ?_
  rw [Finset.sum_const, Finset.filter_filter]

end Cert.Online
end
-- ==== Proof.Value.Block.lean ====
/- What the printed computations hold at the extended reals, index by index: the scores of a block, the new
   maximum, the new sums, the joined sums and the head. -/
module

public import proofs.«01_k».proof.Proof.Run.Contents
public import proofs.«01_k».proof.Proof.Value.Online
public import Idealize.ShloMosaic.Lib.MatmulPlain
public import Idealize.ShloMosaic.Lib.Pipeline.Value

@[expose] public section

noncomputable section

namespace Cert.Run

open Cert.KernelIdeal Cert.KernelIdeal.Gen
open Idealize.ShloMosaic Idealize.ShloMosaic.TcCoe Idealize.ShloMosaic.ValueIdx

theorem dotS_eq : dot_S32x128_S4096x128_S32x4096_1_1_0_0_n_n = DotDims.transposedRhs 32 128 4096 := rfl
theorem dotO_eq : dot_S32x4096_S4096x128_S32x128_1_0_0_1_n_n = DotDims.plain 32 4096 128 := rfl
theorem dotC_eq : dot_S32x256_S256x8192_S32x8192_1_0_0_1_n_n = DotDims.plain 32 256 8192 := rfl

theorem zero_acc {s : Shape} (i : s.Idx) : constant (F := Ideal) s .f32 0x00000000#32 i = 0 := Ideal.ofBits_zero_f32
theorem ofBits_bot : Ideal.ofBits .f32 0xFF800000#32 = ⊥ := by simp [Ideal.ofBits, Ideal.ieee]

theorem exp_at {s : Shape} (x : FVec Ideal s .f32) (i : s.Idx) : exp x i = Ideal.exp (x i) := rfl

theorem cast_same {α : Type} {s : Shape} (x : s.Idx → α) (h : s.ShapeCasts s) (i : s.Idx) : shapeCast s x h i = x i :=
  shapeCast_apply x h i i rfl

/-- A column read as a vector. -/
theorem cast_col {α : Type} (x : S32.Idx → α) (b : Fin 32) : shapeCast S32x1 x shapeCasts_S32_S32x1 (ix2 b (0 : Fin 1)) = x (ix1 b) :=
  shapeCast_apply x _ _ _ (by rw [Shape.rowMajor_val_one, Shape.rowMajor_val_two]; simp)

theorem bcast_col {α : Type} {n : ℕ} (hn : n ≠ 1) (x : S32x1.Idx → α) (h : S32x1.Broadcasts ⟨2, ![32, n]⟩) (b : Fin 32) (t : Fin n) :
    broadcastTo ⟨2, ![32, n]⟩ x h (ix2 b t) = x (ix2 b (0 : Fin 1)) :=
  broadcastTo_apply x h _ _ fun a => by
    match a with
    | ⟨0, _⟩ => rfl
    | ⟨1, _⟩ => rfl

variable (kb vb : Vec Ideal S1x4096x128 .f32) (q : Vec Ideal S1x32x128 .bf16) (lc : Vec Ideal S32x4096 .f32)
  (mo lo : Vec Ideal S32x1 .f32) (oo : Vec Ideal S32x128 .f32)

/-- The score of token `t` of the block, with the logarithm of its count. -/
def scoreB (b : Fin 32) (t : Fin 4096) : EReal :=
  (∑ d : Fin 128, (q (ix3 (0 : Fin 1) b d) : EReal) * kb (ix3 (0 : Fin 1) t d)) + lc (ix2 b t)

theorem pay36_apply (b : Fin 32) (t : Fin 4096) : k0_pay36 (k0_pay35 kb) q lc (ix2 b t) = scoreB kb q lc b t := by
  simp only [k0_pay36, k0_pay35, scoreB, matmul, dotS_eq]
  rw [addf_apply, Ideal.matmul_transposedRhs_apply, zero_acc, zero_add]
  refine congrArg (· + lc (ix2 b t)) (Finset.sum_congr rfl fun d _ => ?_)
  rw [truncf_apply, shapeCast_1ab_ab_apply, shapeCast_1ab_ab_apply]

/-- The new maximum. -/
def maxB (b : Fin 32) : EReal := max (mo (ix2 b (0 : Fin 1))) (Finset.univ.fold max ⊥ (scoreB kb q lc b))

theorem pay37_apply (b : Fin 32) : k0_pay37 (k0_pay35 kb) q lc mo (ix2 b (0 : Fin 1)) = maxB kb q lc mo b := by
  simp only [k0_pay37, maxB]
  rw [maximumf_apply, cast_col]
  refine congrArg (max (mo (ix2 b (0 : Fin 1))))
    ((Ideal.multiReduction_maximumf_single (k0_pay36 (k0_pay35 kb) q lc) _ reduces_S32x4096_S32 _ _ (ix1 b)).trans ?_)
  refine congrArg₂ (fun z f => Finset.fold max z f Finset.univ) ofBits_bot (funext fun t => ?_)
  show k0_pay36 (k0_pay35 kb) q lc (Shape.Reduces.lift _ (ix1 b) t) = _
  rw [← pay36_apply kb q lc b t]
  refine congrArg _ (funext fun a => Fin.ext ?_)
  match a with
  | ⟨0, _⟩ => rfl
  | ⟨1, _⟩ => rfl

theorem pay42_apply (b : Fin 32) : k0_pay42 (k0_pay35 kb) q lc mo (ix2 b (0 : Fin 1)) = maxB kb q lc mo b := by
  rw [k0_pay42, cast_same, pay37_apply]

theorem pay38_apply (b : Fin 32) (t : Fin 4096) :
    k0_pay38 (k0_pay35 kb) q lc mo (ix2 b t) = Ideal.exp (scoreB kb q lc b t - maxB kb q lc mo b) := by
  simp only [k0_pay38]
  rw [exp_at, subf_apply, pay36_apply, bcast_col (by decide), pay37_apply]

theorem pay39_apply (b : Fin 32) :
    k0_pay39 (k0_pay35 kb) q lc mo (ix2 b (0 : Fin 1)) = Ideal.exp (mo (ix2 b (0 : Fin 1)) - maxB kb q lc mo b) := by
  simp only [k0_pay39]
  rw [exp_at, subf_apply, pay37_apply]

theorem pay40_apply (b : Fin 32) :
    k0_pay1 (k0_pay40 (k0_pay35 kb) q lc mo lo) (ix2 b (0 : Fin 1))
      = lo (ix2 b (0 : Fin 1)) * Ideal.exp (mo (ix2 b (0 : Fin 1)) - maxB kb q lc mo b)
        + ∑ t : Fin 4096, Ideal.exp (scoreB kb q lc b t - maxB kb q lc mo b) := by
  rw [k0_pay1, cast_same]
  simp only [k0_pay40]
  rw [addf_apply, mulf_apply, pay39_apply, cast_col]
  refine congrArg (_ + ·) ((Ideal.multiReduction_add_single (k0_pay38 (k0_pay35 kb) q lc mo) _ reduces_S32x4096_S32 _ _ (ix1 b)).trans ?_)
  refine (Finset.sum_congr rfl fun t _ => ?_)
  rw [← pay38_apply kb q lc mo b t]
  refine congrArg _ (funext fun a => Fin.ext ?_)
  match a with
  | ⟨0, _⟩ => rfl
  | ⟨1, _⟩ => rfl

theorem pay41_apply (b : Fin 32) (d : Fin 128) :
    k0_pay41 (k0_pay35 kb) vb q lc mo oo (ix2 b d)
      = oo (ix2 b d) * Ideal.exp (mo (ix2 b (0 : Fin 1)) - maxB kb q lc mo b)
        + ∑ t : Fin 4096, Ideal.exp (scoreB kb q lc b t - maxB kb q lc mo b) * vb (ix3 (0 : Fin 1) t d) := by
  simp only [k0_pay41, matmul, dotO_eq]
  rw [cast_same, addf_apply, mulf_apply, bcast_col (by decide), pay39_apply, Ideal.matmul_plain_apply, zero_acc, zero_add]
  refine congrArg _ (Finset.sum_congr rfl fun t _ => ?_)
  rw [truncf_apply, truncf_apply, pay38_apply, shapeCast_1ab_ab_apply]

/-- The head a device joins from its sums and its partner's. -/
theorem hd_apply (m₁ l₁ m₂ l₂ : Vec Ideal S32x1 .f32) (o₁ o₂ : Vec Ideal S32x128 .f32) (b : Fin 32) (d : Fin 128) :
    k0_pay14 (k0_pay11 m₁ l₁ m₂ l₂) (k0_pay12 o₁ m₁ m₂) (k0_pay13 m₁ o₂ m₂) (ix3 (0 : Fin 1) b d)
      = Ideal.div
          (o₁ (ix2 b d) * Ideal.exp (m₁ (ix2 b (0 : Fin 1)) - max (m₁ (ix2 b (0 : Fin 1))) (m₂ (ix2 b (0 : Fin 1))))
            + o₂ (ix2 b d) * Ideal.exp (m₂ (ix2 b (0 : Fin 1)) - max (m₁ (ix2 b (0 : Fin 1))) (m₂ (ix2 b (0 : Fin 1)))))
          (l₁ (ix2 b (0 : Fin 1)) * Ideal.exp (m₁ (ix2 b (0 : Fin 1)) - max (m₁ (ix2 b (0 : Fin 1))) (m₂ (ix2 b (0 : Fin 1))))
            + l₂ (ix2 b (0 : Fin 1)) * Ideal.exp (m₂ (ix2 b (0 : Fin 1)) - max (m₁ (ix2 b (0 : Fin 1))) (m₂ (ix2 b (0 : Fin 1))))) := by
  simp only [k0_pay14, k0_pay11, k0_pay12, k0_pay13, k0_pay9, k0_pay10, k0_pay8]
  rw [shapeCast_ab_1ab_apply, truncf_apply, divf_apply, addf_apply, mulf_apply, mulf_apply, bcast_col (by decide),
    bcast_col (by decide), bcast_col (by decide)]
  rfl

theorem pay15_apply (g : Vec Ideal S1x32x128 .bf16) (b : Fin 32) (d : Fin 128) :
    k0_pay15 g (ix4 b (0 : Fin 1) (0 : Fin 1) d) = g (ix3 (0 : Fin 1) b d) := by
  simp only [k0_pay15]
  rw [shapeCast_apply _ _ _ (ix2 b d) (by rw [Shape.rowMajor_val_two, Shape.rowMajor_val_four]; simp), extf_apply,
    shapeCast_1ab_ab_apply]

theorem pay3_apply (x : Vec Ideal S32x16x128 .f32) (h : Fin 16) (b : Fin 32) (d : Fin 128) :
    k0_pay3 x (ix3 h b d) = x (ix3 b h d) * Ideal.ofBits .f32 0x3DB504F3#32 := by
  simp only [k0_pay3]
  rw [cast_same, transpose_apply _ _ _ _ (ix3 b h d) (fun a => by
    match a with
    | ⟨0, _⟩ => rfl
    | ⟨1, _⟩ => rfl
    | ⟨2, _⟩ => rfl), truncf_apply, mulf_apply, cast_same]
  rfl

end Cert.Run
end
-- ==== Proof.Value.Words.lean ====
/- The integer words both programs compute: a token's page by a floor division, and when two small words
   compare as their numbers do. -/
module

public import Idealize.ShloMosaic.Lib.ValueIdx
public import Idealize.ShloMosaic.Lib.WordArith
public import Idealize.ShloMosaic.Lib.StableHlo.Predicate

@[expose] public section

namespace Cert.Words

open Idealize.ShloMosaic Idealize.ShloMosaic.StableHlo.Predicate

theorem msb_small (t : ℕ) (ht : t < 2 ^ 31) : (BitVec.ofNat 32 t).msb = false := by
  rw [BitVec.msb_eq_decide]
  simp only [decide_eq_false_iff_not, not_le, BitVec.toNat_ofNat]
  omega

theorem not_corner (x : BitVec 32) : ¬ IntOp.SDivCorner x 32#32 := by
  rintro (h | ⟨-, h⟩) <;> exact absurd h (by decide)

theorem divsi_32 (u : ArithUnit) (t : ℕ) (ht : t < 2 ^ 31) : IntOp.divsi u (BitVec.ofNat 32 t) 32#32 = BitVec.ofNat 32 (t / 32) := by
  unfold IntOp.divsi
  rw [if_neg (not_corner _)]
  apply BitVec.eq_of_toNat_eq
  rw [BitVec.sdiv_eq, msb_small t ht, show (32#32 : BitVec 32).msb = false from rfl]
  simp only [BitVec.udiv_eq, BitVec.toNat_udiv]
  rw [show (32#32 : BitVec 32).toNat = 32 from rfl, BitVec.toNat_ofNat, BitVec.toNat_ofNat, Nat.mod_eq_of_lt (by omega),
    Nat.mod_eq_of_lt (by omega)]

theorem remsi_zero (u : ArithUnit) : IntOp.remsi u (BitVec.ofNat 32 0) 32#32 = 0#32 := by
  unfold IntOp.remsi
  rw [if_neg (not_corner _)]
  decide

/-- The floor division by 32 as it prints: a quotient, corrected by one where the signs differ and the remainder
    is not zero. Of a small nonnegative number it is the quotient. -/
theorem floor_32 (u : ArithUnit) (t : ℕ) (ht : t < 2 ^ 31) (sg : BitVec 1) (hsg : t ≠ 0 → sg = 0#1) :
    Scalar.select (IntOp.andi sg (IntOp.cmpi .ne (IntOp.remsi u (BitVec.ofNat 32 t) 32#32) 0#32))
      (IntOp.subi (IntOp.divsi u (BitVec.ofNat 32 t) 32#32) 1#32) (IntOp.divsi u (BitVec.ofNat 32 t) 32#32)
      = BitVec.ofNat 32 (t / 32) := by
  have h0 : IntOp.andi sg (IntOp.cmpi .ne (IntOp.remsi u (BitVec.ofNat 32 t) 32#32) 0#32) = 0#1 := by
    by_cases h : t = 0
    · subst h
      rw [remsi_zero]
      show sg &&& 0#1 = 0#1
      exact BitVec.and_zero
    · rw [hsg h]
      exact BitVec.zero_and
  rw [h0, ValueIdx.select_zero, divsi_32 u t ht]

/-- The sign of a positive small number, as the kernel prints it, is that of 32. -/
theorem sign_kernel (t : ℕ) (ht : t < 2 ^ 31) (h : t ≠ 0) :
    IntOp.cmpi .ne (IntOp.subi (BitVec.setWidth 32 (IntOp.cmpi .sgt (BitVec.ofNat 32 t) 0#32))
      (BitVec.setWidth 32 (IntOp.cmpi .slt (BitVec.ofNat 32 t) 0#32))) 1#32 = 0#1 := by
  have e1 : IntOp.cmpi .sgt (BitVec.ofNat 32 t) 0#32 = 1#1 := by
    show BitVec.ofBool (BitVec.slt 0#32 (BitVec.ofNat 32 t)) = 1#1
    rw [BitVec.slt_eq_decide, toInt_ofNat_small t ht, decide_eq_true (by simp; omega)]
    rfl
  have e2 : IntOp.cmpi .slt (BitVec.ofNat 32 t) 0#32 = 0#1 := by
    show BitVec.ofBool (BitVec.slt (BitVec.ofNat 32 t) 0#32) = 0#1
    rw [BitVec.slt_eq_decide, toInt_ofNat_small t ht, decide_eq_false (by simp)]
    rfl
  rw [e1, e2]
  decide

/-- A slot index is below a length, as words, exactly when it is as an integer. -/
theorem slt_iff (t : ℕ) (ht : t < 2 ^ 31) (x : BitVec 32) : IntOp.cmpi .slt (BitVec.ofNat 32 t) x = 1#1 ↔ (t : ℤ) < x.toInt := by
  show BitVec.ofBool (BitVec.slt (BitVec.ofNat 32 t) x) = 1#1 ↔ _
  rw [ofBool_eq_one_iff, BitVec.slt_eq_decide, toInt_ofNat_small t ht, decide_eq_true_iff]

end Cert.Words
end
-- ==== Proof.Value.Counts.lean ====
/- The kernel's table of slot counts: at a sequence and a token of the device's half, the logarithm of how many
   of the sequence's slots in use name the token's page. -/
module

public import proofs.«01_k».proof.Proof.Value.Block
public import proofs.«01_k».proof.Proof.Value.Words

@[expose] public section

noncomputable section

namespace Cert.Run

open Cert.KernelIdeal Cert.KernelIdeal.Gen Cert.Online
open Idealize.ShloMosaic Idealize.ShloMosaic.TcCoe Idealize.ShloMosaic.ValueIdx

/-- Slot `j` of sequence `b` is in use. -/
def Used (len : Vec Ideal S32x1 .i32) (b : Fin 32) (j : Fin 256) : Prop :=
  (j.val : ℤ) < (len (ix2 b (0 : Fin 1)) : BitVec 32).toInt
instance (len : Vec Ideal S32x1 .i32) (b : Fin 32) : DecidablePred (Used len b) := fun _ => inferInstanceAs (Decidable (_ < _))

/-- How many slots in use of sequence `b` name page `p`. -/
def cnt (bt : Vec Ideal S32x256 .i32) (len : Vec Ideal S32x1 .i32) (b : Fin 32) (p : ℕ) : ℕ :=
  (Finset.univ.filter fun j : Fin 256 => Used len b j ∧ (bt (ix2 b j) : BitVec 32) = BitVec.ofNat 32 p).card

theorem ofBits_one : Ideal.ofBits .f32 0x3F800000#32 = 1 := by
  simp [Ideal.ofBits, Ideal.ieee, -EReal.coe_mul]; norm_num

theorem mask_bot : (Named.named κ "mask" 0xF149F2CA#32 : Ideal .f32) = ⊥ :=
  IdealRules.named_const.ideal_named_scalar κ "mask" _ ⊥ rfl

/-- Which of the two halves of the pages a device holds. -/
theorem half_word (c : Dev nD) :
    Scalar.muli (Scalar.remsi (Scalar.divsi (Dev.word c) 16#32) 2#32) 256#32 = BitVec.ofNat 32 (c.val / 16 * 256) := by
  revert c; decide

/-- The sum of the bits of a column is how many are set. -/
theorem sum_bits {n : ℕ} (P : Fin n → BitVec 1) :
    ∑ j : Fin n, (Scalar.select (P j) (1 : EReal) 0) = (((Finset.univ.filter fun j => P j = 1#1).card : ℝ) : EReal) := by
  rw [Finset.card_eq_sum_ones, Nat.cast_sum, Finset.sum_filter, ← sum_coe]
  refine Finset.sum_congr rfl fun j _ => ?_
  by_cases h : P j = 1#1
  · rw [if_pos h, h, select_one]; simp
  · rw [if_neg h, eq_zero_of_ne_one h, select_zero, EReal.coe_zero]

/-- The count's logarithm, as the kernel selects it. -/
theorem select_log (n : ℕ) :
    Scalar.select (Ideal.cmp .ogt ((n : ℝ) : EReal) 0) (Ideal.log ((n : ℝ) : EReal)) (⊥ : EReal) = lg n := by
  unfold lg
  by_cases h : 0 < n
  · have hn : (0 : ℝ) < n := Nat.cast_pos.mpr h
    rw [if_pos h, Ideal.log_coe, if_neg (not_le.mpr hn)]
    have : Ideal.cmp .ogt ((n : ℝ) : EReal) 0 = 1#1 := by
      show BitVec.ofBool (decide ((0 : EReal) < ((n : ℝ) : EReal))) = 1#1
      rw [decide_eq_true (EReal.coe_pos.mpr hn)]; rfl
    rw [this, select_one]
  · obtain rfl : n = 0 := by omega
    rw [if_neg h]
    have : Ideal.cmp .ogt (((0 : ℕ) : ℝ) : EReal) 0 = 0#1 := by
      show BitVec.ofBool (decide ((0 : EReal) < (((0 : ℕ) : ℝ) : EReal))) = 0#1
      rw [decide_eq_false (by simp)]; rfl
    rw [this, select_zero]

theorem cmpf_at {s : Shape} (p : CmpFPredicate) (x y : FVec Ideal s .f32) (i : s.Idx) : cmpf p x y i = Ideal.cmp p (x i) (y i) := rfl
theorem log_at {s : Shape} (x : FVec Ideal s .f32) (i : s.Idx) : log x i = Ideal.log (x i) := rfl
theorem select_at {α : Type} {s : Shape} (c : IVec s 1) (x y : s.Idx → α) (i : s.Idx) : select c x y i = Scalar.select (c i) (x i) (y i) := rfl
theorem cmpi_at {s : Shape} {w : ℕ} (p : CmpIPredicate) (x y : IVec s w) (i : s.Idx) : cmpi p x y i = IntOp.cmpi p (x i) (y i) := rfl
theorem andi_at {s : Shape} {w : ℕ} (x y : IVec s w) (i : s.Idx) : andi x y i = IntOp.andi (x i) (y i) := rfl
theorem addi_at {s : Shape} {w : ℕ} (x y : IVec s w) (i : s.Idx) : addi x y i = IntOp.addi (x i) (y i) := rfl
theorem bcast_at {α : Type} {s : Shape} (x : α) (i : s.Idx) : broadcast s x i = x := rfl

theorem pay4_apply (c : Dev nD) (bt : Vec Ideal S32x256 .i32) (len : Vec Ideal S32x1 .i32) (b : Fin 32) (p : Fin 256) :
    k0_pay4 (F := Ideal) (Dev.word c) 2#32 16#32 bt len (ix2 b p) = lg (cnt bt len b (c.val / 16 * 256 + p.val)) := by
  unfold k0_pay4
  dsimp only
  rw [half_word, select_at, cmpf_at, log_at, bcast_at, bcast_at, mask_bot]
  have hsum : ∀ X : FVec Ideal S32x256x256 .f32,
      (∀ j : Fin 256, X (ix3 b j p) = Scalar.select (IntOp.andi (IntOp.cmpi .eq (bt (ix2 b j)) (BitVec.ofNat 32 (c.val / 16 * 256 + p.val)))
        (IntOp.cmpi .slt (BitVec.ofNat 32 j.val) (len (ix2 b (0 : Fin 1))))) (1 : EReal) 0) →
      multiReduction .add [1] S32x256 X 0x00000000#32 reduces_S32x256x256_S32x256 (.inl rfl) rfl (ix2 b p)
        = ((cnt bt len b (c.val / 16 * 256 + p.val) : ℝ) : EReal) := by
    intro X hX
    refine (Ideal.multiReduction_add_single X _ reduces_S32x256x256_S32x256 _ _ (ix2 b p)).trans ?_
    refine (Finset.sum_congr rfl fun j _ => ?_).trans ((sum_bits fun j : Fin 256 =>
      IntOp.andi (IntOp.cmpi .eq (bt (ix2 b j)) (BitVec.ofNat 32 (c.val / 16 * 256 + p.val)))
        (IntOp.cmpi .slt (BitVec.ofNat 32 j.val) (len (ix2 b (0 : Fin 1))))).trans ?_)
    · rw [← hX j]
      refine congrArg X (funext fun a => Fin.ext ?_)
      match a with
      | ⟨0, _⟩ => rfl
      | ⟨1, _⟩ => rfl
      | ⟨2, _⟩ => rfl
    · congr 3
      refine Finset.filter_congr fun j _ => ?_
      have hj : (j.val : ℕ) < 2 ^ 31 := by have := j.isLt; omega
      have e1 := StableHlo.Predicate.cmpi_eq_iff (a := (bt (ix2 b j) : BitVec 32)) (b := BitVec.ofNat 32 (c.val / 16 * 256 + p.val))
      have e2 := Words.slt_iff j.val hj (len (ix2 b (0 : Fin 1)))
      unfold Used
      rw [← e1, ← e2]
      generalize IntOp.cmpi .eq (bt (ix2 b j)) (BitVec.ofNat 32 (c.val / 16 * 256 + p.val)) = u
      generalize IntOp.cmpi .slt (BitVec.ofNat 32 j.val) (len (ix2 b (0 : Fin 1))) = w
      revert u w; decide
  rw [hsum]
  · exact (congrArg (fun z => Scalar.select (Ideal.cmp .ogt _ z) _ _) Ideal.ofBits_zero_f32).trans (select_log _)
  · intro j
    rw [select_at, andi_at, cmpi_at, cmpi_at, bcast_at, bcast_at, addi_at, bcast_at]
    rw [iota_single_apply, iota_single_apply]
    rw [broadcastTo_apply _ _ _ (ix3 b j (0 : Fin 1)) (fun a => by
        match a with
        | ⟨0, _⟩ => rfl
        | ⟨1, _⟩ => rfl
        | ⟨2, _⟩ => rfl),
      broadcastTo_apply _ _ _ (ix3 b (0 : Fin 1) (0 : Fin 1)) (fun a => by
        match a with
        | ⟨0, _⟩ => rfl
        | ⟨1, _⟩ => rfl
        | ⟨2, _⟩ => rfl),
      shapeCast_apply _ shapeCasts_S32x256_S32x256x1 _ (ix2 b j) (by rw [Shape.rowMajor_val_two, Shape.rowMajor_val_three]; simp),
      shapeCast_apply _ shapeCasts_S32x1_S32x1x1 _ (ix2 b (0 : Fin 1)) (by rw [Shape.rowMajor_val_two, Shape.rowMajor_val_three]; simp),
      cast_same, cast_same]
    have hb : IntOp.addi (BitVec.ofNat 32 (c.val / 16 * 256)) (BitVec.ofNat 32 p.val) = BitVec.ofNat 32 (c.val / 16 * 256 + p.val) :=
      (BitVec.ofNat_add _ _).symm
    rw [← hb]
    exact congrArg₂ (Scalar.select _) ofBits_one Ideal.ofBits_zero_f32

theorem pay7_at (i : S256x8192.Idx) : k0_pay7 i = 32#32 := rfl
theorem pay5_at (p : Fin 256) (t : Fin 8192) : k0_pay5 (ix2 p t) = IntOp.divsi .vector (BitVec.ofNat 32 t.val) 32#32 := by
  unfold k0_pay5
  exact congrArg (IntOp.divsi .vector · 32#32) (iota_single_apply _ _ _ _ _ _)
theorem pay6_at (p : Fin 256) (t : Fin 8192) : k0_pay6 (ix2 p t)
    = IntOp.cmpi .ne (IntOp.subi (BitVec.setWidth 32 (IntOp.cmpi .sgt (BitVec.ofNat 32 t.val) 0#32))
      (BitVec.setWidth 32 (IntOp.cmpi .slt (BitVec.ofNat 32 t.val) 0#32))) 1#32 := by
  unfold k0_pay6
  have e : iota .tc S256x8192 32 [1] iota_S256x8192_d1_w32 (ix2 p t) = BitVec.ofNat 32 t.val := iota_single_apply _ _ _ _ _ _
  show IntOp.cmpi .ne (IntOp.subi (BitVec.setWidth 32 (IntOp.cmpi .sgt (iota .tc S256x8192 32 [1] iota_S256x8192_d1_w32 (ix2 p t)) 0#32))
    (BitVec.setWidth 32 (IntOp.cmpi .slt (iota .tc S256x8192 32 [1] iota_S256x8192_d1_w32 (ix2 p t)) 0#32))) _ = _
  rw [e]
  rfl

/-- The expansion to tokens copies a page's entry to its 32 tokens. -/
theorem pay32_apply (lc : FVec Ideal S32x256 .f32) (b : Fin 32) (t : Fin 8192) :
    k0_pay32 lc (iota .tc S256x8192 32 [1] iota_S256x8192_d1_w32) k0_pay5 k0_pay6 k0_pay7 (ix2 b t)
      = lc (ix2 b (⟨t.val / 32, by have := t.isLt; omega⟩ : Fin 256)) := by
  have ht := t.isLt
  simp only [k0_pay32, matmul, dotC_eq]
  rw [cast_same, Ideal.matmul_plain_apply, zero_acc, zero_add]
  have hE : ∀ p : Fin 256, (select (cmpi .eq (select (andi k0_pay6 (cmpi .ne (remsi (iota .tc S256x8192 32 [1] iota_S256x8192_d1_w32) k0_pay7)
        (broadcast S256x8192 0#32))) (subi k0_pay5 (broadcast S256x8192 1#32)) k0_pay5) (iota .tc S256x8192 32 [0] iota_S256x8192_d0_w32))
        (broadcast S256x8192 (Scalar.ofBits .f32 0x3F800000#32 : Ideal .f32)) (broadcast S256x8192 (Scalar.ofBits .f32 0x00000000#32 : Ideal .f32))
        : FVec Ideal S256x8192 .f32) (ix2 p t) = if p.val = t.val / 32 then (1 : EReal) else 0 := by
    intro p
    have hp := p.isLt
    rw [select_at, cmpi_at, select_at, andi_at, cmpi_at]
    have e0 : iota .tc S256x8192 32 [1] iota_S256x8192_d1_w32 (ix2 p t) = BitVec.ofNat 32 t.val := iota_single_apply _ _ _ _ _ _
    have e1 : iota .tc S256x8192 32 [0] iota_S256x8192_d0_w32 (ix2 p t) = BitVec.ofNat 32 p.val := iota_single_apply _ _ _ _ _ _
    have e2 : remsi (iota .tc S256x8192 32 [1] iota_S256x8192_d1_w32) k0_pay7 (ix2 p t) = IntOp.remsi .vector (BitVec.ofNat 32 t.val) 32#32 :=
      congrArg (IntOp.remsi .vector · 32#32) e0
    have e3 : subi k0_pay5 (broadcast S256x8192 1#32) (ix2 p t) = IntOp.subi (IntOp.divsi .vector (BitVec.ofNat 32 t.val) 32#32) 1#32 :=
      congrArg (IntOp.subi · 1#32) (pay5_at p t)
    rw [e1, e2, e3, pay5_at, pay6_at, bcast_at, Words.floor_32 .vector t.val (by omega) _ (Words.sign_kernel t.val (by omega))]
    by_cases h : p.val = t.val / 32
    · rw [if_pos h, h, StableHlo.Predicate.cmpi_eq_iff.mpr rfl, select_one]
      exact ofBits_one
    · rw [if_neg h]
      have hne : ¬ IntOp.cmpi .eq (BitVec.ofNat 32 (t.val / 32)) (BitVec.ofNat 32 p.val) = 1#1 := by
        rw [StableHlo.Predicate.cmpi_eq_iff]
        intro he
        have := congrArg BitVec.toNat he
        simp only [BitVec.toNat_ofNat] at this
        omega
      rw [eq_zero_of_ne_one hne, select_zero]
      exact Ideal.ofBits_zero_f32
  refine (Finset.sum_congr rfl fun p _ => congrArg (lc (ix2 b p) * ·) (hE p)).trans ?_
  rw [Finset.sum_eq_single (⟨t.val / 32, by omega⟩ : Fin 256)]
  · rw [if_pos rfl, mul_one]
  · intro p _ hp
    rw [if_neg (fun h => hp (Fin.ext h)), mul_zero]
  · exact fun h => absurd (Finset.mem_univ _) h

variable (m : (ℓ : Loc nD τ sig) → Buf (Elt Ideal) ℓ)

theorem LC_apply (c : Dev nD) (b : Fin 32) (t : Fin 8192) :
    LC m c (ix2 b t) = lg (cnt (Bs m c) (Ls m c) b (c.val / 16 * 256 + t.val / 32)) := by
  unfold LC
  rw [pay32_apply, pay4_apply]

end Cert.Run
end
-- ==== Proof.Value.Array.lean ====
/- What the running sums of a device hold, column by column and entry by entry, and what the kernel reads of its
   keys, values, queries and counts. -/
module

public import proofs.«01_k».proof.Proof.Value.Block
public import proofs.«01_k».proof.Proof.Value.Counts
public import proofs.«01_k».proof.Proof.Run.Geo

@[expose] public section

noncomputable section

namespace Cert.Run

open Cert.KernelIdeal Cert.KernelIdeal.Gen
open Idealize.ShloMosaic Idealize.ShloMosaic.TcCoe Idealize.ShloMosaic.ValueIdx

/-! ## One rectangle of the sums -/

/-- A rectangle just written holds what was written. -/
theorem sums_hit (r : Rect S32x256) (P : Vec Ideal S32x256 .f32) (w : r.shape.Idx → Ideal .f32) :
    pM.view.readAt (Elt Ideal) r.toLoadRect ((pM.access r : View sig .tc _ _ _).write (Elt Ideal) P w Finset.univ) = w :=
  funext fun x => View.read_slice_write_emb (v := pM.view) r P w (Finset.mem_univ x)

/-- A rectangle that shares no column with the one written holds what it held. -/
theorem sums_miss (r r' : Rect S32x256) (P : Vec Ideal S32x256 .f32) (w : r'.shape.Idx → Ideal .f32)
    (h : ∀ x y, r.emb x ≠ r'.emb y) :
    pM.view.readAt (Elt Ideal) r.toLoadRect ((pM.access r' : View sig .tc _ _ _).write (Elt Ideal) P w Finset.univ)
      = pM.view.readAt (Elt Ideal) r.toLoadRect P :=
  funext fun x => View.read_slice_write_of_not_mem (v := pM.view) r' P w Finset.univ fun hm => by
    obtain ⟨y, -, hy⟩ := Finset.mem_map.mp hm
    exact h x y hy.symm

theorem col_ne {o o' n n' : ℕ} (h : ∀ a, (![0, o] : Fin 2 → ℕ) a + (![32, n] : Fin 2 → ℕ) a ≤ S32x256.size a)
    (h' : ∀ a, (![0, o'] : Fin 2 → ℕ) a + (![32, n'] : Fin 2 → ℕ) a ≤ S32x256.size a) (hd : o + n ≤ o' ∨ o' + n' ≤ o) (x y) :
    (Rect.unit (s := S32x256) ![0, o] ![32, n] h).emb x ≠ (Rect.unit (s := S32x256) ![0, o'] ![32, n'] h').emb y := by
  intro he
  have h1 := congrArg (fun z : S32x256.Idx => (z 1).val) he
  have hx : (x 1).val < n := (x 1).isLt
  have hy : (y 1).val < n' := (y 1).isLt
  change o + 1 * (x 1).val = o' + 1 * (y 1).val at h1
  omega

variable (m : (ℓ : Loc nD τ sig) → Buf (Elt Ideal) ℓ)

theorem O_M (P w) : rdO ((pM.access rMx : View sig .tc _ _ _).write (Elt Ideal) P w Finset.univ) = rdO (F := Ideal) P :=
  sums_miss rO rMx P w (col_ne _ _ (by decide))
theorem O_L (P w) : rdO ((pM.access rL : View sig .tc _ _ _).write (Elt Ideal) P w Finset.univ) = rdO (F := Ideal) P :=
  sums_miss rO rL P w (col_ne _ _ (by decide))
theorem M_L (P w) : rdM ((pM.access rL : View sig .tc _ _ _).write (Elt Ideal) P w Finset.univ) = rdM (F := Ideal) P :=
  sums_miss rMx rL P w (col_ne _ _ (by decide))
theorem L_M (P w) : rdL ((pM.access rMx : View sig .tc _ _ _).write (Elt Ideal) P w Finset.univ) = rdL (F := Ideal) P :=
  sums_miss rL rMx P w (col_ne _ _ (by decide))

theorem rdO_step (c : Dev nD) (i : grid0.Coords) (P : Vec Ideal S32x256 .f32) :
    rdO (stepP m c i P) = k0_pay41 (k0_pay35 (rdK m c i)) (rdV m c i) (rdQ m c) (rdC m c i) (rdM P) (rdO P) := by
  rw [stepP, O_L, stepM, O_M]; exact sums_hit rO _ _
theorem rdM_step (c : Dev nD) (i : grid0.Coords) (P : Vec Ideal S32x256 .f32) :
    rdM (stepP m c i P) = k0_pay42 (k0_pay35 (rdK m c i)) (rdQ m c) (rdC m c i) (rdM P) := by
  rw [stepP, M_L]; exact sums_hit rMx _ _
theorem rdL_step (c : Dev nD) (i : grid0.Coords) (P : Vec Ideal S32x256 .f32) :
    rdL (stepP m c i P) = k0_pay1 (k0_pay40 (k0_pay35 (rdK m c i)) (rdQ m c) (rdC m c i) (rdM P) (rdL P)) :=
  sums_hit rL _ _

/-! ## The sums at the start -/

theorem pay33_at (i : S32x256.Idx) : k0_pay33 (F := Ideal) i = 0 := by
  simp only [k0_pay33]
  rw [cast_same]
  exact Ideal.ofBits_zero_f32

theorem rdO_zero (b : Fin 32) (d : Fin 128) : rdO (F := Ideal) P0 (ix2 b d) = 0 := by
  rw [P0, O_M]; exact pay33_at (rO.emb (ix2 b d))
theorem rdL_zero (b : Fin 32) : rdL (F := Ideal) P0 (ix2 b (0 : Fin 1)) = 0 := by
  rw [P0, L_M]; exact pay33_at (rL.emb (ix2 b (0 : Fin 1)))
theorem rdM_zero (b : Fin 32) : ∃ μ : ℝ, rdM (F := Ideal) P0 (ix2 b (0 : Fin 1)) = (μ : EReal) := by
  have h : rdM (F := Ideal) P0 = k0_pay34 (F := Ideal) := by rw [P0]; exact sums_hit rMx _ _
  rw [h]
  have e : k0_pay34 (F := Ideal) (ix2 b (0 : Fin 1)) = Ideal.ofBits .f32 0xEFA18F08#32 := by
    simp only [k0_pay34]
    rw [cast_same]
    rfl
  rw [e]
  refine ⟨-(10587912 * 2 ^ 73 : ℝ), ?_⟩
  simp [Ideal.ofBits, Ideal.ieee, EReal.coe_neg, EReal.coe_mul, EReal.coe_pow]

/-! ## The blocks read -/

theorem rdK_at (c : Dev nD) (i : grid0.Coords) (s : Fin 2) (h : k0_off6 i = ![s.val, 0, 0]) (t : Fin 4096) (d : Fin 128) :
    rdK m c i (ix3 (0 : Fin 1) t d) = (m ((c : Thread nD τ).loc main_arg1) : Vec Ideal S8192x16x128 .f32)
      (ix3 (⟨s.val * 4096 + t.val, by omega⟩ : Fin 8192) (me c) d) := by
  refine (show rdK m c i (ix3 (0 : Fin 1) t d) = KB m c (ix3 s t d) from congrArg (KB m c) (funext fun a => Fin.ext ?_)).trans rfl
  match a with
  | ⟨0, _⟩ => show k0_off6 i 0 + 1 * 0 = s.val; rw [h]; simp
  | ⟨1, _⟩ => show k0_off6 i 1 + 1 * t.val = t.val; rw [h]; simp
  | ⟨2, _⟩ => show k0_off6 i 2 + 1 * d.val = d.val; rw [h]; simp

theorem rdV_at (c : Dev nD) (i : grid0.Coords) (s : Fin 2) (h : k0_off6 i = ![s.val, 0, 0]) (t : Fin 4096) (d : Fin 128) :
    rdV m c i (ix3 (0 : Fin 1) t d) = (m ((c : Thread nD τ).loc main_arg2) : Vec Ideal S8192x16x128 .f32)
      (ix3 (⟨s.val * 4096 + t.val, by omega⟩ : Fin 8192) (me c) d) := by
  refine (show rdV m c i (ix3 (0 : Fin 1) t d) = VB m c (ix3 s t d) from congrArg (VB m c) (funext fun a => Fin.ext ?_)).trans rfl
  match a with
  | ⟨0, _⟩ => show k0_off6 i 0 + 1 * 0 = s.val; rw [h]; simp
  | ⟨1, _⟩ => show k0_off6 i 1 + 1 * t.val = t.val; rw [h]; simp
  | ⟨2, _⟩ => show k0_off6 i 2 + 1 * d.val = d.val; rw [h]; simp

theorem off7_eq (c : Dev nD) : k0_off7 c = ![(me c).val, 0, 0] := by revert c; decide
theorem off8_i0 : k0_off8 i0 = ![0, (0 : Fin 2).val * 4096] := by decide
theorem off8_i1 : k0_off8 i1 = ![0, (1 : Fin 2).val * 4096] := by decide

theorem rdQ_at (c : Dev nD) (b : Fin 32) (d : Fin 128) :
    rdQ m c (ix3 (0 : Fin 1) b d) = Qs m c (ix3 b (me c) d) * Ideal.ofBits .f32 0x3DB504F3#32 := by
  refine (show rdQ m c (ix3 (0 : Fin 1) b d) = QT m c (ix3 (me c) b d) from congrArg (QT m c) (funext fun a => Fin.ext ?_)).trans
    (pay3_apply _ _ _ _)
  match a with
  | ⟨0, _⟩ => show k0_off7 c 0 + 1 * 0 = (me c).val; rw [off7_eq]; simp
  | ⟨1, _⟩ => show k0_off7 c 1 + 1 * b.val = b.val; rw [off7_eq]; simp
  | ⟨2, _⟩ => show k0_off7 c 2 + 1 * d.val = d.val; rw [off7_eq]; simp

theorem rdC_at (c : Dev nD) (i : grid0.Coords) (s : Fin 2) (h : k0_off8 i = ![0, s.val * 4096]) (b : Fin 32) (t : Fin 4096) :
    rdC m c i (ix2 b t) = Online.lg (cnt (Bs m c) (Ls m c) b (c.val / 16 * 256 + (s.val * 4096 + t.val) / 32)) := by
  refine (show rdC m c i (ix2 b t) = LC m c (ix2 b (⟨s.val * 4096 + t.val, by omega⟩ : Fin 8192)) from
    congrArg (LC m c) (funext fun a => Fin.ext ?_)).trans (LC_apply m c b _)
  match a with
  | ⟨0, _⟩ => show k0_off8 i 0 + 1 * b.val = b.val; rw [h]; simp
  | ⟨1, _⟩ => show k0_off8 i 1 + 1 * t.val = s.val * 4096 + t.val; rw [h]; simp

/-! ## The staged arguments -/

/-- A block read at the start of its array is the array. -/
theorem whole_block {α : Type} {s : Shape} (x : s.Idx → α) (e : s.Idx → s.Idx) (h : ∀ i a, (e i a).val = (i a).val) :
    (fun i => x (e i)) = x := funext fun i => congrArg x (funext fun a => Fin.ext (h i a))

theorem Qs_eq (c : Dev nD) : Qs m c = (m ((c : Thread nD τ).loc main_arg0) : Vec Ideal S32x16x128 .f32) :=
  whole_block (m ((c : Thread nD τ).loc main_arg0)) _ fun i a => by
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)
theorem Bs_eq (c : Dev nD) : Bs m c = (m ((c : Thread nD τ).loc main_arg3) : Vec Ideal S32x256 .i32) :=
  whole_block (m ((c : Thread nD τ).loc main_arg3)) _ fun i a => by
    match a with
    | ⟨0, _⟩ => exact (Nat.zero_add _).trans (Nat.one_mul _)
    | ⟨1, _⟩ => exact (Nat.zero_add _).trans (Nat.one_mul _)
theorem Ls_eq (c : Dev nD) : Ls m c = (m ((c : Thread nD τ).loc main_arg4) : Vec Ideal S32x1 .i32) :=
  whole_block (m ((c : Thread nD τ).loc main_arg4)) _ fun i a => by
    match a with
    | ⟨0, _⟩ => exact (Nat.zero_add _).trans (Nat.one_mul _)
    | ⟨1, _⟩ => exact (Nat.zero_add _).trans (Nat.one_mul _)

end Cert.Run
end
-- ==== Proof.Value.Sums.lean ====
/- The head a device ends with: the mean of the value rows over all tokens, each weighted by its count and the
   exponential of its score. -/
module

public import proofs.«01_k».proof.Proof.Value.Array

@[expose] public section

noncomputable section

namespace Cert.Run

open Cert.KernelIdeal Cert.KernelIdeal.Gen Cert.Online
open Idealize.ShloMosaic Idealize.ShloMosaic.TcCoe Idealize.ShloMosaic.ValueIdx

/-- The scale of the scores. -/
def kappa : ℝ := 11863283 * (2 ^ 27)⁻¹

theorem ofBits_kappa : Ideal.ofBits .f32 0x3DB504F3#32 = (kappa : EReal) := by
  simp [Ideal.ofBits, Ideal.ieee, kappa, EReal.coe_mul, EReal.coe_pow]

/-- Finite queries and keys, values, the page table and the lengths, over all tokens. -/
structure Data where
  q : Fin 32 → Fin 16 → Fin 128 → ℝ
  k : ℕ → Fin 16 → Fin 128 → ℝ
  v : ℕ → Fin 16 → Fin 128 → EReal
  bt : Vec Ideal S32x256 .i32
  len : Vec Ideal S32x1 .i32

namespace Data
variable (D : Data)
/-- The score of token `T` for sequence `b` at head `h`. -/
def sc (b : Fin 32) (h : Fin 16) (T : ℕ) : ℝ := ∑ d : Fin 128, D.q b h d * kappa * D.k T h d
/-- How often token `T` counts. -/
def n (b : Fin 32) (T : ℕ) : ℕ := cnt D.bt D.len b (T / 32)
end Data

/-- Token `t` of block `β`. -/
def tok (β : Fin 4) (t : Fin 4096) : ℕ := β.val * 4096 + t.val

/-- A device's arguments are its part of the data. -/
structure Holds (m : (ℓ : Loc nD τ sig) → Buf (Elt Ideal) ℓ) (D : Data) : Prop where
  q : ∀ c b h d, Qs m c (ix3 b h d) = (D.q b h d : EReal)
  k : ∀ (c : Dev nD) (r : Fin 8192) (h : Fin 16) (d : Fin 128),
    (m ((c : Thread nD τ).loc main_arg1) : Vec Ideal S8192x16x128 .f32) (ix3 r h d) = (D.k (c.val / 16 * 8192 + r.val) h d : EReal)
  v : ∀ (c : Dev nD) (r : Fin 8192) (h : Fin 16) (d : Fin 128),
    (m ((c : Thread nD τ).loc main_arg2) : Vec Ideal S8192x16x128 .f32) (ix3 r h d) = D.v (c.val / 16 * 8192 + r.val) h d
  bt : ∀ c, Bs m c = D.bt
  len : ∀ c, Ls m c = D.len

variable {m : (ℓ : Loc nD τ sig) → Buf (Elt Ideal) ℓ} {D : Data} (H : Holds m D)

/-- The block of tokens a device works on at step `s`. -/
def blkOf (c : Dev nD) (s : Fin 2) : Fin 4 := ⟨c.val / 16 * 2 + s.val, by have h := c.isLt; simp only [nD] at h; omega⟩

variable (D) in
/-- The running sums over the blocks of `S` at head `h`. -/
abbrev AccD (h : Fin 16) (b : Fin 32) (d : Fin 128) (S : Finset (Fin 4)) (P : Vec Ideal S32x256 .f32) : Prop :=
  Acc (fun β t => D.n b (tok β t)) (fun β t => D.sc b h (tok β t)) (fun β t => D.v (tok β t) h d) S
    (rdM P (ix2 b (0 : Fin 1))) (rdL P (ix2 b (0 : Fin 1))) (rdO P (ix2 b d))

include H

theorem score_eq (c : Dev nD) (i : grid0.Coords) (s : Fin 2) (h6 : k0_off6 i = ![s.val, 0, 0]) (h8 : k0_off8 i = ![0, s.val * 4096])
    (b : Fin 32) (t : Fin 4096) :
    scoreB (rdK m c i) (rdQ m c) (rdC m c i) b t
      = (D.sc b (me c) (tok (blkOf c s) t) : EReal) + lg (D.n b (tok (blkOf c s) t)) := by
  have eT : c.val / 16 * 8192 + (s.val * 4096 + t.val) = tok (blkOf c s) t := by simp only [tok, blkOf]; omega
  have eP : c.val / 16 * 256 + (s.val * 4096 + t.val) / 32 = tok (blkOf c s) t / 32 := by rw [← eT]; omega
  unfold scoreB
  rw [rdC_at m c i s h8, H.bt, H.len, eP]
  refine congrArg (· + _) ?_
  rw [Data.sc, ← sum_coe]
  refine Finset.sum_congr rfl fun d _ => ?_
  rw [rdQ_at, rdK_at m c i s h6, H.q, H.k, ofBits_kappa, ← EReal.coe_mul, ← EReal.coe_mul]
  rw [show c.val / 16 * 8192 + ((⟨s.val * 4096 + t.val, by omega⟩ : Fin 8192)).val = tok (blkOf c s) t from eT]

theorem acc_step (c : Dev nD) (i : grid0.Coords) (s : Fin 2) (h6 : k0_off6 i = ![s.val, 0, 0]) (h8 : k0_off8 i = ![0, s.val * 4096])
    (b : Fin 32) (d : Fin 128) {S : Finset (Fin 4)} {P : Vec Ideal S32x256 .f32} (hb : blkOf c s ∉ S) (h : AccD D (me c) b d S P) :
    AccD D (me c) b d (insert (blkOf c s) S) (stepP m c i P) := by
  have eT : ∀ t : Fin 4096, c.val / 16 * 8192 + (s.val * 4096 + t.val) = tok (blkOf c s) t := fun t => by simp only [tok, blkOf]; omega
  have hM : rdM (stepP m c i P) (ix2 b (0 : Fin 1)) = maxB (rdK m c i) (rdQ m c) (rdC m c i) (rdM P) b := by
    rw [rdM_step]; exact pay42_apply _ _ _ _ _
  refine Acc.step _ _ _ h hb (scoreB (rdK m c i) (rdQ m c) (rdC m c i) b) (score_eq H c i s h6 h8 b) hM ?_ ?_
  · rw [hM, rdL_step]; exact pay40_apply _ _ _ _ _ _
  · rw [hM, rdO_step]
    refine (pay41_apply _ _ _ _ _ _ _ _).trans ?_
    refine congrArg _ (Finset.sum_congr rfl fun t _ => congrArg _ ?_)
    rw [rdV_at m c i s h6, H.v]
    exact congrArg (fun T => D.v T (me c) d) (eT t)

theorem acc_final (c : Dev nD) (b : Fin 32) (d : Fin 128) :
    AccD D (me c) b d {blkOf c 1, blkOf c 0} (PF m c) := by
  obtain ⟨μ, hμ⟩ := rdM_zero b
  have h0 : AccD D (me c) b d ∅ P0 := by
    show Acc _ _ _ _ _ _ _
    rw [hμ, rdL_zero, rdO_zero]
    exact Acc.start _ _ _ μ
  have h1 := acc_step H c i0 0 off6_i0 off8_i0 b d (Finset.notMem_empty _) h0
  refine acc_step H c i1 1 off6_i1 off8_i1 b d ?_ h1
  intro hm
  have := congrArg Fin.val (Finset.mem_singleton.mp hm)
  simp [blkOf] at this

theorem hd_eq (c : Dev nD) (b : Fin 32) (d : Fin 128) (hn : ∃ β t, 0 < D.n b (tok β t)) (μ : ℝ) :
    hd m c (ix3 (0 : Fin 1) b d)
      = Online.mean (fun i : Fin 4 × Fin 4096 => D.n b (tok i.1 i.2)) (fun i => D.sc b (me c) (tok i.1 i.2))
          (fun i => D.v (tok i.1 i.2) (me c) d) μ := by
  have h1 := acc_final H c b d
  have h2 := acc_final H (xp c) b d
  rw [me_xp] at h2
  have hS : ∀ c : Dev nD, Disjoint ({blkOf c 1, blkOf c 0} : Finset (Fin 4)) {blkOf (xp c) 1, blkOf (xp c) 0}
      ∧ ({blkOf c 1, blkOf c 0} : Finset (Fin 4)) ∪ {blkOf (xp c) 1, blkOf (xp c) 0} = Finset.univ := by decide
  have h := Acc.join _ _ _ h1 h2 (hS c).1
  rw [(hS c).2] at h
  exact (hd_apply _ _ _ _ _ _ b d).trans (h.mean hn μ)

theorem OUT_eq (c : Dev nD) (b : Fin 32) (z : Fin 1) (h : Fin 16) (d : Fin 128) (hn : ∃ β t, 0 < D.n b (tok β t)) (μ : ℝ) :
    OUT m c (ix4 b z h d)
      = Online.mean (fun i : Fin 4 × Fin 4096 => D.n b (tok i.1 i.2)) (fun i => D.sc b h (tok i.1 i.2))
          (fun i => D.v (tok i.1 i.2) h d) μ := by
  have e : OUT m c (ix4 b z h d) = GB m c (ix3 h b d) := by
    refine (pay15_apply _ b d).trans (congrArg (GB m c) (funext fun a => Fin.ext ?_))
    match a with
    | ⟨0, _⟩ => exact (congrArg (h.val + ·) (Nat.one_mul 0)).trans (Nat.add_zero _)
    | ⟨1, _⟩ => exact (Nat.zero_add _).trans (Nat.one_mul _)
    | ⟨2, _⟩ => exact (Nat.zero_add _).trans (Nat.one_mul _)
  have hh := hd_eq H (mate c h) b d hn μ
  rw [me_mate] at hh
  exact e.trans hh

end Cert.Run
end
-- ==== Proof.Value.Slots.lean ====
/- A sum over the slots of a sequence, regrouped by the token each slot names. -/
module

public import proofs.«01_k».proof.Proof.Value.Sums

@[expose] public section

noncomputable section

namespace Cert.Run

open Cert.KernelIdeal Cert.KernelIdeal.Gen Cert.Online
open Idealize.ShloMosaic Idealize.ShloMosaic.TcCoe Idealize.ShloMosaic.ValueIdx

/-- The slot that position `k` of a sequence lies in. -/
def slot (k : ℕ) : Fin 256 := ⟨k / 32 % 256, Nat.mod_lt _ (by decide)⟩

/-- The table and the lengths are in range. -/
structure Data.Ok (D : Data) : Prop where
  bt : ∀ b j, (D.bt (ix2 b j) : BitVec 32).toNat < 512
  len : ∀ b, 1 ≤ (D.len (ix2 b (0 : Fin 1)) : BitVec 32).toInt

/-- The token at position `k` of sequence `b`. -/
def Data.at (D : Data) (b : Fin 32) (k : ℕ) : ℕ := (D.bt (ix2 b (slot k)) : BitVec 32).toNat * 32 + k % 32

variable {D : Data} (ok : D.Ok)
include ok

theorem sum_slots {M : Type*} [AddCommMonoid M] (b : Fin 32) (g : ℕ → M) :
    ∑ k : Fin 8192, (if Used D.len b (slot k.val) then g (D.at b k.val) else 0)
      = ∑ i : Fin 4 × Fin 4096, D.n b (tok i.1 i.2) • g (tok i.1 i.2) := by
  have e1 := sum_cut 256 32 fun k => if Used D.len b (slot k) then g (D.at b k) else 0
  have e2 := sum_cut 512 32 fun T => D.n b T • g T
  have e3 := sum_cut 4 4096 fun T => D.n b T • g T
  refine (e1.symm.trans ?_).trans (e2.trans e3.symm)
  rw [Fintype.sum_prod_type_right, Fintype.sum_prod_type_right]
  refine Finset.sum_congr rfl fun r _ => ?_
  have hs : ∀ j : Fin 256, slot (j.val * 32 + r.val) = j := fun j => Fin.ext (by simp only [slot]; omega)
  have hT : ∀ j : Fin 256, D.at b (j.val * 32 + r.val) = (D.bt (ix2 b j) : BitVec 32).toNat * 32 + r.val := fun j => by
    unfold Data.at; rw [hs]; congr 1; omega
  refine Eq.trans (Finset.sum_congr rfl fun j _ => ?_) ((sum_pages (fun j : Fin 256 => Used D.len b j)
    (fun j => (⟨(D.bt (ix2 b j) : BitVec 32).toNat, ok.bt b j⟩ : Fin 512)) fun p => g (p.val * 32 + r.val)).trans
    (Finset.sum_congr rfl fun p _ => ?_))
  · simp only [hs, hT]
  · refine congrArg (· • _) ?_
    have hp : (p.val * 32 + r.val) / 32 = p.val := by omega
    show _ = cnt D.bt D.len b ((p.val * 32 + r.val) / 32)
    rw [hp]
    unfold cnt
    refine congrArg Finset.card (Finset.filter_congr fun j _ => and_congr Iff.rfl ?_)
    have h512 := p.isLt
    constructor
    · intro h
      have := congrArg Fin.val h
      apply BitVec.eq_of_toNat_eq
      rw [BitVec.toNat_ofNat, Nat.mod_eq_of_lt (by omega)]
      exact this
    · intro h
      refine Fin.ext ?_
      show (D.bt (ix2 b j) : BitVec 32).toNat = p.val
      rw [h, BitVec.toNat_ofNat, Nat.mod_eq_of_lt (by omega)]

/-- Some token counts. -/
theorem some_token (b : Fin 32) : ∃ β t, 0 < D.n b (tok β t) := by
  by_contra hne
  have h := sum_slots ok b fun _ => 1
  rw [Finset.sum_eq_zero (s := (Finset.univ : Finset (Fin 4 × Fin 4096)))
    (fun i _ => by rw [Nat.eq_zero_of_not_pos fun hp => hne ⟨i.1, i.2, hp⟩, zero_smul])] at h
  have h0 := (Finset.sum_eq_zero_iff.mp h) (0 : Fin 8192) (Finset.mem_univ _)
  rw [if_pos] at h0
  · exact absurd h0 one_ne_zero
  · have := ok.len b
    show ((slot 0).val : ℤ) < _
    have e : (slot 0).val = 0 := rfl
    rw [e]
    exact lt_of_lt_of_le Int.zero_lt_one this

/-- The mean over the slots in use is the mean over the tokens by their counts. -/
theorem mean_slots (b : Fin 32) (h : Fin 16) (d : Fin 128) (μ : ℝ) :
    Online.mean (fun k : Fin 8192 => if Used D.len b (slot k.val) then 1 else 0) (fun k => D.sc b h (D.at b k.val))
        (fun k => D.v (D.at b k.val) h d) μ
      = Online.mean (fun i : Fin 4 × Fin 4096 => D.n b (tok i.1 i.2)) (fun i => D.sc b h (tok i.1 i.2))
          (fun i => D.v (tok i.1 i.2) h d) μ := by
  unfold Online.mean
  have eN : ∀ n : ℕ, ∀ s : ℝ, wt n s μ = n • wt 1 s μ := fun n s => by simp [wt, nsmul_eq_mul]
  refine congrArg₂ Ideal.div ?_ ?_
  · refine Eq.trans (Finset.sum_congr rfl fun k _ => ?_) ((sum_slots ok b fun T => ((wt 1 (D.sc b h T) μ : ℝ) : EReal) * D.v T h d).trans
      (Finset.sum_congr rfl fun i _ => ?_))
    · dsimp only
      by_cases hu : Used D.len b (slot k.val)
      · rw [if_pos hu, if_pos hu]
      · rw [if_neg hu, if_neg hu]; simp [wt]
    · rw [EReal.nsmul_eq_mul, ← mul_assoc]
      refine congrArg (· * _) ?_
      dsimp only
      rw [eN (D.n b (tok i.1 i.2)), nsmul_eq_mul, EReal.coe_mul]
      rfl
  · refine congrArg _ (Eq.trans (Finset.sum_congr rfl fun k _ => ?_) ((sum_slots ok b fun T => wt 1 (D.sc b h T) μ).trans
      (Finset.sum_congr rfl fun i _ => (eN _ _).symm)))
    dsimp only
    by_cases hu : Used D.len b (slot k.val)
    · rw [if_pos hu, if_pos hu]
    · rw [if_neg hu, if_neg hu]; simp [wt]

end Cert.Run
end
-- ==== Proof.Value.Paged.lean ====
/- The rows the reference gathers: position `k` of a sequence reads the row its page table names. -/
module

public import proofs.«01_k».proof.Proof.Value.Slots
public import proofs.«01_k».proof.Proof.Gen.ReferenceIdeal.Read

@[expose] public section

noncomputable section

namespace Cert.Run

open Cert.ReferenceIdeal Cert.ReferenceIdeal.Gen Cert.ReferenceIdeal.Read
open Idealize.ShloMosaic Idealize.ShloMosaic.TcCoe Idealize.ShloMosaic.ValueIdx

abbrev pageDims : GatherDims S512x32x16x128 S32x256x1 S32x256x32x16x128 :=
  gather_S512x32x16x128_S32x256x1_S32x256x32x16x128_234_0_n_n_0_2_13216128

/-- A gathered element is the operand's at the page named. -/
theorem gather_page (x : S512x32x16x128.Idx → EReal) (idx : S32x256x1.Idx → BitVec 32) (b : Fin 32) (j : Fin 256) (r : Fin 32)
    (h : Fin 16) (d : Fin 128) (w : BitVec 32) (hw : idx (ix3 b j (0 : Fin 1)) = w) (hlt : w.toNat < 512) :
    Host.gather pageDims x idx (ix5 b j r h d) = x (ix4 ⟨w.toNat, hlt⟩ r h d) := by
  unfold Host.gather
  congr 1
  funext a
  refine Fin.ext ?_
  show pageDims.start (ix5 b j r h d) idx a + pageDims.batchCoord (ix5 b j r h d) a + pageDims.offCoord (ix5 b j r h d) a = _
  rw [GatherDims.batchCoord_eq_zero _ _ _ List.not_mem_nil, Nat.add_zero]
  have ha : a = 0 ∨ a = 1 ∨ a = 2 ∨ a = 3 := by revert a; decide
  rcases ha with rfl | rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 4) ∈ pageDims.startIndexMap from List.mem_singleton.mpr rfl)]
    have hsi : pageDims.siIdx (ix5 b j r h d) ⟨List.idxOf (0 : Fin 4) pageDims.startIndexMap,
        List.idxOf_lt_length_iff.2 (List.mem_singleton.mpr rfl)⟩ = ix3 b j (0 : Fin 1) := by
      funext b; refine Fin.ext ?_
      match b with
      | ⟨0, _⟩ => rfl
      | ⟨1, _⟩ => rfl
      | ⟨2, _⟩ => rfl
    rw [hsi, hw]
    show min w.toInt.toNat 511 = w.toNat
    rw [BitVec.toInt_eq_toNat_of_lt (by omega), Int.toNat_natCast]
    omega
  · unfold GatherDims.start; rw [dif_neg (by decide), Nat.zero_add]; rfl
  · unfold GatherDims.start; rw [dif_neg (by decide), Nat.zero_add]; rfl
  · unfold GatherDims.start; rw [dif_neg (by decide), Nat.zero_add]; rfl

theorem page_word (w : BitVec 32) (h : w.toNat < 512) :
    Scalar.select (IntOp.cmpi .slt w 0#32) (IntOp.addi w 512#32) w = w := by
  have e : IntOp.cmpi .slt w 0#32 = 0#1 := by
    show BitVec.ofBool (BitVec.slt w 0#32) = 0#1
    rw [BitVec.slt_eq_decide, BitVec.toInt_eq_toNat_of_lt (by omega), decide_eq_false (by simp)]
    rfl
  rw [e, select_zero]

theorem idx_row (b : Fin 32) (k : Fin 8192) (h : Fin 16) (d : Fin 128) :
    idx_main_v9 (ix4 b k h d) = ix5 b (slot k.val) (⟨k.val % 32, Nat.mod_lt _ (by decide)⟩ : Fin 32) h d := by
  have hb := b.isLt; have hk := k.isLt; have hh := h.isLt; have hd := d.isLt
  refine funext fun a => Fin.ext ?_
  match a with
  | ⟨0, _⟩ => show (((b.val * 8192 + k.val) * 16 + h.val) * 128 + d.val) / 16777216 = b.val; omega
  | ⟨1, _⟩ => show (((b.val * 8192 + k.val) * 16 + h.val) * 128 + d.val) / 65536 % 256 = k.val / 32 % 256; omega
  | ⟨2, _⟩ => show (((b.val * 8192 + k.val) * 16 + h.val) * 128 + d.val) / 2048 % 32 = k.val % 32; omega
  | ⟨3, _⟩ => show (((b.val * 8192 + k.val) * 16 + h.val) * 128 + d.val) / 128 % 16 = h.val; omega
  | ⟨4, _⟩ => show (((b.val * 8192 + k.val) * 16 + h.val) * 128 + d.val) % 128 = d.val; omega

theorem idx_page (p : Fin 512) (r : Fin 32) (h : Fin 16) (d : Fin 128) (hr : p.val * 32 + r.val < 16384) :
    idx_main_v0 (ix4 p r h d) = ix3 (⟨p.val * 32 + r.val, hr⟩ : Fin 16384) h d := by
  have hh := h.isLt; have hd := d.isLt
  refine funext fun a => Fin.ext ?_
  match a with
  | ⟨0, _⟩ => show (((p.val * 32 + r.val) * 16 + h.val) * 128 + d.val) / 2048 = p.val * 32 + r.val; omega
  | ⟨1, _⟩ => show (((p.val * 32 + r.val) * 16 + h.val) * 128 + d.val) / 128 % 16 = h.val; omega
  | ⟨2, _⟩ => show (((p.val * 32 + r.val) * 16 + h.val) * 128 + d.val) % 128 = d.val; omega

variable (x : (⟨S16384x16x128, .f32⟩ : BufTy).Contents (Elt Ideal)) (bt : (⟨S32x256, .i32⟩ : BufTy).Contents (Elt Ideal))

theorem row_lt (hbt : ∀ b j, (bt (ix2 b j) : BitVec 32).toNat < 512) (b : Fin 32) (k : Fin 8192) :
    (bt (ix2 b (slot k.val)) : BitVec 32).toNat * 32 + k.val % 32 < 16384 := by
  have := hbt b (slot k.val); omega

theorem page_at (hbt : ∀ b j, (bt (ix2 b j) : BitVec 32).toNat < 512) (b : Fin 32) (j : Fin 256) :
    val_main_v7 (F := Ideal) bt (ix3 b j (0 : Fin 1)) = bt (ix2 b j) := by
  have e : idx_main_v7 (ix3 b j (0 : Fin 1)) = ix2 b j := funext fun a => Fin.ext (by
    match a with
    | ⟨0, _⟩ => rfl
    | ⟨1, _⟩ => rfl)
  rw [val_main_v7_apply, e, val_main_v6_apply, val_main_v3_apply, val_main_v5_apply, val_main_v2_apply, val_main_v4_apply]
  exact page_word _ (hbt b j)

theorem keys_at (hbt : ∀ b j, (bt (ix2 b j) : BitVec 32).toNat < 512) (b : Fin 32) (k : Fin 8192) (h : Fin 16) (d : Fin 128) :
    val_main_v9 (F := Ideal) x bt (ix4 b k h d) = x (ix3 ⟨_, row_lt bt hbt b k⟩ h d) := by
  rw [val_main_v9_apply, idx_row, val_main_v8]
  rw [gather_page (val_main_v0 (F := Ideal) x) (val_main_v7 (F := Ideal) bt) b (slot k.val) ⟨k.val % 32, Nat.mod_lt _ (by decide)⟩ h d
    (bt (ix2 b (slot k.val))) (page_at bt hbt b (slot k.val)) (hbt b (slot k.val)), val_main_v0_apply]
  exact congrArg x (idx_page ⟨_, hbt b (slot k.val)⟩ ⟨k.val % 32, Nat.mod_lt _ (by decide)⟩ h d (row_lt bt hbt b k))

theorem values_at (hbt : ∀ b j, (bt (ix2 b j) : BitVec 32).toNat < 512) (b : Fin 32) (k : Fin 8192) (h : Fin 16) (d : Fin 128) :
    val_main_v17 (F := Ideal) x bt (ix4 b k h d) = x (ix3 ⟨_, row_lt bt hbt b k⟩ h d) :=
  keys_at x bt hbt b k h d

end Cert.Run
end
-- ==== Proof.Value.Reference.lean ====
/- What the reference computes: the mean over the slots in use, weighted by the exponential of the scores. -/
module

public import proofs.«01_k».proof.Proof.Value.Paged
public import Idealize.ShloMosaic.Lib.KernelVsHost

@[expose] public section

noncomputable section

namespace Cert.Run

open Cert.ReferenceIdeal Cert.ReferenceIdeal.Gen Cert.ReferenceIdeal.Read Cert.Online
open Idealize.ShloMosaic Idealize.ShloMosaic.TcCoe Idealize.ShloMosaic.ValueIdx

/-- The sign of a positive small number, as the reference prints it, is that of 32. -/
theorem sign_host (t : ℕ) (ht : t < 2 ^ 31) (h : t ≠ 0) {s s' : Shape} (x : IVec s 32) (y : IVec s' 32) (i : s.Idx) (j : s'.Idx)
    (hx : x i = BitVec.ofNat 32 t) (hy : y j = 32#32) : IntOp.cmpi .ne (signi x i) (signi y j) = 0#1 := by
  have e : signi x i = 1#32 := by
    unfold signi
    rw [hx, if_neg, Words.msb_small t ht]
    · rfl
    · intro he
      have := congrArg BitVec.toNat he
      rw [BitVec.toNat_ofNat, show (0 : BitVec 32).toNat = 0 from rfl] at this
      omega
  have e' : signi y j = 1#32 := by unfold signi; rw [hy]; decide
  rw [e, e']
  decide

variable (x0 : (⟨S32x16x128, .f32⟩ : BufTy).Contents (Elt Ideal)) (x1 x2 : (⟨S16384x16x128, .f32⟩ : BufTy).Contents (Elt Ideal))
  (x3 : (⟨S32x256, .i32⟩ : BufTy).Contents (Elt Ideal)) (x4 : (⟨S32x1, .i32⟩ : BufTy).Contents (Elt Ideal))

/-- The slot number of a position. -/
theorem slot_word (b : Fin 32) (h : Fin 16) (k : Fin 8192) :
    val_main_v22 (F := Ideal) (ix3 b h k) = BitVec.ofNat 32 (k.val / 32) := by
  have hk := k.isLt
  rw [val_main_v22_apply, val_main_call0_v11_apply, val_main_call0_v13_apply, val_main_call0_v10_apply, val_main_call0_v8_apply,
    val_main_call0_v2_apply, val_main_call0_v9_apply, val_main_call0_v12_apply, val_main_call0_v1_apply, val_main_call0_v7_apply,
    val_main_call0_v6_apply, val_main_call0_v5_apply]
  exact Words.floor_32 .host k.val (by omega) _ fun h0 => sign_host k.val (by omega) h0 _ _ _ _ rfl rfl

/-- A position counts when its slot is in use. -/
theorem mask_at (b : Fin 32) (h : Fin 16) (k : Fin 8192) :
    val_main_v25 (F := Ideal) x4 (ix3 b h k) = 1#1 ↔ Used x4 b (slot k.val) := by
  have hk := k.isLt
  have e : idx_main_v23 (idx_main_v24 (ix3 b h k)) = ix2 b (0 : Fin 1) := funext fun a => Fin.ext (by
    match a with
    | ⟨0, _⟩ => rfl
    | ⟨1, _⟩ => rfl)
  rw [val_main_v25_apply, slot_word, val_main_v24_apply, val_main_v23_apply, e, Words.slt_iff _ (by omega)]
  have hs : (slot k.val).val = k.val / 32 := by simp only [slot]; omega
  unfold Used
  rw [hs]

/-- The reference's arguments are the data. -/
structure Args (D : Data) : Prop where
  q : ∀ b h d, x0 (ix3 b h d) = (D.q b h d : EReal)
  k : ∀ (r : Fin 16384) h d, x1 (ix3 r h d) = (D.k r.val h d : EReal)
  v : ∀ (r : Fin 16384) h d, x2 (ix3 r h d) = D.v r.val h d
  bt : x3 = D.bt
  len : x4 = D.len

variable {x0 x1 x2 x3 x4} {D : Data} (A : Args x0 x1 x2 x3 x4 D) (ok : D.Ok)
include A ok

theorem bt_lt (b j) : (x3 (ix2 b j) : BitVec 32).toNat < 512 := by rw [A.bt]; exact ok.bt b j

/-- The scaled score of a position. -/
theorem score_at (b : Fin 32) (h : Fin 16) (k : Fin 8192) :
    val_main_v20 (F := Ideal) x0 x1 x3 (ix3 b h k) = (D.sc b h (D.at b k.val) : EReal) := by
  rw [val_main_v20_apply, val_main_v18_apply, val_main_v19_apply]
  show (∑ d : Fin 128, x0 (lidx_main_v18 (ix3 b h k) d) * (val_main_v9 (F := Ideal) x1 x3) (ridx_main_v18 (ix3 b h k) d) : EReal)
    * Ideal.ofBits .f32 0x3DB504F3#32 = _
  have e : ∀ d : Fin 128, (x0 (lidx_main_v18 (ix3 b h k) d) : EReal) * (val_main_v9 (F := Ideal) x1 x3) (ridx_main_v18 (ix3 b h k) d)
      = ((D.q b h d * D.k (D.at b k.val) h d : ℝ) : EReal) := fun d => by
    have el : lidx_main_v18 (ix3 b h k) d = ix3 b h d := funext fun a => Fin.ext (by
      match a with
      | ⟨0, _⟩ => rfl
      | ⟨1, _⟩ => rfl
      | ⟨2, _⟩ => rfl)
    have er : ridx_main_v18 (ix3 b h k) d = ix4 b k h d := funext fun a => Fin.ext (by
      match a with
      | ⟨0, _⟩ => rfl
      | ⟨1, _⟩ => rfl
      | ⟨2, _⟩ => rfl
      | ⟨3, _⟩ => rfl)
    rw [el, er, keys_at x1 x3 (bt_lt A ok), A.q, A.k, ← EReal.coe_mul]
    simp only [A.bt]
    rfl
  rw [Finset.sum_congr rfl fun d _ => e d, sum_coe, ofBits_kappa, ← EReal.coe_mul, Finset.sum_mul]
  refine congrArg _ (Finset.sum_congr rfl fun d _ => ?_)
  ring

/-- How often a position counts. -/
def one (D : Data) (b : Fin 32) (k : Fin 8192) : ℕ := if Used D.len b (slot k.val) then 1 else 0

theorem masked_at (b : Fin 32) (h : Fin 16) (k : Fin 8192) :
    val_main_v26 (F := Ideal) x0 x1 x3 x4 (ix3 b h k) = (D.sc b h (D.at b k.val) : EReal) + lg (one D b k) := by
  rw [val_main_v26_apply, score_at A ok, val_main_call1_v1_apply]
  unfold one
  by_cases hu : Used D.len b (slot k.val)
  · rw [if_pos hu, (mask_at x4 b h k).mpr (by rw [A.len]; exact hu), select_one]
    simp [lg]
  · rw [if_neg hu, eq_zero_of_ne_one (b := val_main_v25 (F := Ideal) x4 (ix3 b h k)) fun he => hu (by rw [← A.len]; exact (mask_at x4 b h k).mp he), select_zero]
    refine Eq.trans ofBits_bot ?_
    simp [lg]

theorem max_fold (b : Fin 32) (h : Fin 16) : val_main_v27 (F := Ideal) x0 x1 x3 x4 (ix2 b h)
    = Finset.univ.fold max ⊥ fun k : Fin 8192 => (D.sc b h (D.at b k.val) : EReal) + lg (one D b k) := by
  have hred : S32x16x8192.Reduces [2] S32x16 := by decide
  have e1 : ∀ X : FVec Ideal S32x16x8192 .f32, Host.reduce FloatOps.maximumf X (constant (F := Ideal) S_ .f32 0xFF800000#32)
      reducesTo_S32x16x8192_S32x16_d2 h_S_ (ix2 b h) = Finset.univ.fold max (Ideal.ofBits .f32 0xFF800000#32) (X ∘ hred.lift (ix2 b h)) :=
    fun X => (congrFun (hostReduce_maximumf_eq_multiReduction X 0xFF800000#32 reducesTo_S32x16x8192_S32x16_d2 h_S_ hred (.inl rfl) rfl) _).trans
      (Ideal.multiReduction_maximumf_single X _ hred _ _ (ix2 b h))
  refine (e1 (val_main_v26 (F := Ideal) x0 x1 x3 x4)).trans ?_
  refine congrArg₂ (fun z f => Finset.fold max z f Finset.univ) ofBits_bot (funext fun k => ?_)
  show val_main_v26 (F := Ideal) x0 x1 x3 x4 (Shape.Reduces.lift _ (ix2 b h) k) = _
  rw [← masked_at A ok b h k]
  refine congrArg _ (funext fun a => Fin.ext ?_)
  match a with
  | ⟨0, _⟩ => rfl
  | ⟨1, _⟩ => rfl
  | ⟨2, _⟩ => rfl

omit A in
theorem one_zero (b : Fin 32) : one D b 0 = 1 := by
  unfold one
  rw [if_pos]
  have := ok.len b
  show ((slot 0).val : ℤ) < _
  rw [show (slot 0).val = 0 from rfl]
  exact lt_of_lt_of_le Int.zero_lt_one this

/-- The largest score is a number. -/
theorem max_real (b : Fin 32) (h : Fin 16) : ∃ μ : ℝ, val_main_v27 (F := Ideal) x0 x1 x3 x4 (ix2 b h) = (μ : EReal) := by
  rw [max_fold A ok]
  have h1 : Finset.univ.fold max ⊥ (fun k : Fin 8192 => (D.sc b h (D.at b k.val) : EReal) + lg (one D b k)) ≠ ⊤ := by
    refine max_fold_real _ _ (fun k _ => ?_) ⊥ bot_ne_top
    unfold one
    split <;> simp [lg]
  have h2 : Finset.univ.fold max ⊥ (fun k : Fin 8192 => (D.sc b h (D.at b k.val) : EReal) + lg (one D b k)) ≠ ⊥ := by
    refine ne_bot_of_le_ne_bot ?_ (le_fold_max _ _ ⊥ (Finset.mem_univ (0 : Fin 8192)))
    rw [one_zero ok]
    simp [lg]
  exact ⟨_, (EReal.coe_toReal h1 h2).symm⟩

section
variable {b : Fin 32} {h : Fin 16} {μ : ℝ} (hμ : val_main_v27 (F := Ideal) x0 x1 x3 x4 (ix2 b h) = (μ : EReal))
include hμ

/-- The weight of a position. -/
theorem weight_at (k : Fin 8192) :
    val_main_v31 (F := Ideal) x0 x1 x3 x4 (ix3 b h k) = ((wt (one D b k) (D.sc b h (D.at b k.val)) μ : ℝ) : EReal) := by
  have e : idx_main_v28 (idx_main_v29 (ix3 b h k)) = ix2 b h := funext fun a => Fin.ext (by
    match a with
    | ⟨0, _⟩ => rfl
    | ⟨1, _⟩ => rfl)
  rw [val_main_v31_apply, val_main_v30_apply, val_main_v29_apply, val_main_v28_apply, e, hμ, masked_at A ok]
  exact exp_lg _ _ _

theorem total_at : val_main_v32 (F := Ideal) x0 x1 x3 x4 (ix2 b h)
    = ((∑ k : Fin 8192, wt (one D b k) (D.sc b h (D.at b k.val)) μ : ℝ) : EReal) := by
  rw [val_main_v32_apply, val_main_cst_6_apply, ← sum_coe]
  refine (congrArg (· + _) Ideal.ofBits_zero_f32).trans ((zero_add _).trans (Finset.sum_congr rfl fun k _ => ?_))
  rw [← weight_at A ok hμ k]
  refine congrArg _ (funext fun a => Fin.ext ?_)
  match a with
  | ⟨0, _⟩ => rfl
  | ⟨1, _⟩ => rfl
  | ⟨2, _⟩ => rfl

theorem head_at (d : Fin 128) : val_main_v36 (F := Ideal) x0 x1 x2 x3 x4 (ix3 b h d)
    = Online.mean (one D b) (fun k => D.sc b h (D.at b k.val)) (fun k => D.v (D.at b k.val) h d) μ := by
  have hL : (∑ k : Fin 8192, wt (one D b k) (D.sc b h (D.at b k.val)) μ) ≠ 0 :=
    (sum_wt_pos _ _ μ ⟨0, by rw [one_zero ok]; exact Nat.one_pos⟩).ne'
  have hp : 0 ≤ 1 / ∑ k : Fin 8192, wt (one D b k) (D.sc b h (D.at b k.val)) μ :=
    one_div_nonneg.mpr (Finset.sum_nonneg fun k _ => wt_nonneg _ _ _)
  rw [val_main_v36_apply]
  unfold Online.mean
  rw [Ideal.div_coe hL, sum_mul_coe _ _ _ hp]
  refine Finset.sum_congr rfl fun k _ => ?_
  have el : lidx_main_v36 (ix3 b h d) k = ix3 b h k := funext fun a => Fin.ext (by
    match a with
    | ⟨0, _⟩ => rfl
    | ⟨1, _⟩ => rfl
    | ⟨2, _⟩ => rfl)
  have er : ridx_main_v36 (ix3 b h d) k = ix4 b k h d := funext fun a => Fin.ext (by
    match a with
    | ⟨0, _⟩ => rfl
    | ⟨1, _⟩ => rfl
    | ⟨2, _⟩ => rfl
    | ⟨3, _⟩ => rfl)
  have e : idx_main_v33 (idx_main_v34 (ix3 b h k)) = ix2 b h := funext fun a => Fin.ext (by
    match a with
    | ⟨0, _⟩ => rfl
    | ⟨1, _⟩ => rfl)
  have ev : val_main_v17 (F := Ideal) x2 x3 (ix4 b k h d) = D.v (D.at b k.val) h d := by
    rw [values_at x2 x3 (bt_lt A ok), A.v]
    simp only [A.bt]
    rfl
  rw [el, er, ev, val_main_v35_apply, val_main_v34_apply, val_main_v33_apply, e, weight_at A ok hμ, total_at A ok hμ]
  refine (congrArg (· * _) (Ideal.div_coe hL _)).trans ?_
  rw [mul_assoc, mul_comm (((1 / _ : ℝ) : EReal)), ← mul_assoc]

end

/-- The reference's result. -/
theorem reference_at (b : Fin 32) (z : Fin 1) (h : Fin 16) (d : Fin 128) :
    ∃ μ : ℝ, val_main_v37 (F := Ideal) x0 x1 x2 x3 x4 (ix4 b z h d)
      = Online.mean (fun i : Fin 4 × Fin 4096 => D.n b (tok i.1 i.2)) (fun i => D.sc b h (tok i.1 i.2))
          (fun i => D.v (tok i.1 i.2) h d) μ := by
  obtain ⟨μ, hμ⟩ := max_real A ok b h
  refine ⟨μ, ?_⟩
  have e : idx_main_v37 (ix4 b z h d) = ix3 b h d := funext fun a => Fin.ext (by
    match a with
    | ⟨0, _⟩ => rfl
    | ⟨1, _⟩ => rfl
    | ⟨2, _⟩ => rfl)
  rw [val_main_v37_apply, e, head_at A ok hμ]
  exact mean_slots ok b h d μ

end Cert.Run
end
-- ==== Proof.Value.Equation.lean ====
/- The equation: on every device the kernel's result is the reference's. -/
module

public import proofs.«01_k».proof.Proof.Frames
public import proofs.«01_k».proof.Proof.Value.Pre
public import proofs.«01_k».proof.Proof.Value.Reference

@[expose] public section

noncomputable section

namespace Cert.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The array of the result -/

section
variable (m : (ℓ : Loc nD τ sig) → Buf (Elt Ideal) ℓ)

/-- The last point of the grid. -/
abbrev endPt : Fin cfg0.N := ⟨1, by decide⟩

/-- The result's window writes its whole array once, after the last point. -/
theorem final_out (c : Dev nD) : finalA m c 3 = OUT m c := by
  refine (dats m 0 c).arrAt_eq_of_cover 3 (OUT m c) (fun t _ => ?_) fun i => ⟨endPt, ?_, ?_⟩
  · refine (whole_block (OUT m c) _ fun i a => ?_).symm
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)
    | ⟨3, _⟩ => exact (Nat.zero_add _).trans (Nat.one_mul _)
  · exact (flush0_3 _).mpr rfl
  · have h (j : S32x1x16x128.Idx) : (((cfg0.win 3).blk endPt).view.emb j : S32x1x16x128.Idx) = j :=
      funext fun a => Fin.ext (by
        match a with
        | ⟨0, _⟩ => exact (Nat.zero_add _).trans (Nat.one_mul _)
        | ⟨1, _⟩ => exact (Nat.zero_add _).trans (Nat.one_mul _)
        | ⟨2, _⟩ => exact (Nat.zero_add _).trans (Nat.one_mul _)
        | ⟨3, _⟩ => exact (Nat.zero_add _).trans (Nat.one_mul _))
    have hm := ((cfg0.win 3).blk endPt).view.emb_mem_set (i : S32x1x16x128.Idx)
    rw [h] at hm
    exact hm
end

/-! ## The data of the reference's arguments -/

section
variable (x0 : Vec Ideal S32x16x128 .f32) (x1 x2 : Vec Ideal ⟨3, ![16384, 16, 128]⟩ .f32) (x3 : Vec Ideal S32x256 .i32) (x4 : Vec Ideal S32x1 .i32)

/-- The data the five arguments hold. -/
def dataOf : Data where
  q b h d := (x0 (ix3 b h d)).toReal
  k T h d := if hT : T < 16384 then (x1 (ix3 (⟨T, hT⟩ : Fin 16384) h d)).toReal else 0
  v T h d := if hT : T < 16384 then x2 (ix3 (⟨T, hT⟩ : Fin 16384) h d) else 0
  bt := x3
  len := x4

variable {x0 x1 x2 x3 x4}

theorem args_of (hq : ∀ i, ∃ r : ℝ, x0 i = (r : EReal)) (hk : ∀ i, ∃ r : ℝ, x1 i = (r : EReal)) :
    Args x0 x1 x2 x3 x4 (dataOf x0 x1 x2 x3 x4) where
  q b h d := by
    obtain ⟨r, hr⟩ := hq (ix3 b h d)
    show x0 (ix3 b h d) = ((x0 (ix3 b h d)).toReal : EReal)
    rw [hr, EReal.toReal_coe]
  k r h d := by
    obtain ⟨y, hy⟩ := hk (ix3 r h d)
    show x1 (ix3 r h d) = ((if hT : r.val < 16384 then (x1 (ix3 (⟨r.val, hT⟩ : Fin 16384) h d)).toReal else 0 : ℝ) : EReal)
    rw [dif_pos r.isLt]
    show x1 (ix3 r h d) = ((x1 (ix3 r h d)).toReal : EReal)
    rw [hy, EReal.toReal_coe]
  v r h d := by
    show x2 (ix3 r h d) = if hT : r.val < 16384 then x2 (ix3 (⟨r.val, hT⟩ : Fin 16384) h d) else 0
    rw [dif_pos r.isLt]
  bt := rfl
  len := rfl
end

/-! ## The blocks of the devices -/

/-- A device's block of the keys or values starts at its half. -/
theorem block_row (c : Dev nD) : Layout.meshLin [2, 4, 4] c.val [0] = c.val / 16 := by
  revert c; decide

theorem block_at (x : Vec Ideal ⟨3, ![16384, 16, 128]⟩ .f32) (c : Dev nD) (r : Fin 8192) (h : Fin 16) (d : Fin 128)
    (hT : c.val / 16 * 8192 + r.val < 16384) :
    (Layout.blockN ⟨3, ![8192, 16, 128]⟩ ⟨3, ![16384, 16, 128]⟩ (Layout.meshBlock [2, 4, 4] ![[0], [], []] c) x) (ix3 r h d)
      = x (ix3 (⟨c.val / 16 * 8192 + r.val, hT⟩ : Fin 16384) h d) := by
  rw [Layout.blockN_apply]
  refine congrArg x (funext fun a => Fin.ext ?_)
  rw [Layout.TilesN.idx_val]
  match a with
  | ⟨0, _⟩ =>
    show Layout.meshLin [2, 4, 4] c.val [0] * 8192 + r.val = c.val / 16 * 8192 + r.val
    rw [block_row]
  | ⟨1, _⟩ => show 0 * 16 + h.val = h.val; omega
  | ⟨2, _⟩ => show 0 * 128 + d.val = d.val; omega

theorem row_total (c : Dev nD) (r : Fin 8192) : c.val / 16 * 8192 + r.val < 16384 := by
  have h1 : c.val < 32 := c.isLt
  have h2 := r.isLt
  omega

/-! ## The equation -/

section
variable (m : (ℓ : Loc nD τ sig) → Buf (Elt Ideal) ℓ)
variable (x0 : Vec Ideal S32x16x128 .f32) (x1 x2 : Vec Ideal ⟨3, ![16384, 16, 128]⟩ .f32) (x3 : Vec Ideal S32x256 .i32) (x4 : Vec Ideal S32x1 .i32)

/-- Every device holds its part of the whole arguments. -/
structure Shared : Prop where
  a0 : ∀ c : Dev nD, m ((c : Thread nD τ).loc main_arg0) = x0
  a1 : ∀ c : Dev nD, m ((c : Thread nD τ).loc main_arg1)
    = Layout.blockN ⟨3, ![8192, 16, 128]⟩ ⟨3, ![16384, 16, 128]⟩ (Layout.meshBlock [2, 4, 4] ![[0], [], []] c) x1
  a2 : ∀ c : Dev nD, m ((c : Thread nD τ).loc main_arg2)
    = Layout.blockN ⟨3, ![8192, 16, 128]⟩ ⟨3, ![16384, 16, 128]⟩ (Layout.meshBlock [2, 4, 4] ![[0], [], []] c) x2
  a3 : ∀ c : Dev nD, m ((c : Thread nD τ).loc main_arg3) = x3
  a4 : ∀ c : Dev nD, m ((c : Thread nD τ).loc main_arg4) = x4

variable {m x0 x1 x2 x3 x4}

theorem holds_of (S : Shared m x0 x1 x2 x3 x4) (A : Args x0 x1 x2 x3 x4 (dataOf x0 x1 x2 x3 x4)) :
    Holds m (dataOf x0 x1 x2 x3 x4) where
  q c b h d := by rw [Qs_eq, S.a0]; exact A.q b h d
  k c r h d := by rw [S.a1, block_at x1 c r h d (row_total c r)]; exact A.k ⟨_, row_total c r⟩ h d
  v c r h d := by rw [S.a2, block_at x2 c r h d (row_total c r)]; exact A.v ⟨_, row_total c r⟩ h d
  bt c := by rw [Bs_eq, S.a3]; rfl
  len c := by rw [Ls_eq, S.a4]; rfl

/-- The keys are finite when every device's are. -/
theorem keys_real (S : Shared m x0 x1 x2 x3 x4)
    (hk : ∀ (c : Dev nD) (i : S8192x16x128.Idx), ∃ r : ℝ, (m ((c : Thread nD τ).loc main_arg1) : Vec Ideal S8192x16x128 .f32) i = (r : EReal))
    (i : (⟨3, ![16384, 16, 128]⟩ : Shape).Idx) : ∃ r : ℝ, x1 i = (r : EReal) := by
  have h0 : (i 0).val < 16384 := (i 0).isLt
  have hc : (i 0).val / 8192 * 16 < 32 := by omega
  have hr : (i 0).val % 8192 < 8192 := by omega
  obtain ⟨r, e⟩ := hk (⟨(i 0).val / 8192 * 16, hc⟩ : Fin 32) (ix3 (⟨(i 0).val % 8192, hr⟩ : Fin 8192) (i 1) (i 2))
  refine ⟨r, ?_⟩
  rw [S.a1] at e
  refine Eq.trans ?_ ((block_at x1 _ _ _ _ (row_total _ _)).symm.trans e)
  refine congrArg x1 (funext fun a => Fin.ext ?_)
  match a with
  | ⟨0, _⟩ => show (i 0).val = (i 0).val / 8192 * 16 / 16 * 8192 + (i 0).val % 8192; omega
  | ⟨1, _⟩ => rfl
  | ⟨2, _⟩ => rfl

/-- Every device's result is the reference's. -/
theorem out_eq (S : Shared m x0 x1 x2 x3 x4)
    (T : ∀ c : Dev nD, Tame (m ((c : Thread nD τ).loc main_arg0)) (m ((c : Thread nD τ).loc main_arg1))
      (m ((c : Thread nD τ).loc main_arg3)) (m ((c : Thread nD τ).loc main_arg4))) (c : Dev nD) :
    OUT m c = (Cert.ReferenceIdeal.Read.val_main_v37 (F := Ideal) x0 x1 x2 x3 x4 : Vec Ideal S32x1x16x128 .f32) := by
  have A : Args x0 x1 x2 x3 x4 (dataOf x0 x1 x2 x3 x4) :=
    args_of (fun i => S.a0 c ▸ (T c).q i) (keys_real S fun c i => (T c).k i)
  have ok : (dataOf x0 x1 x2 x3 x4).Ok :=
    ⟨fun b j => by have h := (T c).bt (ix2 b j); rw [S.a3] at h; exact h,
     fun b => by have h := (T c).len (ix2 b (0 : Fin 1)); rw [S.a4] at h; exact h⟩
  funext i
  have hi : i = ix4 (i 0) (i 1) (i 2) (i 3) := funext fun a => by
    match a with
    | ⟨0, _⟩ => rfl
    | ⟨1, _⟩ => rfl
    | ⟨2, _⟩ => rfl
    | ⟨3, _⟩ => rfl
  obtain ⟨μ, hμ⟩ := reference_at (x0 := x0) (x1 := x1) (x2 := x2) (x3 := x3) (x4 := x4) A ok (i 0) (i 1) (i 2) (i 3)
  exact (congrArg (OUT m c) hi).trans ((OUT_eq (holds_of S A) c (i 0) (i 1) (i 2) (i 3) (some_token ok (i 0)) μ).trans
    (hμ.symm.trans (congrArg (Cert.ReferenceIdeal.Read.val_main_v37 (F := Ideal) x0 x1 x2 x3 x4) hi.symm)))
end

end Cert.Run
end
-- ==== Proof.lean ====
/- The certificate: the frames of the kernel, of its idealization and of the reference, the one rewrite of
   the idealization, and the equation of the two results. -/
module

public import proofs.«01_k».proof.Defs
public import proofs.«01_k».proof.Proof.Frames
public import proofs.«01_k».proof.Proof.Value.Equation

@[expose] public section

noncomputable section

namespace Cert.Proof

open Cert.Run
open Idealize.ShloMosaic Idealize.SL Idealize.SL.Sem

instance tame_kernel : Cert.Pre_tame_KernelIdeal.Facts := Cert.Pre_tame_KernelIdeal.facts
instance tame_reference : Cert.Pre_tame_ReferenceIdeal.Facts := Cert.Pre_tame_ReferenceIdeal.facts

/-- The kernel's run with its result read, and the reference's, end at one value. -/
theorem algebraic : Cert.algebraic_KernelIdeal_ReferenceIdeal_pre_tame_KernelIdeal := fun m g m' g' hp hm =>
  ⟨_, (θ_run Cert.KernelIdeal.defs _ _).mono
      (fun r h c => ⟨(((h.1 c).1 3).trans (final_out m c)).trans
          (out_eq ⟨fun c => (hm c).1, fun c => (hm c).2.1, fun c => (hm c).2.2.1, fun c => (hm c).2.2.2.1, fun c => (hm c).2.2.2.2⟩
            (fun c => tame_of_fn _ _ _ _ _ (fun a => a.elim0) (congrFun (hp c) _)) c),
        args_kept m h.1 c⟩)
      (run_main m g),
    (θ_run Cert.ReferenceIdeal.defs _ _).mono
      (fun r h => ⟨(h 0).1.trans (Cert.ReferenceIdeal.Read.val_main_v37_eq m' 0), (h 0).2⟩)
      (Cert.ReferenceIdeal.Value.run (F := Ideal) m' g')⟩

theorem claim : Cert.Claim := ⟨Cert.Kernel.Gen.facts, Cert.KernelIdeal.Gen.facts, Cert.ReferenceIdeal.Gen.facts,
  tame_kernel, tame_reference,
  frame_kernel, frame_ideal, fun m g _ => frame_ideal m g trivial, frame_reference,
  fun m g _ => frame_reference m g trivial, preserves, algebraic⟩

end Cert.Proof

end
